-- ==== Defs.lean ====
def Pre_Score (m : (ℓ : Loc Cert.Score.nD Cert.Score.τ Cert.Score.sig) → Buf (Elt Bits) ℓ) : Prop :=
  True

def Pre_ScoreIdeal (m : (ℓ : Loc Cert.ScoreIdeal.nD Cert.ScoreIdeal.τ Cert.ScoreIdeal.sig) → Buf (Elt Ideal) ℓ) : Prop :=
  True

def Pre_ScoreReferenceIdeal (m : (ℓ : Loc Cert.ScoreReferenceIdeal.nD Cert.ScoreReferenceIdeal.τ Cert.ScoreReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Dist (m : (ℓ : Loc Cert.Dist.nD Cert.Dist.τ Cert.Dist.sig) → Buf (Elt Bits) ℓ) : Prop :=
  True

def Pre_DistIdeal (m : (ℓ : Loc Cert.DistIdeal.nD Cert.DistIdeal.τ Cert.DistIdeal.sig) → Buf (Elt Ideal) ℓ) : Prop :=
  True

def Pre_DistReferenceIdeal (m : (ℓ : Loc Cert.DistReferenceIdeal.nD Cert.DistReferenceIdeal.τ Cert.DistReferenceIdeal.sig) → Buf (Elt Ideal) ℓ) : Prop :=
  True

def quiescent_Score [hScore : Cert.Score.Facts] : Prop :=
  ∀ (m : (ℓ : Loc Cert.Score.nD Cert.Score.τ Cert.Score.sig) → Buf (Elt Bits) ℓ) (g : Dev Cert.Score.nD → PrngReg), Pre_Score m →
    θ_run (Cert.Score.defs (F := Bits)) (onTc (τ := Cert.Score.τ) (Cert.Score.main (F := Bits))) ⟨m, fun _ => 0, g⟩ (fun r => (∀ c : Dev Cert.Score.nD,
      r.2.mem ((c.tc : Thread Cert.Score.nD Cert.Score.τ).loc Cert.Score.main_arg0) = m ((c.tc : Thread Cert.Score.nD Cert.Score.τ).loc Cert.Score.main_arg0)
      ∧ r.2.mem ((c.tc : Thread Cert.Score.nD Cert.Score.τ).loc Cert.Score.main_arg1) = m ((c.tc : Thread Cert.Score.nD Cert.Score.τ).loc Cert.Score.main_arg1)
      ∧ r.2.mem ((c.tc : Thread Cert.Score.nD Cert.Score.τ).loc Cert.Score.main_arg2) = m ((c.tc : Thread Cert.Score.nD Cert.Score.τ).loc Cert.Score.main_arg2)
      ∧ r.2.mem ((c.tc : Thread Cert.Score.nD Cert.Score.τ).loc Cert.Score.main_arg3) = m ((c.tc : Thread Cert.Score.nD Cert.Score.τ).loc Cert.Score.main_arg3))
      ∧ r.2.sem = fun _ => 0)

def quiescent_ScoreIdeal [hScoreIdeal : Cert.ScoreIdeal.Facts] : Prop :=
  ∀ (m : (ℓ : Loc Cert.ScoreIdeal.nD Cert.ScoreIdeal.τ Cert.ScoreIdeal.sig) → Buf (Elt Ideal) ℓ) (g : Dev Cert.ScoreIdeal.nD → PrngReg), Pre_ScoreIdeal m →
    θ_run (Cert.ScoreIdeal.defs (F := Ideal)) (onTc (τ := Cert.ScoreIdeal.τ) (Cert.ScoreIdeal.main (F := Ideal))) ⟨m, fun _ => 0, g⟩ (fun r => (∀ c : Dev Cert.ScoreIdeal.nD,
      r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
      ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1)
      ∧ r.2.mem ((c.tc : Thread Cert.ScoreIdeal.nD Cert.ScoreIdeal.τ).loc Cert.ScoreIdeal.main_arg2) = m ((c.tc : Thread Cert.ScoreIdeal.nD Cert.ScoreIdeal.τ).loc Cert.ScoreIdeal.main_arg2)
      ∧ r.2.mem ((c.tc : Thread Cert.ScoreIdeal.nD Cert.ScoreIdeal.τ).loc Cert.ScoreIdeal.main_arg3) = m ((c.tc : Thread Cert.ScoreIdeal.nD Cert.ScoreIdeal.τ).loc Cert.ScoreIdeal.main_arg3))
      ∧ r.2.sem = fun _ => 0)

def quiescent_ScoreReferenceIdeal [hScoreReferenceIdeal : Cert.ScoreReferenceIdeal.Facts] : Prop :=
  ∀ (m : (ℓ : Loc Cert.ScoreReferenceIdeal.nD Cert.ScoreReferenceIdeal.τ Cert.ScoreReferenceIdeal.sig) → Buf (Elt Ideal) ℓ) (g : Dev Cert.ScoreReferenceIdeal.nD → PrngReg), Pre_ScoreReferenceIdeal m →
    θ_run (Cert.ScoreReferenceIdeal.defs (F := Ideal)) (onTc (τ := Cert.ScoreReferenceIdeal.τ) (Cert.ScoreReferenceIdeal.main (F := Ideal))) ⟨m, fun _ => 0, g⟩ (fun r => (∀ c : Dev Cert.ScoreReferenceIdeal.nD,
      r.2.mem ((c.tc : Thread Cert.ScoreReferenceIdeal.nD Cert.ScoreReferenceIdeal.τ).loc Cert.ScoreReferenceIdeal.main_arg0) = m ((c.tc : Thread Cert.ScoreReferenceIdeal.nD Cert.ScoreReferenceIdeal.τ).loc Cert.ScoreReferenceIdeal.main_arg0)
      ∧ r.2.mem ((c.tc : Thread Cert.ScoreReferenceIdeal.nD Cert.ScoreReferenceIdeal.τ).loc Cert.ScoreReferenceIdeal.main_arg1) = m ((c.tc : Thread Cert.ScoreReferenceIdeal.nD Cert.ScoreReferenceIdeal.τ).loc Cert.ScoreReferenceIdeal.main_arg1)
      ∧ r.2.mem ((c.tc : Thread Cert.ScoreReferenceIdeal.nD Cert.ScoreReferenceIdeal.τ).loc Cert.ScoreReferenceIdeal.main_arg2) = m ((c.tc : Thread Cert.ScoreReferenceIdeal.nD Cert.ScoreReferenceIdeal.τ).loc Cert.ScoreReferenceIdeal.main_arg2)
      ∧ r.2.mem ((c.tc : Thread Cert.ScoreReferenceIdeal.nD Cert.ScoreReferenceIdeal.τ).loc Cert.ScoreReferenceIdeal.main_arg3) = m ((c.tc : Thread Cert.ScoreReferenceIdeal.nD Cert.ScoreReferenceIdeal.τ).loc Cert.ScoreReferenceIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0))
      ∧ r.2.sem = fun _ => 0)

def quiescent_Dist [hDist : Cert.Dist.Facts] : Prop :=
  ∀ (m : (ℓ : Loc Cert.Dist.nD Cert.Dist.τ Cert.Dist.sig) → Buf (Elt Bits) ℓ) (g : Dev Cert.Dist.nD → PrngReg), Pre_Dist m →
    θ_run (Cert.Dist.defs (F := Bits)) (onTc (τ := Cert.Dist.τ) (Cert.Dist.main (F := Bits))) ⟨m, fun _ => 0, g⟩ (fun r => (∀ c : Dev Cert.Dist.nD,
      r.2.mem ((c.tc : Thread Cert.Dist.nD Cert.Dist.τ).loc Cert.Dist.main_arg0) = m ((c.tc : Thread Cert.Dist.nD Cert.Dist.τ).loc Cert.Dist.main_arg0)
      ∧ r.2.mem ((c.tc : Thread Cert.Dist.nD Cert.Dist.τ).loc Cert.Dist.main_arg1) = m ((c.tc : Thread Cert.Dist.nD Cert.Dist.τ).loc Cert.Dist.main_arg1))
      ∧ r.2.sem = fun _ => 0)

def quiescent_DistIdeal [hDistIdeal : Cert.DistIdeal.Facts] : Prop :=
  ∀ (m : (ℓ : Loc Cert.DistIdeal.nD Cert.DistIdeal.τ Cert.DistIdeal.sig) → Buf (Elt Ideal) ℓ) (g : Dev Cert.DistIdeal.nD → PrngReg), Pre_DistIdeal m →
    θ_run (Cert.DistIdeal.defs (F := Ideal)) (onTc (τ := Cert.DistIdeal.τ) (Cert.DistIdeal.main (F := Ideal))) ⟨m, fun _ => 0, g⟩ (fun r => (∀ c : Dev Cert.DistIdeal.nD,
      r.2.mem ((c.tc : Thread Cert.DistIdeal.nD Cert.DistIdeal.τ).loc Cert.DistIdeal.main_arg0) = m ((c.tc : Thread Cert.DistIdeal.nD Cert.DistIdeal.τ).loc Cert.DistIdeal.main_arg0)
      ∧ r.2.mem ((c.tc : Thread Cert.DistIdeal.nD Cert.DistIdeal.τ).loc Cert.DistIdeal.main_arg1) = m ((c.tc : Thread Cert.DistIdeal.nD Cert.DistIdeal.τ).loc Cert.DistIdeal.main_arg1))
      ∧ r.2.sem = fun _ => 0)

def quiescent_DistReferenceIdeal [hDistReferenceIdeal : Cert.DistReferenceIdeal.Facts] : Prop :=
  ∀ (m : (ℓ : Loc Cert.DistReferenceIdeal.nD Cert.DistReferenceIdeal.τ Cert.DistReferenceIdeal.sig) → Buf (Elt Ideal) ℓ) (g : Dev Cert.DistReferenceIdeal.nD → PrngReg), Pre_DistReferenceIdeal m →
    θ_run (Cert.DistReferenceIdeal.defs (F := Ideal)) (onTc (τ := Cert.DistReferenceIdeal.τ) (Cert.DistReferenceIdeal.main (F := Ideal))) ⟨m, fun _ => 0, g⟩ (fun r => (∀ c : Dev Cert.DistReferenceIdeal.nD,
      r.2.mem ((c.tc : Thread Cert.DistReferenceIdeal.nD Cert.DistReferenceIdeal.τ).loc Cert.DistReferenceIdeal.main_arg0) = m ((c.tc : Thread Cert.DistReferenceIdeal.nD Cert.DistReferenceIdeal.τ).loc Cert.DistReferenceIdeal.main_arg0)
      ∧ r.2.mem ((c.tc : Thread Cert.DistReferenceIdeal.nD Cert.DistReferenceIdeal.τ).loc Cert.DistReferenceIdeal.main_arg1) = m ((c.tc : Thread Cert.DistReferenceIdeal.nD Cert.DistReferenceIdeal.τ).loc Cert.DistReferenceIdeal.main_arg1))
      ∧ r.2.sem = fun _ => 0)

def preserves_Score_ScoreIdeal : Prop :=
  True

def algebraic_ScoreIdeal_ScoreReferenceIdeal_on_real_docs [hScoreIdeal : Cert.ScoreIdeal.Facts] [hScoreReferenceIdeal : Cert.ScoreReferenceIdeal.Facts] [hOn_real_docs : Cert.On_real_docs.Facts] : Prop :=
  ∀ (m : (ℓ : Loc Cert.ScoreIdeal.nD Cert.ScoreIdeal.τ Cert.ScoreIdeal.sig) → Buf (Elt Ideal) ℓ) (g : Dev Cert.ScoreIdeal.nD → PrngReg)
    (m' : (ℓ : Loc Cert.ScoreReferenceIdeal.nD Cert.ScoreReferenceIdeal.τ Cert.ScoreReferenceIdeal.sig) → Buf (Elt Ideal) ℓ) (g' : Dev Cert.ScoreReferenceIdeal.nD → PrngReg), Pre_ScoreIdeal m →
    (∀ c : Dev Cert.ScoreIdeal.nD,
      m' ((c.tc : Thread Cert.ScoreReferenceIdeal.nD Cert.ScoreReferenceIdeal.τ).loc Cert.ScoreReferenceIdeal.main_arg0) = m ((c.tc : Thread Cert.ScoreIdeal.nD Cert.ScoreIdeal.τ).loc Cert.ScoreIdeal.main_arg0)
      ∧ m' ((c.tc : Thread Cert.ScoreReferenceIdeal.nD Cert.ScoreReferenceIdeal.τ).loc Cert.ScoreReferenceIdeal.main_arg1) = m ((c.tc : Thread Cert.ScoreIdeal.nD Cert.ScoreIdeal.τ).loc Cert.ScoreIdeal.main_arg1)
      ∧ m' ((c.tc : Thread Cert.ScoreReferenceIdeal.nD Cert.ScoreReferenceIdeal.τ).loc Cert.ScoreReferenceIdeal.main_arg2) = m ((c.tc : Thread Cert.ScoreIdeal.nD Cert.ScoreIdeal.τ).loc Cert.ScoreIdeal.main_arg2)
      ∧ m' ((c.tc : Thread Cert.ScoreReferenceIdeal.nD Cert.ScoreReferenceIdeal.τ).loc Cert.ScoreReferenceIdeal.main_arg3) = m ((c.tc : Thread Cert.ScoreIdeal.nD Cert.ScoreIdeal.τ).loc Cert.ScoreIdeal.main_arg3)) →
    ∃ (v0 : (c : Dev Cert.ScoreIdeal.nD) → Buf (Elt Ideal) ((c.tc : Thread Cert.ScoreIdeal.nD Cert.ScoreIdeal.τ).loc Cert.ScoreIdeal.main_v0)),
      θ_run (Cert.ScoreIdeal.defs (F := Ideal)) (onTc (τ := Cert.ScoreIdeal.τ) (Cert.ScoreIdeal.main (F := Ideal))) ⟨m, fun _ => 0, g⟩ (fun r => ∀ c : Dev Cert.ScoreIdeal.nD,
          (∀ i : (⟨4, ![128, 1176, 8, 128]⟩ : Shape).Idx, (Cert.On_real_docs.fn (F := Ideal) (m ((c.tc : Thread Cert.ScoreIdeal.nD Cert.ScoreIdeal.τ).loc Cert.ScoreIdeal.main_arg0)) (m ((c.tc : Thread Cert.ScoreIdeal.nD Cert.ScoreIdeal.τ).loc Cert.ScoreIdeal.main_arg1)) (m ((c.tc : Thread Cert.ScoreIdeal.nD Cert.ScoreIdeal.τ).loc Cert.ScoreIdeal.main_arg2)) (m ((c.tc : Thread Cert.ScoreIdeal.nD Cert.ScoreIdeal.τ).loc Cert.ScoreIdeal.main_arg3))) i = 1#1 → r.2.mem ((c.tc : Thread Cert.ScoreIdeal.nD Cert.ScoreIdeal.τ).loc Cert.ScoreIdeal.main_v0) i = v0 c i)
          ∧ r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
          ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1)
          ∧ r.2.mem ((c.tc : Thread Cert.ScoreIdeal.nD Cert.ScoreIdeal.τ).loc Cert.ScoreIdeal.main_arg2) = m ((c.tc : Thread Cert.ScoreIdeal.nD Cert.ScoreIdeal.τ).loc Cert.ScoreIdeal.main_arg2)
          ∧ r.2.mem ((c.tc : Thread Cert.ScoreIdeal.nD Cert.ScoreIdeal.τ).loc Cert.ScoreIdeal.main_arg3) = m ((c.tc : Thread Cert.ScoreIdeal.nD Cert.ScoreIdeal.τ).loc Cert.ScoreIdeal.main_arg3))
      ∧ θ_run (Cert.ScoreReferenceIdeal.defs (F := Ideal)) (onTc (τ := Cert.ScoreReferenceIdeal.τ) (Cert.ScoreReferenceIdeal.main (F := Ideal))) ⟨m', fun _ => 0, g'⟩ (fun r => ∀ c : Dev Cert.ScoreReferenceIdeal.nD,
          (∀ i : (⟨4, ![128, 1176, 8, 128]⟩ : Shape).Idx, (Cert.On_real_docs.fn (F := Ideal) (m ((c.tc : Thread Cert.ScoreIdeal.nD Cert.ScoreIdeal.τ).loc Cert.ScoreIdeal.main_arg0)) (m ((c.tc : Thread Cert.ScoreIdeal.nD Cert.ScoreIdeal.τ).loc Cert.ScoreIdeal.main_arg1)) (m ((c.tc : Thread Cert.ScoreIdeal.nD Cert.ScoreIdeal.τ).loc Cert.ScoreIdeal.main_arg2)) (m ((c.tc : Thread Cert.ScoreIdeal.nD Cert.ScoreIdeal.τ).loc Cert.ScoreIdeal.main_arg3))) i = 1#1 → r.2.mem ((c.tc : Thread Cert.ScoreReferenceIdeal.nD Cert.ScoreReferenceIdeal.τ).loc Cert.ScoreReferenceIdeal.main_v3) i = v0 c i)
          ∧ r.2.mem ((c.tc : Thread Cert.ScoreReferenceIdeal.nD Cert.ScoreReferenceIdeal.τ).loc Cert.ScoreReferenceIdeal.main_arg0) = m' ((c.tc : Thread Cert.ScoreReferenceIdeal.nD Cert.ScoreReferenceIdeal.τ).loc Cert.ScoreReferenceIdeal.main_arg0)
          ∧ r.2.mem ((c.tc : Thread Cert.ScoreReferenceIdeal.nD Cert.ScoreReferenceIdeal.τ).loc Cert.ScoreReferenceIdeal.main_arg1) = m' ((c.tc : Thread Cert.ScoreReferenceIdeal.nD Cert.ScoreReferenceIdeal.τ).loc Cert.ScoreReferenceIdeal.main_arg1)
          ∧ r.2.mem ((c.tc : Thread Cert.ScoreReferenceIdeal.nD Cert.ScoreReferenceIdeal.τ).loc Cert.ScoreReferenceIdeal.main_arg2) = m' ((c.tc : Thread Cert.ScoreReferenceIdeal.nD Cert.ScoreReferenceIdeal.τ).loc Cert.ScoreReferenceIdeal.main_arg2)
          ∧ r.2.mem ((c.tc : Thread Cert.ScoreReferenceIdeal.nD Cert.ScoreReferenceIdeal.τ).loc Cert.ScoreReferenceIdeal.main_arg3) = m' ((c.tc : Thread Cert.ScoreReferenceIdeal.nD Cert.ScoreReferenceIdeal.τ).loc Cert.ScoreReferenceIdeal.main_arg3))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)) (v3 : (c : Dev Cert.PrepIdeal.nD) → Buf (Elt Ideal) ((c.tc : Thread Cert.PrepIdeal.nD Cert.PrepIdeal.τ).loc Cert.PrepIdeal.main_v0_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_v0_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v0_0) = v0 c
          ∧ r.2.mem ((c.tc : Thread Cert.PrepReferenceIdeal.nD Cert.PrepReferenceIdeal.τ).loc Cert.PrepReferenceIdeal.main_v0_1) = v1 c
          ∧ r.2.mem ((c.tc : Thread Cert.PrepReferenceIdeal.nD Cert.PrepReferenceIdeal.τ).loc Cert.PrepReferenceIdeal.main_v15) = v2 c
          ∧ r.2.mem ((c.tc : Thread Cert.PrepReferenceIdeal.nD Cert.PrepReferenceIdeal.τ).loc Cert.PrepReferenceIdeal.main_v14) = v3 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0))

def preserves_Dist_DistIdeal : Prop :=
  True

def algebraic_DistIdeal_DistReferenceIdeal [hDistIdeal : Cert.DistIdeal.Facts] [hDistReferenceIdeal : Cert.DistReferenceIdeal.Facts] : Prop :=
  ∀ (m : (ℓ : Loc Cert.DistIdeal.nD Cert.DistIdeal.τ Cert.DistIdeal.sig) → Buf (Elt Ideal) ℓ) (g : Dev Cert.DistIdeal.nD → PrngReg)
    (m' : (ℓ : Loc Cert.DistReferenceIdeal.nD Cert.DistReferenceIdeal.τ Cert.DistReferenceIdeal.sig) → Buf (Elt Ideal) ℓ) (g' : Dev Cert.DistReferenceIdeal.nD → PrngReg), Pre_DistIdeal m →
    (∀ c : Dev Cert.DistIdeal.nD,
      m' ((c.tc : Thread Cert.DistReferenceIdeal.nD Cert.DistReferenceIdeal.τ).loc Cert.DistReferenceIdeal.main_arg0) = m ((c.tc : Thread Cert.DistIdeal.nD Cert.DistIdeal.τ).loc Cert.DistIdeal.main_arg0)
      ∧ m' ((c.tc : Thread Cert.DistReferenceIdeal.nD Cert.DistReferenceIdeal.τ).loc Cert.DistReferenceIdeal.main_arg1) = m ((c.tc : Thread Cert.DistIdeal.nD Cert.DistIdeal.τ).loc Cert.DistIdeal.main_arg1)) →
    ∃ (v0 : (c : Dev Cert.DistIdeal.nD) → Buf (Elt Ideal) ((c.tc : Thread Cert.DistIdeal.nD Cert.DistIdeal.τ).loc Cert.DistIdeal.main_v7_0)) (v1 : (c : Dev Cert.DistIdeal.nD) → Buf (Elt Ideal) ((c.tc : Thread Cert.DistIdeal.nD Cert.DistIdeal.τ).loc Cert.DistIdeal.main_v7_1)),
      θ_run (Cert.DistIdeal.defs (F := Ideal)) (onTc (τ := Cert.DistIdeal.τ) (Cert.DistIdeal.main (F := Ideal))) ⟨m, fun _ => 0, g⟩ (fun r => ∀ c : Dev Cert.DistIdeal.nD,
          r.2.mem ((c.tc : Thread Cert.DistIdeal.nD Cert.DistIdeal.τ).loc Cert.DistIdeal.main_v7_0) = v0 c
          ∧ r.2.mem ((c.tc : Thread Cert.DistIdeal.nD Cert.DistIdeal.τ).loc Cert.DistIdeal.main_v7_1) = v1 c
          ∧ r.2.mem ((c.tc : Thread Cert.DistIdeal.nD Cert.DistIdeal.τ).loc Cert.DistIdeal.main_arg0) = m ((c.tc : Thread Cert.DistIdeal.nD Cert.DistIdeal.τ).loc Cert.DistIdeal.main_arg0)
          ∧ r.2.mem ((c.tc : Thread Cert.DistIdeal.nD Cert.DistIdeal.τ).loc Cert.DistIdeal.main_arg1) = m ((c.tc : Thread Cert.DistIdeal.nD Cert.DistIdeal.τ).loc Cert.DistIdeal.main_arg1))
      ∧ θ_run (Cert.DistReferenceIdeal.defs (F := Ideal)) (onTc (τ := Cert.DistReferenceIdeal.τ) (Cert.DistReferenceIdeal.main (F := Ideal))) ⟨m', fun _ => 0, g'⟩ (fun r => ∀ c : Dev Cert.DistReferenceIdeal.nD,
          r.2.mem ((c.tc : Thread Cert.DistReferenceIdeal.nD Cert.DistReferenceIdeal.τ).loc Cert.DistReferenceIdeal.main_v41) = v0 c
          ∧ r.2.mem ((c.tc : Thread Cert.DistReferenceIdeal.nD Cert.DistReferenceIdeal.τ).loc Cert.DistReferenceIdeal.main_v42) = v1 c
          ∧ r.2.mem ((c.tc : Thread Cert.DistReferenceIdeal.nD Cert.DistReferenceIdeal.τ).loc Cert.DistReferenceIdeal.main_arg0) = m' ((c.tc : Thread Cert.DistReferenceIdeal.nD Cert.DistReferenceIdeal.τ).loc Cert.DistReferenceIdeal.main_arg0)
          ∧ r.2.mem ((c.tc : Thread Cert.DistReferenceIdeal.nD Cert.DistReferenceIdeal.τ).loc Cert.DistReferenceIdeal.main_arg1) = m' ((c.tc : Thread Cert.DistReferenceIdeal.nD Cert.DistReferenceIdeal.τ).loc Cert.DistReferenceIdeal.main_arg1))

def Claim : Prop :=
  ∃ (hScore : Cert.Score.Facts) (hScoreIdeal : Cert.ScoreIdeal.Facts) (hScoreReferenceIdeal : Cert.ScoreReferenceIdeal.Facts) (hPrep : Cert.Prep.Facts) (hPrepIdeal : Cert.PrepIdeal.Facts) (hPrepReferenceIdeal : Cert.PrepReferenceIdeal.Facts) (hDist : Cert.Dist.Facts) (hDistIdeal : Cert.DistIdeal.Facts) (hDistReferenceIdeal : Cert.DistReferenceIdeal.Facts) (hOn_real_docs : Cert.On_real_docs.Facts),
    quiescent_Score (hScore := hScore)
    ∧ quiescent_ScoreIdeal (hScoreIdeal := hScoreIdeal)
    ∧ quiescent_ScoreReferenceIdeal (hScoreReferenceIdeal := hScoreReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ quiescent_Dist (hDist := hDist)
    ∧ quiescent_DistIdeal (hDistIdeal := hDistIdeal)
    ∧ quiescent_DistReferenceIdeal (hDistReferenceIdeal := hDistReferenceIdeal)
    ∧ preserves_Score_ScoreIdeal
    ∧ algebraic_ScoreIdeal_ScoreReferenceIdeal_on_real_docs (hScoreIdeal := hScoreIdeal) (hScoreReferenceIdeal := hScoreReferenceIdeal) (hOn_real_docs := hOn_real_docs)
    ∧ preserves_Prep_PrepIdeal
    ∧ algebraic_PrepIdeal_PrepReferenceIdeal (hPrepIdeal := hPrepIdeal) (hPrepReferenceIdeal := hPrepReferenceIdeal)
    ∧ preserves_Dist_DistIdeal
    ∧ algebraic_DistIdeal_DistReferenceIdeal (hDistIdeal := hDistIdeal) (hDistReferenceIdeal := hDistReferenceIdeal)
-- ==== On_real_docs.lean ====
abbrev S1024x2048 : Shape := ⟨2, ![1024, 2048]⟩
abbrev S150000x2048 : Shape := ⟨2, ![150000, 2048]⟩
abbrev S1024x1 : Shape := ⟨2, ![1024, 1]⟩
abbrev S1x150000 : Shape := ⟨2, ![1, 150000]⟩
abbrev S128x1176x8x128 : Shape := ⟨4, ![128, 1176, 8, 128]⟩
abbrev S_ : Shape := ⟨0, ![]⟩

class Facts : Prop where
  bcast_S_S128x1176x8x128 : S_.BroadcastsInDim S128x1176x8x128 (![] : Fin 0 → Fin S128x1176x8x128.rank)

variable [Facts]

def fn {F : FTy → Type} [FloatOps F] (main_arg0 : IVec S1024x2048 8) (main_arg1 : IVec S150000x2048 8) (main_arg2 : FVec F S1024x1 .f32) (main_arg3 : FVec F S1x150000 .f32) : IVec S128x1176x8x128 1 :=
  let main_v0 : IVec S128x1176x8x128 32 := iotaInDim S128x1176x8x128 32 1
  let main_v1 : IVec S128x1176x8x128 32 := iotaInDim S128x1176x8x128 32 3
  let main_c : IVec S_ 32 := constantI S_ 32 128#32
  let main_v2 : IVec S128x1176x8x128 32 := broadcastInDim S128x1176x8x128 ![] bcast_S_S128x1176x8x128 main_c
  let main_v3 : IVec S128x1176x8x128 32 := muli main_v0 main_v2
  let main_v4 : IVec S128x1176x8x128 32 := addi main_v3 main_v1
  let main_c_0 : IVec S_ 32 := constantI S_ 32 150000#32
  let main_v5 : IVec S128x1176x8x128 32 := broadcastInDim S128x1176x8x128 ![] bcast_S_S128x1176x8x128 main_c_0
  let main_v6 : IVec S128x1176x8x128 1 := cmpi .slt main_v4 main_v5
  main_v6
-- ==== Score.lean ====
abbrev S1024x2048 : Shape := ⟨2, ![1024, 2048]⟩
abbrev S150000x2048 : Shape := ⟨2, ![150000, 2048]⟩
abbrev S1024x1 : Shape := ⟨2, ![1024, 1]⟩
abbrev S1x150000 : Shape := ⟨2, ![1, 150000]⟩
abbrev S128x1176x8x128 : Shape := ⟨4, ![128, 1176, 8, 128]⟩
abbrev S1x1024 : Shape := ⟨2, ![1, 1024]⟩
abbrev S128x8x8x128 : Shape := ⟨4, ![128, 8, 8, 128]⟩
abbrev S1024x1024 : Shape := ⟨2, ![1024, 1024]⟩
abbrev S1024x128 : Shape := ⟨2, ![1024, 128]⟩
abbrev S128x8x128 : Shape := ⟨3, ![128, 8, 128]⟩
abbrev S128x1x8x128 : Shape := ⟨4, ![128, 1, 8, 128]⟩

abbrev nBuf : Space → Nat
  | .hbm => 5
  | .vmem => 9
  | .smem => 0
  | _ => 0

abbrev bufTy : (tb : Table) → Fin (tcTables nBuf tb) → BufTy
  | .hbm, ⟨0, _⟩ => ⟨S1024x2048, .i8⟩
  | .hbm, ⟨1, _⟩ => ⟨S150000x2048, .i8⟩
  | .hbm, ⟨2, _⟩ => ⟨S1024x1, .f32⟩
  | .hbm, ⟨3, _⟩ => ⟨S1x150000, .f32⟩
  | .hbm, ⟨4, _⟩ => ⟨S128x1176x8x128, .f32⟩
  | .local _ .vmem, ⟨0, _⟩ => ⟨S1024x2048, .i8⟩
  | .local _ .vmem, ⟨1, _⟩ => ⟨S1024x2048, .i8⟩
  | .local _ .vmem, ⟨2, _⟩ => ⟨S1024x2048, .i8⟩
  | .local _ .vmem, ⟨3, _⟩ => ⟨S1024x1, .f32⟩
  | .local _ .vmem, ⟨4, _⟩ => ⟨S1x1024, .f32⟩
  | .local _ .vmem, ⟨5, _⟩ => ⟨S1x1024, .f32⟩
  | .local _ .vmem, ⟨6, _⟩ => ⟨S128x8x8x128, .f32⟩
  | .local _ .vmem, ⟨7, _⟩ => ⟨S128x8x8x128, .f32⟩
  | .local _ .vmem, ⟨8, _⟩ => ⟨S1024x2048, .bf16⟩
  | _, _ => ⟨S1024x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![147], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S1024x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ScoreReferenceIdeal.lean ====
abbrev S1024x2048 : Shape := ⟨2, ![1024, 2048]⟩
abbrev S150000x2048 : Shape := ⟨2, ![150000, 2048]⟩
abbrev S1024x1 : Shape := ⟨2, ![1024, 1]⟩
abbrev S1x150000 : Shape := ⟨2, ![1, 150000]⟩
abbrev S1024x150000 : Shape := ⟨2, ![1024, 150000]⟩
abbrev S_ : Shape := ⟨0, ![]⟩
abbrev S1024x150528 : Shape := ⟨2, ![1024, 150528]⟩
abbrev S128x8x1176x128 : Shape := ⟨4, ![128, 8, 1176, 128]⟩
abbrev S128x1176x8x128 : Shape := ⟨4, ![128, 1176, 8, 128]⟩

abbrev nBuf : Space → Nat
  | .hbm => 10
  | .vmem => 5
  | .smem => 0
  | _ => 0

abbrev bufTy : (tb : Table) → Fin (tcTables nBuf tb) → BufTy
  | .hbm, ⟨0, _⟩ => ⟨S1024x2048, .i8⟩
  | .hbm, ⟨1, _⟩ => ⟨S150000x2048, .i8⟩
  | .hbm, ⟨2, _⟩ => ⟨S1024x1, .f32⟩
  | .hbm, ⟨3, _⟩ => ⟨S1x150000, .f32⟩
  | .hbm, ⟨4, _⟩ => ⟨S1024x150000, .f32⟩
  | .hbm, ⟨5, _⟩ => ⟨S_, .i32⟩
  | .hbm, ⟨6, _⟩ => ⟨S_, .f32⟩
  | .hbm, ⟨7, _⟩ => ⟨S1024x150528, .f32⟩
  | .hbm, ⟨8, _⟩ => ⟨S128x8x1176x128, .f32⟩
  | .hbm, ⟨9, _⟩ => ⟨S128x1176x8x128, .f32⟩
  | .local _ .vmem, ⟨0, _⟩ => ⟨S1024x2048, .i8⟩
  | .local _ .vmem, ⟨1, _⟩ => ⟨S150000x2048, .i8⟩
  | .local _ .vmem, ⟨2, _⟩ => ⟨S1024x1, .f32⟩
  | .local _ .vmem, ⟨3, _⟩ => ⟨S1x150000, .f32⟩
  | .local _ .vmem, ⟨4, _⟩ => ⟨S1024x150000, .f32⟩
  | _, _ => ⟨S1024x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S150000x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x150000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x150000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Prep.lean ====
abbrev S1024x2048 : Shape := ⟨2, ![1024, 2048]⟩
abbrev S1024x1 : Shape := ⟨2, ![1024, 1]⟩
abbrev S2x64x512 : Shape := ⟨3, ![2, 64, 512]⟩
abbrev S256x2048 : Shape := ⟨2, ![256, 2048]⟩
abbrev S256x1 : Shape := ⟨2, ![256, 1]⟩
abbrev S1x64x256 : Shape := ⟨3, ![1, 64, 256]⟩
abbrev S128x2048 : Shape := ⟨2, ![128, 2048]⟩
abbrev S256 : Shape := ⟨1, ![256]⟩
abbrev S128x256 : Shape := ⟨2, ![128, 256]⟩
abbrev S64x256 : Shape := ⟨2, ![64, 256]⟩
abbrev S256x256 : Shape := ⟨2, ![256, 256]⟩

abbrev nBuf : Space → Nat
  | .hbm => 6
  | .vmem => 13
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .i8⟩
  | .hbm, ⟨2, _⟩ => ⟨S1024x1, .f32⟩
  | .hbm, ⟨3, _⟩ => ⟨S2x64x512, .i32⟩
  | .hbm, ⟨4, _⟩ => ⟨S1024x1, .i32⟩
  | .hbm, ⟨5, _⟩ => ⟨S1024x2048, .fp8e4m3⟩
  | .local _ .vmem, ⟨0, _⟩ => ⟨S256x2048, .bf16⟩
  | .local _ .vmem, ⟨1, _⟩ => ⟨S256x2048, .bf16⟩
  | .local _ .vmem, ⟨2, _⟩ => ⟨S256x2048, .i8⟩
  | .local _ .vmem, ⟨3, _⟩ => ⟨S256x2048, .i8⟩
  | .local _ .vmem, ⟨4, _⟩ => ⟨S256x1, .f32⟩
  | .local _ .vmem, ⟨5, _⟩ => ⟨S256x1, .f32⟩
  | .local _ .vmem, ⟨6, _⟩ => ⟨S1x64x256, .i32⟩
  | .local _ .vmem, ⟨7, _⟩ => ⟨S1x64x256, .i32⟩
  | .local _ .vmem, ⟨8, _⟩ => ⟨S256x1, .i32⟩
  | .local _ .vmem, ⟨9, _⟩ => ⟨S256x1, .i32⟩
  | .local _ .vmem, ⟨10, _⟩ => ⟨S256x2048, .fp8e4m3⟩
  | .local _ .vmem, ⟨11, _⟩ => ⟨S256x2048, .fp8e4m3⟩
  | .local _ .vmem, ⟨12, _⟩ => ⟨S128x2048, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PrepReferenceIdeal.lean ====
abbrev S1024x2048 : Shape := ⟨2, ![1024, 2048]⟩
abbrev S1024x1 : Shape := ⟨2, ![1024, 1]⟩
abbrev S1024 : Shape := ⟨1, ![1024]⟩
abbrev S_ : Shape := ⟨0, ![]⟩
abbrev S2x512x64x32 : Shape := ⟨4, ![2, 512, 64, 32]⟩
abbrev S32 : Shape := ⟨1, ![32]⟩
abbrev S1x1x1x32 : Shape := ⟨4, ![1, 1, 1, 32]⟩
abbrev S2x512x64 : Shape := ⟨3, ![2, 512, 64]⟩
abbrev S2x64x512 : Shape := ⟨3, ![2, 64, 512]⟩

abbrev nBuf : Space → Nat
  | .hbm => 22
  | .vmem => 3
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .i8⟩
  | .hbm, ⟨2, _⟩ => ⟨S1024x1, .f32⟩
  | .hbm, ⟨3, _⟩ => ⟨S_, .bf16⟩
  | .hbm, ⟨4, _⟩ => ⟨S1024x2048, .bf16⟩
  | .hbm, ⟨5, _⟩ => ⟨S1024x2048, .i1⟩
  | .hbm, ⟨6, _⟩ => ⟨S1024x2048, .i32⟩
  | .hbm, ⟨7, _⟩ => ⟨S2x512x64x32, .i32⟩
  | .hbm, ⟨8, _⟩ => ⟨S32, .i32⟩
  | .hbm, ⟨9, _⟩ => ⟨S1x1x1x32, .i32⟩
  | .hbm, ⟨10, _⟩ => ⟨S2x512x64x32, .i32⟩
  | .hbm, ⟨11, _⟩ => ⟨S2x512x64x32, .i32⟩
  | .hbm, ⟨12, _⟩ => ⟨S_, .i32⟩
  | .hbm, ⟨13, _⟩ => ⟨S2x512x64, .i32⟩
  | .hbm, ⟨14, _⟩ => ⟨S_, .bf16⟩
  | .hbm, ⟨15, _⟩ => ⟨S1024x2048, .bf16⟩
  | .hbm, ⟨16, _⟩ => ⟨S1024x2048, .i1⟩
  | .hbm, ⟨17, _⟩ => ⟨S1024x2048, .i32⟩
  | .hbm, ⟨18, _⟩ => ⟨S_, .i32⟩
  | .hbm, ⟨19, _⟩ => ⟨S1024, .i32⟩
  | .hbm, ⟨20, _⟩ => ⟨S1024x1, .i32⟩
  | .hbm, ⟨21, _⟩ => ⟨S2x64x512, .i32⟩
  | .local _ .vmem, ⟨0, _⟩ => ⟨S1024x2048, .bf16⟩
  | .local _ .vmem, ⟨1, _⟩ => ⟨S1024x2048, .i8⟩
  | .local _ .vmem, ⟨2, _⟩ => ⟨S1024x1, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Dist.lean ====
abbrev S1024x2048 : Shape := ⟨2, ![1024, 2048]⟩
abbrev S150000x64 : Shape := ⟨2, ![150000, 64]⟩
abbrev S1024x1 : Shape := ⟨2, ![1024, 1]⟩
abbrev S2x64x512 : Shape := ⟨3, ![2, 64, 512]⟩
abbrev S256x2048 : Shape := ⟨2, ![256, 2048]⟩
abbrev S256x1 : Shape := ⟨2, ![256, 1]⟩
abbrev S1x64x256 : Shape := ⟨3, ![1, 64, 256]⟩
abbrev S128x2048 : Shape := ⟨2, ![128, 2048]⟩
abbrev S256 : Shape := ⟨1, ![256]⟩
abbrev S128x256 : Shape := ⟨2, ![128, 256]⟩
abbrev S64x256 : Shape := ⟨2, ![64, 256]⟩
abbrev S256x256 : Shape := ⟨2, ![256, 256]⟩
abbrev S8x150528 : Shape := ⟨2, ![8, 150528]⟩
abbrev S_ : Shape := ⟨0, ![]⟩
abbrev S64x150000 : Shape := ⟨2, ![64, 150000]⟩
abbrev S128x588x8x128 : Shape := ⟨4, ![128, 588, 8, 128]⟩
abbrev S128x37x8x128 : Shape := ⟨4, ![128, 37, 8, 128]⟩
abbrev S64x1024 : Shape := ⟨2, ![64, 1024]⟩
abbrev S8x1024 : Shape := ⟨2, ![8, 1024]⟩
abbrev S128x4x8x128 : Shape := ⟨4, ![128, 4, 8, 128]⟩
abbrev S128x1x8x128 : Shape := ⟨4, ![128, 1, 8, 128]⟩
abbrev S2048x1024 : Shape := ⟨2, ![2048, 1024]⟩
abbrev S1x1024 : Shape := ⟨2, ![1, 1024]⟩
abbrev S256x1024 : Shape := ⟨2, ![256, 1024]⟩
abbrev S1024x1024 : Shape := ⟨2, ![1024, 1024]⟩
abbrev S1024x128 : Shape := ⟨2, ![1024, 128]⟩
abbrev S128x8x128 : Shape := ⟨3, ![128, 8, 128]⟩

abbrev nBuf : Space → Nat
  | .hbm => 20
  | .vmem => 23
  | .smem => 0
  | _ => 0

abbrev bufTy : (tb : Table) → Fin (tcTables nBuf tb) → BufTy
  | .hbm, ⟨0, _⟩ => ⟨S1024x2048, .bf16⟩
  | .hbm, ⟨1, _⟩ => ⟨S150000x64, .i32⟩
  | .hbm, ⟨2, _⟩ => ⟨S1024x2048, .i8⟩
  | .hbm, ⟨3, _⟩ => ⟨S1024x1, .f32⟩
  | .hbm, ⟨4, _⟩ => ⟨S2x64x512, .i32⟩
  | .hbm, ⟨5, _⟩ => ⟨S1024x1, .i32⟩
  | .hbm, ⟨6, _⟩ => ⟨S1024x2048, .fp8e4m3⟩
  | .hbm, ⟨7, _⟩ => ⟨S8x150528, .i32⟩
  | .hbm, ⟨8, _⟩ => ⟨S_, .i32⟩
  | .hbm, ⟨9, _⟩ => ⟨S8x150528, .i32⟩
  | .hbm, ⟨10, _⟩ => ⟨S8x150528, .i1⟩
  | .hbm, ⟨11, _⟩ => ⟨S_, .f32⟩
  | .hbm, ⟨12, _⟩ => ⟨S_, .f32⟩
  | .hbm, ⟨13, _⟩ => ⟨S8x150528, .f32⟩
  | .hbm, ⟨14, _⟩ => ⟨S8x150528, .f32⟩
  | .hbm, ⟨15, _⟩ => ⟨S8x150528, .f32⟩
  | .hbm, ⟨16, _⟩ => ⟨S8x150528, .f32⟩
  | .hbm, ⟨17, _⟩ => ⟨S64x150000, .i32⟩
  | .hbm, ⟨18, _⟩ => ⟨S128x588x8x128, .i32⟩
  | .hbm, ⟨19, _⟩ => ⟨S128x37x8x128, .i32⟩
  | .local _ .vmem, ⟨0, _⟩ => ⟨S256x2048, .bf16⟩
  | .local _ .vmem, ⟨1, _⟩ => ⟨S256x2048, .bf16⟩
  | .local _ .vmem, ⟨2, _⟩ => ⟨S256x2048, .i8⟩
  | .local _ .vmem, ⟨3, _⟩ => ⟨S256x2048, .i8⟩
  | .local _ .vmem, ⟨4, _⟩ => ⟨S256x1, .f32⟩
  | .local _ .vmem, ⟨5, _⟩ => ⟨S256x1, .f32⟩
  | .local _ .vmem, ⟨6, _⟩ => ⟨S1x64x256, .i32⟩
  | .local _ .vmem, ⟨7, _⟩ => ⟨S1x64x256, .i32⟩
  | .local _ .vmem, ⟨8, _⟩ => ⟨S256x1, .i32⟩
  | .local _ .vmem, ⟨9, _⟩ => ⟨S256x1, .i32⟩
  | .local _ .vmem, ⟨10, _⟩ => ⟨S256x2048, .fp8e4m3⟩
  | .local _ .vmem, ⟨11, _⟩ => ⟨S256x2048, .fp8e4m3⟩
  | .local _ .vmem, ⟨12, _⟩ => ⟨S128x2048, .bf16⟩
  | .local _ .vmem, ⟨13, _⟩ => ⟨S1024x2048, .fp8e4m3⟩
  | .local _ .vmem, ⟨14, _⟩ => ⟨S64x1024, .i32⟩
  | .local _ .vmem, ⟨15, _⟩ => ⟨S64x1024, .i32⟩
  | .local _ .vmem, ⟨16, _⟩ => ⟨S8x1024, .f32⟩
  | .local _ .vmem, ⟨17, _⟩ => ⟨S8x1024, .f32⟩
  | .local _ .vmem, ⟨18, _⟩ => ⟨S128x4x8x128, .i32⟩
  | .local _ .vmem, ⟨19, _⟩ => ⟨S128x4x8x128, .i32⟩
  | .local _ .vmem, ⟨20, _⟩ => ⟨S128x1x8x128, .i32⟩
  | .local _ .vmem, ⟨21, _⟩ => ⟨S128x1x8x128, .i32⟩
  | .local _ .vmem, ⟨22, _⟩ => ⟨S2048x1024, .fp8e4m3⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![147], ![false]⟩

def k1_cond1 (i : grid1.Coords) : BitVec 1 :=
  let arg0 : BitVec 32 := BitVec.ofNat 32 (i 0).val
  let c4_i32_41 : BitVec 32 := 4#32
  let c0_i32_42 : BitVec 32 := 0#32
  let v138 : BitVec 1 := Scalar.cmpi .eq c4_i32_41 c0_i32_42
  let c1_i32_43 : BitVec 32 := 1#32
  let v139 : BitVec 32 := Scalar.select v138 c1_i32_43 c4_i32_41
  let v140 : BitVec 32 := Scalar.remsi arg0 v139
  let c0_i32_45 : BitVec 32 := 0#32
  let v142 : BitVec 1 := Scalar.cmpi .slt v140 c0_i32_45
  let c0_i32_46 : BitVec 32 := 0#32
  let v143 : BitVec 1 := Scalar.cmpi .slt v139 c0_i32_46
  let v144 : BitVec 1 := Scalar.xori v142 v143
  let c0_i32_44 : BitVec 32 := 0#32
  let v141 : BitVec 1 := Scalar.cmpi .ne v140 c0_i32_44
  let v145 : BitVec 1 := Scalar.andi v144 v141
  let v146 : BitVec 32 := Scalar.addi v140 v139
  let v147 : BitVec 32 := Scalar.select v145 v146 v140
  let c0_i32_47 : BitVec 32 := 0#32
  let v148 : BitVec 1 := Scalar.cmpi .eq v147 c0_i32_47
  let v149 : BitVec 32 := Scalar.extui v148
  let c0_i32_48 : BitVec 32 := 0#32
  let v150 : BitVec 1 := Scalar.cmpi .ne v149 c0_i32_48
  v150

def k1_cond2 (i : grid1.Coords) : BitVec 1 :=
  let arg0 : BitVec 32 := BitVec.ofNat 32 (i 0).val
  let c4_i32_41 : BitVec 32 := 4#32
  let c0_i32_42 : BitVec 32 := 0#32
  let v138 : BitVec 1 := Scalar.cmpi .eq c4_i32_41 c0_i32_42
  let c1_i32_43 : BitVec 32 := 1#32
  let v139 : BitVec 32 := Scalar.select v138 c1_i32_43 c4_i32_41
  let v140 : BitVec 32 := Scalar.remsi arg0 v139
  let c0_i32_45 : BitVec 32 := 0#32
  let v142 : BitVec 1 := Scalar.cmpi .slt v140 c0_i32_45
  let c0_i32_46 : BitVec 32 := 0#32
  let v143 : BitVec 1 := Scalar.cmpi .slt v139 c0_i32_46
  let v144 : BitVec 1 := Scalar.xori v142 v143
  let c0_i32_44 : BitVec 32 := 0#32
  let v141 : BitVec 1 := Scalar.cmpi .ne v140 c0_i32_44
  let v145 : BitVec 1 := Scalar.andi v144 v141
  let v146 : BitVec 32 := Scalar.addi v140 v139
  let v147 : BitVec 32 := Scalar.select v145 v146 v140
  let c0_i32_47 : BitVec 32 := 0#32
  let v148 : BitVec 1 := Scalar.cmpi .eq v147 c0_i32_47
  let v_true : BitVec 1 := 1#1
  let v151 : BitVec 1 := Scalar.xori v148 v_true
  let v152 : BitVec 32 := Scalar.extui v151
  let c0_i32_49 : BitVec 32 := 0#32
  let v153 : BitVec 1 := Scalar.cmpi .ne v152 c0_i32_49
  v153

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_4 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

abbrev stage1_0 : Fin 1 → Memref sig .tc .vmem S1024x2048 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x4x8x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1x8x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== DistReferenceIdeal.lean ====
abbrev S1024x2048 : Shape := ⟨2, ![1024, 2048]⟩
abbrev S150000x64 : Shape := ⟨2, ![150000, 64]⟩
abbrev S_ : Shape := ⟨0, ![]⟩
abbrev S1024x64x32 : Shape := ⟨3, ![1024, 64, 32]⟩
abbrev S32 : Shape := ⟨1, ![32]⟩
abbrev S1x1x32 : Shape := ⟨3, ![1, 1, 32]⟩
abbrev S1024x64 : Shape := ⟨2, ![1024, 64]⟩
abbrev S1024x1x64 : Shape := ⟨3, ![1024, 1, 64]⟩
abbrev S1x150000x64 : Shape := ⟨3, ![1, 150000, 64]⟩
abbrev S1024x150000x64 : Shape := ⟨3, ![1024, 150000, 64]⟩
abbrev S1024x150000 : Shape := ⟨2, ![1024, 150000]⟩
abbrev S1024 : Shape := ⟨1, ![1024]⟩
abbrev S1024x1 : Shape := ⟨2, ![1024, 1]⟩
abbrev S1024x150528 : Shape := ⟨2, ![1024, 150528]⟩
abbrev S128x8x588x2x128 : Shape := ⟨5, ![128, 8, 588, 2, 128]⟩
abbrev S128x8x588x1x128 : Shape := ⟨5, ![128, 8, 588, 1, 128]⟩
abbrev S128x8x588x128 : Shape := ⟨4, ![128, 8, 588, 128]⟩
abbrev S1024x151552 : Shape := ⟨2, ![1024, 151552]⟩
abbrev S128x8x37x32x128 : Shape := ⟨5, ![128, 8, 37, 32, 128]⟩
abbrev S128x8x37x128 : Shape := ⟨4, ![128, 8, 37, 128]⟩
abbrev S128x588x8x128 : Shape := ⟨4, ![128, 588, 8, 128]⟩
abbrev S128x37x8x128 : Shape := ⟨4, ![128, 37, 8, 128]⟩

abbrev nBuf : Space → Nat
  | .hbm => 58
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S150000x64, .i32⟩
  | .hbm, ⟨2, _⟩ => ⟨S_, .bf16⟩
  | .hbm, ⟨3, _⟩ => ⟨S1024x2048, .bf16⟩
  | .hbm, ⟨4, _⟩ => ⟨S1024x2048, .i1⟩
  | .hbm, ⟨5, _⟩ => ⟨S1024x2048, .i32⟩
  | .hbm, ⟨6, _⟩ => ⟨S1024x64x32, .i32⟩
  | .hbm, ⟨7, _⟩ => ⟨S32, .i32⟩
  | .hbm, ⟨8, _⟩ => ⟨S1x1x32, .i32⟩
  | .hbm, ⟨9, _⟩ => ⟨S1024x64x32, .i32⟩
  | .hbm, ⟨10, _⟩ => ⟨S1024x64x32, .i32⟩
  | .hbm, ⟨11, _⟩ => ⟨S_, .i32⟩
  | .hbm, ⟨12, _⟩ => ⟨S1024x64, .i32⟩
  | .hbm, ⟨13, _⟩ => ⟨S1024x1x64, .i32⟩
  | .hbm, ⟨14, _⟩ => ⟨S1x150000x64, .i32⟩
  | .hbm, ⟨15, _⟩ => ⟨S1024x150000x64, .i32⟩
  | .hbm, ⟨16, _⟩ => ⟨S1024x150000x64, .i32⟩
  | .hbm, ⟨17, _⟩ => ⟨S1024x150000x64, .i32⟩
  | .hbm, ⟨18, _⟩ => ⟨S1024x150000x64, .i32⟩
  | .hbm, ⟨19, _⟩ => ⟨S1024x150000x64, .i32⟩
  | .hbm, ⟨20, _⟩ => ⟨S_, .i32⟩
  | .hbm, ⟨21, _⟩ => ⟨S1024x150000, .i32⟩
  | .hbm, ⟨22, _⟩ => ⟨S1024x64, .i32⟩
  | .hbm, ⟨23, _⟩ => ⟨S1024x64, .i32⟩
  | .hbm, ⟨24, _⟩ => ⟨S_, .i32⟩
  | .hbm, ⟨25, _⟩ => ⟨S1024, .i32⟩
  | .hbm, ⟨26, _⟩ => ⟨S1024x1, .i32⟩
  | .hbm, ⟨27, _⟩ => ⟨S1024x150000, .i32⟩
  | .hbm, ⟨28, _⟩ => ⟨S1024x150000, .i32⟩
  | .hbm, ⟨29, _⟩ => ⟨S_, .i32⟩
  | .hbm, ⟨30, _⟩ => ⟨S1024x150000, .i32⟩
  | .hbm, ⟨31, _⟩ => ⟨S1024x150000, .i32⟩
  | .hbm, ⟨32, _⟩ => ⟨S_, .i32⟩
  | .hbm, ⟨33, _⟩ => ⟨S_, .i32⟩
  | .hbm, ⟨34, _⟩ => ⟨S1024x150528, .i32⟩
  | .hbm, ⟨35, _⟩ => ⟨S128x8x588x2x128, .i32⟩
  | .hbm, ⟨36, _⟩ => ⟨S128x8x588x1x128, .i32⟩
  | .hbm, ⟨37, _⟩ => ⟨S128x8x588x128, .i32⟩
  | .hbm, ⟨38, _⟩ => ⟨S_, .i32⟩
  | .hbm, ⟨39, _⟩ => ⟨S128x8x588x128, .i32⟩
  | .hbm, ⟨40, _⟩ => ⟨S128x8x588x128, .i32⟩
  | .hbm, ⟨41, _⟩ => ⟨S128x8x588x1x128, .i32⟩
  | .hbm, ⟨42, _⟩ => ⟨S128x8x588x128, .i32⟩
  | .hbm, ⟨43, _⟩ => ⟨S_, .i32⟩
  | .hbm, ⟨44, _⟩ => ⟨S128x8x588x128, .i32⟩
  | .hbm, ⟨45, _⟩ => ⟨S128x8x588x128, .i32⟩
  | .hbm, ⟨46, _⟩ => ⟨S128x8x588x128, .i32⟩
  | .hbm, ⟨47, _⟩ => ⟨S_, .i32⟩
  | .hbm, ⟨48, _⟩ => ⟨S_, .i32⟩
  | .hbm, ⟨49, _⟩ => ⟨S1024x151552, .i32⟩
  | .hbm, ⟨50, _⟩ => ⟨S128x8x37x32x128, .i32⟩
  | .hbm, ⟨51, _⟩ => ⟨S_, .i32⟩
  | .hbm, ⟨52, _⟩ => ⟨S128x8x37x128, .i32⟩
  | .hbm, ⟨53, _⟩ => ⟨S_, .i32⟩
  | .hbm, ⟨54, _⟩ => ⟨S128x8x37x128, .i32⟩
  | .hbm, ⟨55, _⟩ => ⟨S128x8x37x128, .i32⟩
  | .hbm, ⟨56, _⟩ => ⟨S128x588x8x128, .i32⟩
  | .hbm, ⟨57, _⟩ => ⟨S128x37x8x128, .i32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_call0_v0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_call1_v0 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.ScoreBody.lean ====
/-
  The body of the rescoring kernel (`Score`), as a relation.

  The kernel walks 147 blocks of 1024 documents. At the first block it converts the query codes to bf16 into a
  scratch buffer, which every later block reads back. The last block of documents overhangs the array: the staging
  buffers of the documents and of their scales end in words that nothing names, and what the body computes from them
  lands in the padded part of the result. So the result's block at a point is stated up to those words: it is the body's
  function `scoreOut` of the codes, the document block filled out with SOME words, the query scales and the document
  scales filled out with some words (`Leaves`). Everything here holds at any float values.
-/
module

public import proofs.«01_k».proof.Proof.Gen.Score.Skeleton
public import proofs.«01_k».proof.Proof.Gen.Score.Frame
public import Idealize.ShloMosaic.Lib.Pipeline.DatRel
public import Idealize.ShloMosaic.Lib.Pipeline.Value

@[expose] public section

set_option maxRecDepth 16384

noncomputable section

namespace Cert.ScoreBody

open Cert.Score Cert.Score.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev rCodes : Rect S1024x2048 := Rect.unit (s := S1024x2048) ![0, 0] S1024x2048.size inb_S1024x2048_S1024x2048_0_0
abbrev rQs : Rect S1024x1 := Rect.unit (s := S1024x1) ![0, 0] S1024x1.size inb_S1024x1_S1024x1_0_0
abbrev rDs : Rect S1x1024 := Rect.unit (s := S1x1024) ![0, 0] S1x1024.size inb_S1x1024_S1x1024_0_0
abbrev rOut0 : Rect S128x8x8x128 := Rect.unit (s := S128x8x8x128) ![0, 0, 0, 0] S128x1x8x128.size inb_S128x8x8x128_S128x1x8x128_0_0_0_0
abbrev rOut1 : Rect S128x8x8x128 := Rect.unit (s := S128x8x8x128) ![0, 1, 0, 0] S128x1x8x128.size inb_S128x8x8x128_S128x1x8x128_0_1_0_0
abbrev rOut2 : Rect S128x8x8x128 := Rect.unit (s := S128x8x8x128) ![0, 2, 0, 0] S128x1x8x128.size inb_S128x8x8x128_S128x1x8x128_0_2_0_0
abbrev rOut3 : Rect S128x8x8x128 := Rect.unit (s := S128x8x8x128) ![0, 3, 0, 0] S128x1x8x128.size inb_S128x8x8x128_S128x1x8x128_0_3_0_0
abbrev rOut4 : Rect S128x8x8x128 := Rect.unit (s := S128x8x8x128) ![0, 4, 0, 0] S128x1x8x128.size inb_S128x8x8x128_S128x1x8x128_0_4_0_0
abbrev rOut5 : Rect S128x8x8x128 := Rect.unit (s := S128x8x8x128) ![0, 5, 0, 0] S128x1x8x128.size inb_S128x8x8x128_S128x1x8x128_0_5_0_0
abbrev rOut6 : Rect S128x8x8x128 := Rect.unit (s := S128x8x8x128) ![0, 6, 0, 0] S128x1x8x128.size inb_S128x8x8x128_S128x1x8x128_0_6_0_0
abbrev rOut7 : Rect S128x8x8x128 := Rect.unit (s := S128x8x8x128) ![0, 7, 0, 0] S128x1x8x128.size inb_S128x8x8x128_S128x1x8x128_0_7_0_0

/-- The result's block as eight stores, the last first: one for each 128 documents of the 1024. -/
abbrev pieces (q : Vec F S1024x2048 .bf16) (d : Vec F S1024x2048 .i8) (qs : Vec F S1024x1 .f32) (ds : Vec F S1x1024 .f32) :
    List (View.Piece (Elt F) S128x8x8x128 .f32) :=
  [⟨rOut7, k0_pay5 (k0_pay7 d q qs ds)⟩, ⟨rOut6, k0_pay4 (k0_pay7 d q qs ds)⟩, ⟨rOut5, k0_pay3 (k0_pay7 d q qs ds)⟩,
   ⟨rOut4, k0_pay2 (k0_pay7 d q qs ds)⟩, ⟨rOut3, k0_pay1 (k0_pay11 d q qs ds)⟩, ⟨rOut2, k0_pay10 d q qs ds⟩,
   ⟨rOut1, k0_pay9 d q qs ds⟩, ⟨rOut0, k0_pay8 d q qs ds⟩]

/-- What the body leaves in the result's block, from the bf16 codes, the documents' block and the two blocks of scales. -/
def scoreOut (q : Vec F S1024x2048 .bf16) (d : Vec F S1024x2048 .i8) (qs : Vec F S1024x1 .f32) (ds : Vec F S1x1024 .f32) :
    Vec F S128x8x8x128 .f32 :=
  View.canon (pieces q d qs ds)

/-- The eight stores tile the block, so they cover it. -/
theorem cover_pieces (p0 p1 p2 p3 p4 p5 p6 p7 : Vec F S128x1x8x128 .f32) (y : S128x8x8x128.Idx) :
    ∃ pc ∈ ([⟨rOut7, p7⟩, ⟨rOut6, p6⟩, ⟨rOut5, p5⟩, ⟨rOut4, p4⟩, ⟨rOut3, p3⟩, ⟨rOut2, p2⟩, ⟨rOut1, p1⟩, ⟨rOut0, p0⟩] :
      List (View.Piece (Elt F) S128x8x8x128 .f32)), y ∈ pc.1.set :=
  View.cover_of_tiled [⟨rOut7, p7⟩, ⟨rOut6, p6⟩, ⟨rOut5, p5⟩, ⟨rOut4, p4⟩, ⟨rOut3, p3⟩, ⟨rOut2, p2⟩, ⟨rOut1, p1⟩, ⟨rOut0, p0⟩]
    S128x1x8x128.size (by rfl) y

theorem zero2 : (![0, 0] : Fin 2 → Nat) = fun _ => 0 := funext fun a => by fin_cases a <;> rfl

/-- A load of a whole buffer reads the buffer. -/
theorem readAt_codes {e : EltTy} (v : View sig .tc .vmem S1024x2048 e) (f : v.ty.Contents (Elt F)) :
    v.readAt (Elt F) rCodes.toLoadRect f = v.read (Elt F) f := View.ld_unit_zero zero2 _ _
theorem readAt_qs {e : EltTy} (v : View sig .tc .vmem S1024x1 e) (f : v.ty.Contents (Elt F)) :
    v.readAt (Elt F) rQs.toLoadRect f = v.read (Elt F) f := View.ld_unit_zero zero2 _ _
theorem readAt_ds {e : EltTy} (v : View sig .tc .vmem S1x1024 e) (f : v.ty.Contents (Elt F)) :
    v.readAt (Elt F) rDs.toLoadRect f = v.read (Elt F) f := View.ld_unit_zero zero2 _ _

/-! ## The branch on the first point -/

/-- The condition of the body's one branch, from the grid coordinates. -/
abbrev isFirst (i : grid0.Coords) : Prop :=
  (Scalar.cmpi .ne (Scalar.extui (Scalar.cmpi .eq (BitVec.ofNat 32 (i 0).val) 0#32)) 0#32) = 1#1

/-- It holds at the first point only. -/
theorem isFirst_iff : ∀ t : Fin cfg0.N, isFirst (grid0.coords t) ↔ t.val % 147 = 0 :=
  (fun t => by
    have ht : t.val < 147 := Nat.lt_of_lt_of_eq t.isLt N_0
    have e0 : (grid0.coords t 0).val = t.val / 1 % 147 := Pipeline.Grid.coords_val t 0 (by decide) rfl
    simp only [isFirst, e0]
    word_cmp
   : ∀ t : Fin grid0.N, isFirst (grid0.coords t) ↔ t.val % 147 = 0)

/-! ## The body's triples -/

set_option maxHeartbeats 1000000 in
/-- The body at the first point: the codes are converted into the scratch, whatever it held, and the result is computed from them. -/
theorem kernel_first (c : Dev nD) (E : Set ℕ) (i : grid0.Coords) (arg1 : Memref sig .tc .vmem S1024x2048 .i8) (harg1 : arg1.IsWhole)
    (arg2 : Memref sig .tc .vmem S1024x2048 .i8) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S128x8x8x128 .f32) (harg5 : arg5.IsWhole)
    (arg6 : Memref sig .tc .vmem S1024x2048 .bf16) (harg6 : arg6.IsWhole) (hc : isFirst i)
    (x0 : Vec F S1024x2048 .i8) (x1 : Vec F S1024x2048 .i8) (x2 : Vec F S1024x1 .f32) (x3 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (scoreOut (k0_pay6 x0) x1 x2 x3)
            ∗ owns (c : Thread nD τ) arg6 fullShare (k0_pay6 x0)) -∗ K ⟨⟩))
      ⊢ wp frame (wpE (defs₀ (F := F)) Variants.none c none) E
          (cc0_score i arg1 harg1 arg2 harg2 arg3 harg3 arg4 harg4 arg5 harg5 arg6 harg6) K := by
  simp only [cc0_score_eq_skeleton]; unfold cc0_score_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_pieces _ _ _ _ _ _ _ _)).trans ?_
    unfold kernel_first.sl.r kernel_first.sl.r_1 kernel_first.sl.v5 kernel_first.sl.H5_1
    rw [View.readCov_cons_toLoadRect, readAt_codes arg1.view, readAt_codes arg2.view, readAt_qs, readAt_ds]
    rfl
  iexists _; isplitr
  swap; · iexact H5
  ipureintro
  unfold kernel_first.sl.H5_1
  refine (View.read_writes_eq_canon _ _ _ (View.cover_of_tiled [⟨rCodes, _⟩] S1024x2048.size (by rfl))).trans ?_
  rw [readAt_codes]
  exact View.canon_unit_zero zero2 _ _

set_option maxHeartbeats 1000000 in
/-- The body at a later point: the scratch holds the bf16 codes and keeps them. -/
theorem kernel_later (c : Dev nD) (E : Set ℕ) (i : grid0.Coords) (arg1 : Memref sig .tc .vmem S1024x2048 .i8) (harg1 : arg1.IsWhole)
    (arg2 : Memref sig .tc .vmem S1024x2048 .i8) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S128x8x8x128 .f32) (harg5 : arg5.IsWhole)
    (arg6 : Memref sig .tc .vmem S1024x2048 .bf16) (harg6 : arg6.IsWhole) (hc : ¬ isFirst i)
    (x0 : Vec F S1024x2048 .i8) (x1 : Vec F S1024x2048 .i8) (x2 : Vec F S1024x1 .f32) (x3 : Vec F S1x1024 .f32) (q : Vec F S1024x2048 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (scoreOut q x1 x2 x3)
            ∗ owns (c : Thread nD τ) arg6 fullShare q) -∗ K ⟨⟩))
      ⊢ wp frame (wpE (defs₀ (F := F)) Variants.none c none) E
          (cc0_score i arg1 harg1 arg2 harg2 arg3 harg3 arg4 harg4 arg5 harg5 arg6 harg6) K := by
  simp only [cc0_score_eq_skeleton]; unfold cc0_score_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_pieces _ _ _ _ _ _ _ _)).trans ?_
    unfold kernel_later.sl.r kernel_later.sl.r_1
    rw [readAt_codes arg2.view, readAt_codes arg6.view, readAt_qs, readAt_ds]
    rfl
  iexists f5; isplitr; · ipureintro; rfl
  iexact H5

/-! ## The pipeline's proof data -/

/-- The first point. -/
abbrev pt0 : Fin cfg0.N := ⟨0, by decide⟩

/-- The bf16 codes that the scratch holds from the first point on. -/
def qcodes (c : Dev nD) : Vec F S1024x2048 .bf16 := k0_pay6 (iblk m c 0 pt0)

/-- The documents' block at a point, filled out past the array's end with the words `d`; -/
def docsBlk (c : Dev nD) (t : Fin cfg0.N) (d : Vec F S1024x2048 .i8) : Vec F S1024x2048 .i8 :=
  win0_1.fill (grid0.coords t) d (iblk m c 1 t)
/-- the documents' scales likewise. -/
def dsBlk (c : Dev nD) (t : Fin cfg0.N) (d : Vec F S1x1024 .f32) : Vec F S1x1024 .f32 :=
  win0_3.fill (grid0.coords t) d (iblk m c 3 t)

/-- What the body may leave in the result's block at a point: its function of the codes, of the query scales, and of the
    document block and scales filled out with some words. -/
def Leaves (c : Dev nD) (t : Fin cfg0.N) (X : Vec F S128x8x8x128 .f32) : Prop :=
  ∃ (d1 : Vec F S1024x2048 .i8) (d3 : Vec F S1x1024 .f32), X = scoreOut (qcodes m c) (docsBlk m c t d1) (iblk m c 2 t) (dsBlk m c t d3)

/-- The scratch operand. -/
abbrev scM : Memref sig .tc .vmem S1024x2048 .bf16 := Memref.whole cc0_scratch0

/-- The class's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body carries from point to point: before the first, the scratch at anything; after it, the scratch at the bf16 codes. -/
def inv (c : Dev nD) (t : Fin (cfg0.N + 1)) : sProp 𝕄 :=
  match t.val with
  | 0 => Pipeline.ΦA spec0 c
  | _ + 1 => iprop(owns (c : Thread nD τ) scM fullShare (qcodes m c) ∗ (∃ r, prngReg c r))

/-- The exact part of the proof data: the arrays as launched; after the body each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => docsBlk m c t fun _ => 0#8
    | ⟨2, _⟩ => iblk m c 2 t
    | ⟨3, _⟩ => dsBlk m c t fun _ => Scalar.ofBits .f32 0#32
    | ⟨4, _⟩ => fun _ => Scalar.ofBits .f32 0#32
  Φ t := inv m c t
  q _ := fullShare
  owed _ := 0

/-- The result's window is stated by `Leaves` instead. -/
def related (w : Fin cfg0.W) : Bool := match w with | ⟨4, _⟩ => true | _ => false
def rel (c : Dev nD) (w : Fin cfg0.W) (t : Fin cfg0.N) : ((cfg0.win w).block.Idx → Elt F (cfg0.win w).elt) → Prop :=
  match w with
  | ⟨4, _⟩ => fun X => Leaves m c t X
  | ⟨0, _⟩ => fun _ => True
  | ⟨1, _⟩ => fun _ => True
  | ⟨2, _⟩ => fun _ => True
  | ⟨3, _⟩ => fun _ => True

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = docsBlk m c t fun _ => 0#8 := by dsimp only [dats]
theorem after_2 (c : Dev nD) (t : Fin cfg0.N) : (dats m 0 c).after 2 t = iblk m c 2 t := by dsimp only [dats]
theorem after_3 (c : Dev nD) (t : Fin cfg0.N) : (dats m 0 c).after 3 t = dsBlk m c t fun _ => Scalar.ofBits .f32 0#32 := by dsimp only [dats]

/-- What the body finds in each input's buffer. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = docsBlk m c t d := by
  unfold Dat.before; rw [if_pos (fetch0_1 t)]; rfl
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = dsBlk m c t d := by
  unfold Dat.before; rw [if_pos (fetch0_3 t)]; rfl

/-- The invariant before the first point, and after any. -/
theorem inv_zero (c : Dev nD) (t : Fin (cfg0.N + 1)) (h : t.val = 0) : inv m c t = Pipeline.ΦA spec0 c := by
  unfold inv; rw [h]
theorem inv_pos (c : Dev nD) (t : Fin (cfg0.N + 1)) (h : t.val ≠ 0) :
    inv m c t = iprop(owns (c : Thread nD τ) scM fullShare (qcodes m c) ∗ (∃ r, prngReg c r)) := by
  unfold inv; obtain ⟨n, hn⟩ := Nat.exists_eq_succ_of_ne_zero h; rw [hn]

/-! ## The body obligation -/

/-- What the body is called with at point `t`; -/
def bodyPre (c : Dev nD) (t : Fin cfg0.N) : sProp 𝕄 :=
  iprop(inv m c t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜((dats m 0 c).toRRel related (rel m c)).Finds 4 t Y⌝ ∗ owns (c : Thread nD τ) (st0_4 t) fullShare Y))

/-- and what it returns: each cut window stated on the part inside its array. -/
def bodyPost (c : Dev nD) (t : Fin cfg0.N) : sProp 𝕄 :=
  iprop(inv m c t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t))))
    ∗ (∃ X, ⌜Leaves m c t X⌝ ∗ owns (c : Thread nD τ) (st0_4 t) fullShare X))

theorem refill_1 (c : Dev nD) (t : Fin cfg0.N) (d) :
    win0_1.fill (grid0.coords t) d (win0_1.cut (grid0.coords t) ((dats m 0 c).after 1 t)) = docsBlk m c t d := by
  rw [after_1]; unfold docsBlk; rw [win0_1.cut_fill]
theorem refill_3 (c : Dev nD) (t : Fin cfg0.N) (d) :
    win0_3.fill (grid0.coords t) d (win0_3.cut (grid0.coords t) ((dats m 0 c).after 3 t)) = dsBlk m c t d := by
  rw [after_3]; unfold dsBlk; rw [win0_3.cut_fill]

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, after_0, after_2]
  rw [show (dats m 0 c).owesAt () t.succ = (dats m 0 c).owesAt () t.castSucc from rfl,
    inv_pos m c t.succ (Nat.succ_ne_zero _)]
  by_cases h0 : t.val = 0
  · obtain rfl : t = pt0 := Fin.ext h0
    rw [inv_zero m c (Fin.castSucc pt0) rfl, PhiA_eq]
    iintro ⟨⟨HS, Hp⟩, Ho, ⟨%d0, H0⟩, ⟨%d1, H1⟩, ⟨%d2, H2⟩, ⟨%d3, H3⟩, ⟨%Y, -, H4⟩⟩
    iapply (kernel_first c Set.univ (grid0.coords pt0) _ _ _ _ _ _ _ _ _ _ _ _ ((isFirst_iff pt0).mpr rfl) (iblk m c 0 pt0) (docsBlk m c pt0 d1) (iblk m c 2 pt0) (dsBlk m c pt0 d3) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hp]
    · isplitl [HS]; · iexact HS
      iexact Hp
    isplitl [Ho]; · iexact Ho
    isplitl [H0]; · iexact H0
    isplitl [H1]; · iexists d1; rw [refill_1]; iexact H1
    isplitl [H2]; · iexact H2
    isplitl [H3]; · iexists d3; rw [refill_3]; iexact H3
    iexists _; isplitr
    swap; · iexact H4
    ipureintro
    exact ⟨d1, d3, rfl⟩
  · rw [inv_pos m c t.castSucc h0]
    have hN : t.val < 147 := Nat.lt_of_lt_of_eq t.isLt N_0
    iintro ⟨⟨HS, Hp⟩, Ho, ⟨%d0, H0⟩, ⟨%d1, H1⟩, ⟨%d2, H2⟩, ⟨%d3, H3⟩, ⟨%Y, -, H4⟩⟩
    iapply (kernel_later c Set.univ (grid0.coords t) _ _ _ _ _ _ _ _ _ _ _ _ (fun h => h0 (by have := (isFirst_iff t).mp h; omega)) (iblk m c 0 t) (docsBlk m c t d1) (iblk m c 2 t) (dsBlk m c t d3) (qcodes m c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hp]
    · isplitl [HS]; · iexact HS
      iexact Hp
    isplitl [Ho]; · iexact Ho
    isplitl [H0]; · iexact H0
    isplitl [H1]; · iexists d1; rw [refill_1]; iexact H1
    isplitl [H2]; · iexact H2
    isplitl [H3]; · iexists d3; rw [refill_3]; iexact H3
    iexists _; isplitr
    swap; · iexact H4
    ipureintro
    exact ⟨d1, d3, rfl⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the result's window held to `Leaves`. -/
theorem body_obligation (c : Dev nD) :
    Pipeline.BodyObligationRel (dats (F := F) m 0 c) (defs₀ (F := F)) Variants.none () Set.univ related (rel m c) := fun t => by
  rw [bigSep_W0, bigSep_W0, defs₀_row]
  exact triple_restated (sound_body m c t) rfl .rfl fun _ => .rfl

/-! ## The run -/

/-- The relational proof data. -/
abbrev rdats (c : Dev nD) := (dats (F := F) m 0 c).toRRel related (rel m c)

theorem hin (c : Dev nD) : (Pipeline.ΦA spec0 c : sProp 𝕄) ⊢ inv m c 0 := by
  rw [inv_zero m c 0 rfl]
theorem hout (c : Dev nD) : inv m c (Fin.last cfg0.N) ⊢ (Pipeline.ΦA spec0 c : sProp 𝕄) := by
  rw [inv_pos m c _ (by decide), PhiA_eq]
  iintro ⟨HS, Hp⟩
  isplitl [HS]
  · iexists _; iexact HS
  iexact Hp

set_option backward.isDefEq.respectTransparency.types false in
set_option maxHeartbeats 800000 in
/-- THE LAUNCH: every weakly fair execution of @main terminates, every array ends at something the relational proof
    data allow, and every semaphore counter ends at zero. -/
theorem run_main : θ_run defs (onTc (τ := τ) (main (F := F))) (s₀ m ρ)
    (fun r => Pipeline.RDat.FramePost cfg0 (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m)
    (hmain := hmain m Variants.none) (hA := A_eq m) (hin := hin m) (hout := hout m)

/-- THE FRAME: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c))⟩, h.2⟩) (run_main m ρ)

end Cert.ScoreBody

end
-- ==== Proof.ScoreIdealBody.lean ====
/-
  The body of the rescoring kernel (`ScoreIdeal`), as a relation.

  The kernel walks 147 blocks of 1024 documents. At the first block it converts the query codes to bf16 into a
  scratch buffer, which every later block reads back. The last block of documents overhangs the array: the staging
  buffers of the documents and of their scales end in words that nothing names, and what the body computes from them
  lands in the padded part of the result. So the result's block at a point is stated up to those words: it is the body's
  function `scoreOut` of the codes, the document block filled out with SOME words, the query scales and the document
  scales filled out with some words (`Leaves`). Everything here holds at any float values.
-/
module

public import proofs.«01_k».proof.Proof.Gen.ScoreIdeal.Skeleton
public import proofs.«01_k».proof.Proof.Gen.ScoreIdeal.Frame
public import Idealize.ShloMosaic.Lib.Pipeline.DatRel
public import Idealize.ShloMosaic.Lib.Pipeline.Value

@[expose] public section

set_option maxRecDepth 16384

noncomputable section

namespace Cert.ScoreIdealBody

open Cert.ScoreIdeal Cert.ScoreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev rCodes : Rect S1024x2048 := Rect.unit (s := S1024x2048) ![0, 0] S1024x2048.size inb_S1024x2048_S1024x2048_0_0
abbrev rQs : Rect S1024x1 := Rect.unit (s := S1024x1) ![0, 0] S1024x1.size inb_S1024x1_S1024x1_0_0
abbrev rDs : Rect S1x1024 := Rect.unit (s := S1x1024) ![0, 0] S1x1024.size inb_S1x1024_S1x1024_0_0
abbrev rOut0 : Rect S128x8x8x128 := Rect.unit (s := S128x8x8x128) ![0, 0, 0, 0] S128x1x8x128.size inb_S128x8x8x128_S128x1x8x128_0_0_0_0
abbrev rOut1 : Rect S128x8x8x128 := Rect.unit (s := S128x8x8x128) ![0, 1, 0, 0] S128x1x8x128.size inb_S128x8x8x128_S128x1x8x128_0_1_0_0
abbrev rOut2 : Rect S128x8x8x128 := Rect.unit (s := S128x8x8x128) ![0, 2, 0, 0] S128x1x8x128.size inb_S128x8x8x128_S128x1x8x128_0_2_0_0
abbrev rOut3 : Rect S128x8x8x128 := Rect.unit (s := S128x8x8x128) ![0, 3, 0, 0] S128x1x8x128.size inb_S128x8x8x128_S128x1x8x128_0_3_0_0
abbrev rOut4 : Rect S128x8x8x128 := Rect.unit (s := S128x8x8x128) ![0, 4, 0, 0] S128x1x8x128.size inb_S128x8x8x128_S128x1x8x128_0_4_0_0
abbrev rOut5 : Rect S128x8x8x128 := Rect.unit (s := S128x8x8x128) ![0, 5, 0, 0] S128x1x8x128.size inb_S128x8x8x128_S128x1x8x128_0_5_0_0
abbrev rOut6 : Rect S128x8x8x128 := Rect.unit (s := S128x8x8x128) ![0, 6, 0, 0] S128x1x8x128.size inb_S128x8x8x128_S128x1x8x128_0_6_0_0
abbrev rOut7 : Rect S128x8x8x128 := Rect.unit (s := S128x8x8x128) ![0, 7, 0, 0] S128x1x8x128.size inb_S128x8x8x128_S128x1x8x128_0_7_0_0

/-- The result's block as eight stores, the last first: one for each 128 documents of the 1024. -/
abbrev pieces (q : Vec F S1024x2048 .bf16) (d : Vec F S1024x2048 .i8) (qs : Vec F S1024x1 .f32) (ds : Vec F S1x1024 .f32) :
    List (View.Piece (Elt F) S128x8x8x128 .f32) :=
  [⟨rOut7, k0_pay5 (k0_pay7 d q qs ds)⟩, ⟨rOut6, k0_pay4 (k0_pay7 d q qs ds)⟩, ⟨rOut5, k0_pay3 (k0_pay7 d q qs ds)⟩,
   ⟨rOut4, k0_pay2 (k0_pay7 d q qs ds)⟩, ⟨rOut3, k0_pay1 (k0_pay11 d q qs ds)⟩, ⟨rOut2, k0_pay10 d q qs ds⟩,
   ⟨rOut1, k0_pay9 d q qs ds⟩, ⟨rOut0, k0_pay8 d q qs ds⟩]

/-- What the body leaves in the result's block, from the bf16 codes, the documents' block and the two blocks of scales. -/
def scoreOut (q : Vec F S1024x2048 .bf16) (d : Vec F S1024x2048 .i8) (qs : Vec F S1024x1 .f32) (ds : Vec F S1x1024 .f32) :
    Vec F S128x8x8x128 .f32 :=
  View.canon (pieces q d qs ds)

/-- The eight stores tile the block, so they cover it. -/
theorem cover_pieces (p0 p1 p2 p3 p4 p5 p6 p7 : Vec F S128x1x8x128 .f32) (y : S128x8x8x128.Idx) :
    ∃ pc ∈ ([⟨rOut7, p7⟩, ⟨rOut6, p6⟩, ⟨rOut5, p5⟩, ⟨rOut4, p4⟩, ⟨rOut3, p3⟩, ⟨rOut2, p2⟩, ⟨rOut1, p1⟩, ⟨rOut0, p0⟩] :
      List (View.Piece (Elt F) S128x8x8x128 .f32)), y ∈ pc.1.set :=
  View.cover_of_tiled [⟨rOut7, p7⟩, ⟨rOut6, p6⟩, ⟨rOut5, p5⟩, ⟨rOut4, p4⟩, ⟨rOut3, p3⟩, ⟨rOut2, p2⟩, ⟨rOut1, p1⟩, ⟨rOut0, p0⟩]
    S128x1x8x128.size (by rfl) y

theorem zero2 : (![0, 0] : Fin 2 → Nat) = fun _ => 0 := funext fun a => by fin_cases a <;> rfl

/-- A load of a whole buffer reads the buffer. -/
theorem readAt_codes {e : EltTy} (v : View sig .tc .vmem S1024x2048 e) (f : v.ty.Contents (Elt F)) :
    v.readAt (Elt F) rCodes.toLoadRect f = v.read (Elt F) f := View.ld_unit_zero zero2 _ _
theorem readAt_qs {e : EltTy} (v : View sig .tc .vmem S1024x1 e) (f : v.ty.Contents (Elt F)) :
    v.readAt (Elt F) rQs.toLoadRect f = v.read (Elt F) f := View.ld_unit_zero zero2 _ _
theorem readAt_ds {e : EltTy} (v : View sig .tc .vmem S1x1024 e) (f : v.ty.Contents (Elt F)) :
    v.readAt (Elt F) rDs.toLoadRect f = v.read (Elt F) f := View.ld_unit_zero zero2 _ _

/-! ## The branch on the first point -/

/-- The condition of the body's one branch, from the grid coordinates. -/
abbrev isFirst (i : grid0.Coords) : Prop :=
  (Scalar.cmpi .ne (Scalar.extui (Scalar.cmpi .eq (BitVec.ofNat 32 (i 0).val) 0#32)) 0#32) = 1#1

/-- It holds at the first point only. -/
theorem isFirst_iff : ∀ t : Fin cfg0.N, isFirst (grid0.coords t) ↔ t.val % 147 = 0 :=
  (fun t => by
    have ht : t.val < 147 := Nat.lt_of_lt_of_eq t.isLt N_0
    have e0 : (grid0.coords t 0).val = t.val / 1 % 147 := Pipeline.Grid.coords_val t 0 (by decide) rfl
    simp only [isFirst, e0]
    word_cmp
   : ∀ t : Fin grid0.N, isFirst (grid0.coords t) ↔ t.val % 147 = 0)

/-! ## The body's triples -/

set_option maxHeartbeats 1000000 in
/-- The body at the first point: the codes are converted into the scratch, whatever it held, and the result is computed from them. -/
theorem kernel_first (c : Dev nD) (E : Set ℕ) (i : grid0.Coords) (arg1 : Memref sig .tc .vmem S1024x2048 .i8) (harg1 : arg1.IsWhole)
    (arg2 : Memref sig .tc .vmem S1024x2048 .i8) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S128x8x8x128 .f32) (harg5 : arg5.IsWhole)
    (arg6 : Memref sig .tc .vmem S1024x2048 .bf16) (harg6 : arg6.IsWhole) (hc : isFirst i)
    (x0 : Vec F S1024x2048 .i8) (x1 : Vec F S1024x2048 .i8) (x2 : Vec F S1024x1 .f32) (x3 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (scoreOut (k0_pay6 x0) x1 x2 x3)
            ∗ owns (c : Thread nD τ) arg6 fullShare (k0_pay6 x0)) -∗ K ⟨⟩))
      ⊢ wp frame (wpE (defs₀ (F := F)) Variants.none c none) E
          (cc0_score i arg1 harg1 arg2 harg2 arg3 harg3 arg4 harg4 arg5 harg5 arg6 harg6) K := by
  simp only [cc0_score_eq_skeleton]; unfold cc0_score_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_pieces _ _ _ _ _ _ _ _)).trans ?_
    unfold kernel_first.sl.r kernel_first.sl.r_1 kernel_first.sl.v5 kernel_first.sl.H5_1
    rw [View.readCov_cons_toLoadRect, readAt_codes arg1.view, readAt_codes arg2.view, readAt_qs, readAt_ds]
    rfl
  iexists _; isplitr
  swap; · iexact H5
  ipureintro
  unfold kernel_first.sl.H5_1
  refine (View.read_writes_eq_canon _ _ _ (View.cover_of_tiled [⟨rCodes, _⟩] S1024x2048.size (by rfl))).trans ?_
  rw [readAt_codes]
  exact View.canon_unit_zero zero2 _ _

set_option maxHeartbeats 1000000 in
/-- The body at a later point: the scratch holds the bf16 codes and keeps them. -/
theorem kernel_later (c : Dev nD) (E : Set ℕ) (i : grid0.Coords) (arg1 : Memref sig .tc .vmem S1024x2048 .i8) (harg1 : arg1.IsWhole)
    (arg2 : Memref sig .tc .vmem S1024x2048 .i8) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S128x8x8x128 .f32) (harg5 : arg5.IsWhole)
    (arg6 : Memref sig .tc .vmem S1024x2048 .bf16) (harg6 : arg6.IsWhole) (hc : ¬ isFirst i)
    (x0 : Vec F S1024x2048 .i8) (x1 : Vec F S1024x2048 .i8) (x2 : Vec F S1024x1 .f32) (x3 : Vec F S1x1024 .f32) (q : Vec F S1024x2048 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (scoreOut q x1 x2 x3)
            ∗ owns (c : Thread nD τ) arg6 fullShare q) -∗ K ⟨⟩))
      ⊢ wp frame (wpE (defs₀ (F := F)) Variants.none c none) E
          (cc0_score i arg1 harg1 arg2 harg2 arg3 harg3 arg4 harg4 arg5 harg5 arg6 harg6) K := by
  simp only [cc0_score_eq_skeleton]; unfold cc0_score_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_pieces _ _ _ _ _ _ _ _)).trans ?_
    unfold kernel_later.sl.r kernel_later.sl.r_1
    rw [readAt_codes arg2.view, readAt_codes arg6.view, readAt_qs, readAt_ds]
    rfl
  iexists f5; isplitr; · ipureintro; rfl
  iexact H5

/-! ## The pipeline's proof data -/

/-- The first point. -/
abbrev pt0 : Fin cfg0.N := ⟨0, by decide⟩

/-- The bf16 codes that the scratch holds from the first point on. -/
def qcodes (c : Dev nD) : Vec F S1024x2048 .bf16 := k0_pay6 (iblk m c 0 pt0)

/-- The documents' block at a point, filled out past the array's end with the words `d`; -/
def docsBlk (c : Dev nD) (t : Fin cfg0.N) (d : Vec F S1024x2048 .i8) : Vec F S1024x2048 .i8 :=
  win0_1.fill (grid0.coords t) d (iblk m c 1 t)
/-- the documents' scales likewise. -/
def dsBlk (c : Dev nD) (t : Fin cfg0.N) (d : Vec F S1x1024 .f32) : Vec F S1x1024 .f32 :=
  win0_3.fill (grid0.coords t) d (iblk m c 3 t)

/-- What the body may leave in the result's block at a point: its function of the codes, of the query scales, and of the
    document block and scales filled out with some words. -/
def Leaves (c : Dev nD) (t : Fin cfg0.N) (X : Vec F S128x8x8x128 .f32) : Prop :=
  ∃ (d1 : Vec F S1024x2048 .i8) (d3 : Vec F S1x1024 .f32), X = scoreOut (qcodes m c) (docsBlk m c t d1) (iblk m c 2 t) (dsBlk m c t d3)

/-- The scratch operand. -/
abbrev scM : Memref sig .tc .vmem S1024x2048 .bf16 := Memref.whole cc0_scratch0

/-- The class's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body carries from point to point: before the first, the scratch at anything; after it, the scratch at the bf16 codes. -/
def inv (c : Dev nD) (t : Fin (cfg0.N + 1)) : sProp 𝕄 :=
  match t.val with
  | 0 => Pipeline.ΦA spec0 c
  | _ + 1 => iprop(owns (c : Thread nD τ) scM fullShare (qcodes m c) ∗ (∃ r, prngReg c r))

/-- The exact part of the proof data: the arrays as launched; after the body each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => docsBlk m c t fun _ => 0#8
    | ⟨2, _⟩ => iblk m c 2 t
    | ⟨3, _⟩ => dsBlk m c t fun _ => Scalar.ofBits .f32 0#32
    | ⟨4, _⟩ => fun _ => Scalar.ofBits .f32 0#32
  Φ t := inv m c t
  q _ := fullShare
  owed _ := 0

/-- The result's window is stated by `Leaves` instead. -/
def related (w : Fin cfg0.W) : Bool := match w with | ⟨4, _⟩ => true | _ => false
def rel (c : Dev nD) (w : Fin cfg0.W) (t : Fin cfg0.N) : ((cfg0.win w).block.Idx → Elt F (cfg0.win w).elt) → Prop :=
  match w with
  | ⟨4, _⟩ => fun X => Leaves m c t X
  | ⟨0, _⟩ => fun _ => True
  | ⟨1, _⟩ => fun _ => True
  | ⟨2, _⟩ => fun _ => True
  | ⟨3, _⟩ => fun _ => True

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = docsBlk m c t fun _ => 0#8 := by dsimp only [dats]
theorem after_2 (c : Dev nD) (t : Fin cfg0.N) : (dats m 0 c).after 2 t = iblk m c 2 t := by dsimp only [dats]
theorem after_3 (c : Dev nD) (t : Fin cfg0.N) : (dats m 0 c).after 3 t = dsBlk m c t fun _ => Scalar.ofBits .f32 0#32 := by dsimp only [dats]

/-- What the body finds in each input's buffer. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = docsBlk m c t d := by
  unfold Dat.before; rw [if_pos (fetch0_1 t)]; rfl
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = dsBlk m c t d := by
  unfold Dat.before; rw [if_pos (fetch0_3 t)]; rfl

/-- The invariant before the first point, and after any. -/
theorem inv_zero (c : Dev nD) (t : Fin (cfg0.N + 1)) (h : t.val = 0) : inv m c t = Pipeline.ΦA spec0 c := by
  unfold inv; rw [h]
theorem inv_pos (c : Dev nD) (t : Fin (cfg0.N + 1)) (h : t.val ≠ 0) :
    inv m c t = iprop(owns (c : Thread nD τ) scM fullShare (qcodes m c) ∗ (∃ r, prngReg c r)) := by
  unfold inv; obtain ⟨n, hn⟩ := Nat.exists_eq_succ_of_ne_zero h; rw [hn]

/-! ## The body obligation -/

/-- What the body is called with at point `t`; -/
def bodyPre (c : Dev nD) (t : Fin cfg0.N) : sProp 𝕄 :=
  iprop(inv m c t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜((dats m 0 c).toRRel related (rel m c)).Finds 4 t Y⌝ ∗ owns (c : Thread nD τ) (st0_4 t) fullShare Y))

/-- and what it returns: each cut window stated on the part inside its array. -/
def bodyPost (c : Dev nD) (t : Fin cfg0.N) : sProp 𝕄 :=
  iprop(inv m c t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t))))
    ∗ (∃ X, ⌜Leaves m c t X⌝ ∗ owns (c : Thread nD τ) (st0_4 t) fullShare X))

theorem refill_1 (c : Dev nD) (t : Fin cfg0.N) (d) :
    win0_1.fill (grid0.coords t) d (win0_1.cut (grid0.coords t) ((dats m 0 c).after 1 t)) = docsBlk m c t d := by
  rw [after_1]; unfold docsBlk; rw [win0_1.cut_fill]
theorem refill_3 (c : Dev nD) (t : Fin cfg0.N) (d) :
    win0_3.fill (grid0.coords t) d (win0_3.cut (grid0.coords t) ((dats m 0 c).after 3 t)) = dsBlk m c t d := by
  rw [after_3]; unfold dsBlk; rw [win0_3.cut_fill]

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, after_0, after_2]
  rw [show (dats m 0 c).owesAt () t.succ = (dats m 0 c).owesAt () t.castSucc from rfl,
    inv_pos m c t.succ (Nat.succ_ne_zero _)]
  by_cases h0 : t.val = 0
  · obtain rfl : t = pt0 := Fin.ext h0
    rw [inv_zero m c (Fin.castSucc pt0) rfl, PhiA_eq]
    iintro ⟨⟨HS, Hp⟩, Ho, ⟨%d0, H0⟩, ⟨%d1, H1⟩, ⟨%d2, H2⟩, ⟨%d3, H3⟩, ⟨%Y, -, H4⟩⟩
    iapply (kernel_first c Set.univ (grid0.coords pt0) _ _ _ _ _ _ _ _ _ _ _ _ ((isFirst_iff pt0).mpr rfl) (iblk m c 0 pt0) (docsBlk m c pt0 d1) (iblk m c 2 pt0) (dsBlk m c pt0 d3) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hp]
    · isplitl [HS]; · iexact HS
      iexact Hp
    isplitl [Ho]; · iexact Ho
    isplitl [H0]; · iexact H0
    isplitl [H1]; · iexists d1; rw [refill_1]; iexact H1
    isplitl [H2]; · iexact H2
    isplitl [H3]; · iexists d3; rw [refill_3]; iexact H3
    iexists _; isplitr
    swap; · iexact H4
    ipureintro
    exact ⟨d1, d3, rfl⟩
  · rw [inv_pos m c t.castSucc h0]
    have hN : t.val < 147 := Nat.lt_of_lt_of_eq t.isLt N_0
    iintro ⟨⟨HS, Hp⟩, Ho, ⟨%d0, H0⟩, ⟨%d1, H1⟩, ⟨%d2, H2⟩, ⟨%d3, H3⟩, ⟨%Y, -, H4⟩⟩
    iapply (kernel_later c Set.univ (grid0.coords t) _ _ _ _ _ _ _ _ _ _ _ _ (fun h => h0 (by have := (isFirst_iff t).mp h; omega)) (iblk m c 0 t) (docsBlk m c t d1) (iblk m c 2 t) (dsBlk m c t d3) (qcodes m c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hp]
    · isplitl [HS]; · iexact HS
      iexact Hp
    isplitl [Ho]; · iexact Ho
    isplitl [H0]; · iexact H0
    isplitl [H1]; · iexists d1; rw [refill_1]; iexact H1
    isplitl [H2]; · iexact H2
    isplitl [H3]; · iexists d3; rw [refill_3]; iexact H3
    iexists _; isplitr
    swap; · iexact H4
    ipureintro
    exact ⟨d1, d3, rfl⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the result's window held to `Leaves`. -/
theorem body_obligation (c : Dev nD) :
    Pipeline.BodyObligationRel (dats (F := F) m 0 c) (defs₀ (F := F)) Variants.none () Set.univ related (rel m c) := fun t => by
  rw [bigSep_W0, bigSep_W0, defs₀_row]
  exact triple_restated (sound_body m c t) rfl .rfl fun _ => .rfl

/-! ## The run -/

/-- The relational proof data. -/
abbrev rdats (c : Dev nD) := (dats (F := F) m 0 c).toRRel related (rel m c)

theorem hin (c : Dev nD) : (Pipeline.ΦA spec0 c : sProp 𝕄) ⊢ inv m c 0 := by
  rw [inv_zero m c 0 rfl]
theorem hout (c : Dev nD) : inv m c (Fin.last cfg0.N) ⊢ (Pipeline.ΦA spec0 c : sProp 𝕄) := by
  rw [inv_pos m c _ (by decide), PhiA_eq]
  iintro ⟨HS, Hp⟩
  isplitl [HS]
  · iexists _; iexact HS
  iexact Hp

set_option backward.isDefEq.respectTransparency.types false in
set_option maxHeartbeats 800000 in
/-- THE LAUNCH: every weakly fair execution of @main terminates, every array ends at something the relational proof
    data allow, and every semaphore counter ends at zero. -/
theorem run_main : θ_run defs (onTc (τ := τ) (main (F := F))) (s₀ m ρ)
    (fun r => Pipeline.RDat.FramePost cfg0 (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m)
    (hmain := hmain m Variants.none) (hA := A_eq m) (hin := hin m) (hout := hout m)

/-- THE FRAME: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c))⟩, h.2⟩) (run_main m ρ)

end Cert.ScoreIdealBody

end
-- ==== Proof.ScoreTiles.lean ====
/-
  Where the rescoring kernel's eight stores put its scores: document `128 j + l` of a block and query `8 a + s` at
  `(a, j, s, l)` of the result's block.
-/
module

public import proofs.«01_k».proof.Proof.ScoreIdealBody
public import Idealize.ShloMosaic.Lib.Pipeline.ValueKit

@[expose] public section

set_option maxRecDepth 16384

noncomputable section

namespace Cert.ScoreTiles

open Cert.ScoreIdeal Cert.ScoreIdeal.Gen Cert.ScoreIdealBody
open Idealize.ShloMosaic Idealize.ShloMosaic.TcCoe

set_option maxHeartbeats 1600000 in
theorem scoreOut_apply (q : Vec Ideal S1024x2048 .bf16) (d : Vec Ideal S1024x2048 .i8) (qs : Vec Ideal S1024x1 .f32)
    (ds : Vec Ideal S1x1024 .f32) (y : S128x8x8x128.Idx) (i : S1024x1024.Idx)
    (hi0 : (i 0 : ℕ) = 8 * y 0 + y 2) (hi1 : (i 1 : ℕ) = 128 * y 1 + y 3) :
    scoreOut q d qs ds y = k0_pay7 d q qs ds i := by
  unfold scoreOut pieces
  canon_tiles x h
  all_goals (open_payloads; pointwise; blk_ext)

end Cert.ScoreTiles

end
-- ==== Proof.ScoreSpec.lean ====
/-
  The rescoring at one query and one document: the product of the two rows of codes, times the two scales. Both programs'
  arithmetic, read at an element, is this.
-/
module

public import proofs.«01_k».proof.Proof.Gen.ScoreIdeal.Skeleton
public import proofs.«01_k».proof.Proof.Gen.ScoreReferenceIdeal.Read
public import Idealize.ShloMosaic.Lib.Pipeline.ValueKit

@[expose] public section

set_option maxRecDepth 16384

noncomputable section

namespace Cert.ScoreSpec

open Idealize.ShloMosaic Idealize.ShloMosaic.TcCoe
open Cert.ScoreReferenceIdeal (S1024x2048 S150000x2048 S1024x1 S1x150000)

/-- The score of document `d` for query `r`. -/
def score (q : IVec S1024x2048 8) (d : IVec S150000x2048 8) (qs : FVec Ideal S1024x1 .f32) (ds : FVec Ideal S1x150000 .f32)
    (r : Fin 1024) (x : Fin 150000) : EReal :=
  (∑ k : Fin 2048, (FloatOps.sitofp (F := Ideal) .bf16 (q (ix2 r k)) : EReal) * (FloatOps.sitofp (F := Ideal) .bf16 (d (ix2 x k)) : EReal))
    * ((qs (ix2 r 0) : EReal) * (ds (ix2 0 x) : EReal))

/-- The reference's arithmetic at an element. -/
theorem reference_apply (q : IVec S1024x2048 8) (d : IVec S150000x2048 8) (qs : FVec Ideal S1024x1 .f32) (ds : FVec Ideal S1x150000 .f32)
    (r : Fin 1024) (x : Fin 150000) :
    Cert.ScoreReferenceIdeal.Gen.k0_pay1 (F := Ideal) q d qs ds (ix2 r x) = score q d qs ds r x := by
  pointwise [Cert.ScoreReferenceIdeal.Gen.k0_pay1, score]

/-- The kernel's arithmetic at an element of a block: on rows that are the arrays' rows it is the score. -/
theorem kernel_apply (q : IVec S1024x2048 8) (d : IVec S150000x2048 8) (qs : FVec Ideal S1024x1 .f32) (ds : FVec Ideal S1x150000 .f32)
    (db : IVec Cert.ScoreIdeal.S1024x2048 8) (dsb : FVec Ideal Cert.ScoreIdeal.S1x1024 .f32)
    (r k : Fin 1024) (x : Fin 150000) (hd : ∀ n : Fin 2048, db (ix2 k n) = d (ix2 x n)) (hs : dsb (ix2 0 k) = ds (ix2 0 x)) :
    Cert.ScoreIdeal.Gen.k0_pay7 (F := Ideal) db (Cert.ScoreIdeal.Gen.k0_pay6 (F := Ideal) q) qs dsb (ix2 r k) = score q d qs ds r x := by
  pointwise [Cert.ScoreIdeal.Gen.k0_pay7, Cert.ScoreIdeal.Gen.k0_pay6, score]
  simp only [hd, hs]

end Cert.ScoreSpec

end
-- ==== Proof.ScoreValue.lean ====
/-
  What the rescoring kernel's result holds after a run: at every document inside the array, the score of the codes and
  scales it was launched on. In the padded tail of the last block nothing is said.
-/
module

public import proofs.«01_k».proof.Proof.ScoreIdealBody
public import proofs.«01_k».proof.Proof.ScoreTiles
public import proofs.«01_k».proof.Proof.ScoreSpec
public import Idealize.ShloMosaic.Lib.Pipeline.ValueKit
public import Idealize.ShloMosaic.Lib.Pipeline.ArrRel

@[expose] public section

set_option maxRecDepth 16384

noncomputable section

namespace Cert.ScoreValue

open Cert.ScoreIdeal Cert.ScoreIdeal.Gen Cert.ScoreIdealBody
open Idealize.ShloMosaic Idealize.ShloMosaic.TcCoe Idealize.SL.Sem
open Idealize.ShloMosaic.Pipeline (Dat)

variable (m : (ℓ : Loc nD τ sig) → Buf (Elt Ideal) ℓ)

/-- Every window's block index. -/
theorem idx : ∀ t : Fin cfg0.N, win0_0.index t = ![0, 0] ∧ win0_1.index t = ![t.val, 0] ∧ win0_2.index t = ![0, 0]
    ∧ win0_3.index t = ![0, t.val] ∧ win0_4.index t = ![0, t.val, 0, 0] :=
  (by decide +kernel : ∀ t : Fin grid0.N, _)

/-- How much of a documents' block lies inside the array. -/
theorem inside : ∀ t : Fin cfg0.N, win0_1.xsize (grid0.coords t) 0 = min 1024 (150000 - 1024 * t.val)
    ∧ win0_1.xsize (grid0.coords t) 1 = 2048 ∧ win0_3.xsize (grid0.coords t) 0 = 1
    ∧ win0_3.xsize (grid0.coords t) 1 = min 1024 (150000 - 1024 * t.val) :=
  (by decide +kernel : ∀ t : Fin grid0.N, _)

/-- The query codes' block is their array, and so is the query scales'. -/
theorem queries (c : Dev nD) (t : Fin cfg0.N) : iblk m c 0 t = m ((c : Thread nD τ).loc main_arg0) := by
  blk_ext! [iblk, V, idx t]
theorem queryScales (c : Dev nD) (t : Fin cfg0.N) : iblk m c 2 t = m ((c : Thread nD τ).loc main_arg2) := by
  blk_ext! [iblk, V, idx t]

/-- A row of the documents' block inside the array is the array's row, whatever fills the rest. -/
theorem document (c : Dev nD) (t : Fin cfg0.N) (d) (k : Fin 1024) (x : Fin 150000) (hx : x.val = 1024 * t.val + k.val)
    (n : Fin 2048) :
    docsBlk m c t d (ix2 k n) = (show IVec S150000x2048 8 from m ((c : Thread nD τ).loc main_arg1)) (ix2 x n) := by
  have hm : win0_1.moved (grid0.coords t) (ix2 k n) = true := (win0_1.moved_iff _ _).mpr fun a => by
    obtain ⟨h0, h1, -, -⟩ := inside t
    have := x.isLt
    match a with
    | ⟨0, _⟩ => exact lt_of_lt_of_eq (show k.val < min 1024 (150000 - 1024 * t.val) by omega) h0.symm
    | ⟨1, _⟩ => exact lt_of_lt_of_eq n.isLt h1.symm
  unfold docsBlk Pipeline.Window.fill
  rw [dif_pos hm]
  blk_ext [iblk, V, idx t]

/-- And the same of a document's scale. -/
theorem documentScale (c : Dev nD) (t : Fin cfg0.N) (d) (k : Fin 1024) (x : Fin 150000) (hx : x.val = 1024 * t.val + k.val) :
    dsBlk m c t d (ix2 0 k) = (show FVec Ideal S1x150000 .f32 from m ((c : Thread nD τ).loc main_arg3)) (ix2 0 x) := by
  have hm : win0_3.moved (grid0.coords t) (ix2 0 k) = true := (win0_3.moved_iff _ _).mpr fun a => by
    obtain ⟨-, -, h0, h1⟩ := inside t
    have := x.isLt
    match a with
    | ⟨0, _⟩ => exact lt_of_lt_of_eq Nat.zero_lt_one h0.symm
    | ⟨1, _⟩ => exact lt_of_lt_of_eq (show k.val < min 1024 (150000 - 1024 * t.val) by omega) h1.symm
  unfold dsBlk Pipeline.Window.fill
  rw [dif_pos hm]
  blk_ext [iblk, V, idx t]

/-- The score the launch arrays give document `x` for query `r`. -/
abbrev launchScore (c : Dev nD) (r : Fin 1024) (x : Fin 150000) : EReal :=
  ScoreSpec.score (m ((c : Thread nD τ).loc main_arg0)) (m ((c : Thread nD τ).loc main_arg1)) (m ((c : Thread nD τ).loc main_arg2))
    (m ((c : Thread nD τ).loc main_arg3)) r x

/-- What a point leaves in its block, at a document inside the array. -/
theorem leaves_apply (c : Dev nD) (t : Fin cfg0.N) (X) (h : Leaves m c t X) (y : S128x8x8x128.Idx) (r : Fin 1024) (x : Fin 150000)
    (hr : r.val = 8 * y 0 + y 2) (hx : x.val = 1024 * t.val + 128 * y 1 + y 3) :
    (X y : EReal) = launchScore m c r x := by
  obtain ⟨d1, d3, rfl⟩ := h
  have h1 : (y 1 : ℕ) < 8 := (y 1).isLt
  have h3 : (y 3 : ℕ) < 128 := (y 3).isLt
  have hk : 128 * (y 1 : ℕ) + (y 3 : ℕ) < 1024 := by omega
  rw [ScoreTiles.scoreOut_apply _ _ _ _ y (ix2 r ⟨128 * (y 1 : ℕ) + (y 3 : ℕ), hk⟩) hr rfl]
  unfold qcodes
  rw [queries, queryScales]
  exact ScoreSpec.kernel_apply _ _ _ _ _ _ r ⟨_, hk⟩ x
    (fun n => document m c t d1 ⟨_, hk⟩ x (by rw [hx, Nat.add_assoc]) n)
    (documentScale m c t d3 ⟨_, hk⟩ x (by rw [hx, Nat.add_assoc]))

/-- What is said of the result at an index: inside the array it is the score. -/
def Holds (c : Dev nD) (i : S128x1176x8x128.Idx) (v : EReal) : Prop :=
  ∀ (r : Fin 1024) (x : Fin 150000), r.val = 8 * i 0 + i 2 → x.val = 128 * i 1 + i 3 → v = launchScore m c r x

/-- The result after a run. -/
theorem result (r) (h : Pipeline.RDat.FramePost cfg0 (rdats m) (V m) r) (c : Dev nD) (i : S128x1176x8x128.Idx) :
    Holds m c i (r.2.mem ((c.tc : Thread nD τ).loc main_v0) i) := by
  obtain ⟨after, hL, hA⟩ := Pipeline.RDat.FramePost.exists_exact h c
  have h4 : r.2.mem ((c.tc : Thread nD τ).loc main_v0) = ((rdats m c).withAfter after).arrAt 4 cfg0.N := hA 4
  rw [h4]
  refine ((rdats m c).withAfter after).arrAt_forall_of_covers 4 (fun i v => Holds m c i v) (by decide +kernel) (fun t hf y => ?_) i
  have hl : Leaves m c t (after 4 t) := Dat.toRRel_leaves _ (w := 4) rfl (hL 4 t hf)
  blk_simp
  intro r x hr hx
  refine leaves_apply m c t _ hl _ r x ?_ ?_
  · rw [hr]
    blk_simp [idx t] <;> try omega
  · rw [hx]
    blk_simp [idx t] <;> try omega

end Cert.ScoreValue

end
-- ==== Proof.ScoreReference.lean ====
/-
  What the rescoring's reference computes, read at an element: the padded, tiled score matrix is, at every document inside
  the array, the score.
-/
module

public import proofs.«01_k».proof.Proof.ScoreSpec
public import proofs.«01_k».proof.Proof.Gen.ScoreReferenceIdeal.Read
public import Idealize.ShloMosaic.Lib.Pipeline.ValueKit
public import Idealize.ShloMosaic.Lib.KernelVsHost

@[expose] public section

set_option maxRecDepth 16384

noncomputable section

namespace Cert.ScoreReference

open Cert.ScoreReferenceIdeal Cert.ScoreReferenceIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The region's result array is the reference's arithmetic on the argument arrays. -/
theorem region (c : Dev nD) : Value.reg_main_v0 m c
    = k0_pay1 (F := Ideal) (m ((c : Thread nD τ).loc main_arg0)) (m ((c : Thread nD τ).loc main_arg1))
        (m ((c : Thread nD τ).loc main_arg2)) (m ((c : Thread nD τ).loc main_arg3)) := by
  unfold Value.reg_main_v0
  refine (dats m 0 c).arrAt_eq_of_after_last 4 t0_0 (by decide +kernel) _ fun j => ?_
  blk_simp
  rw [after0_4]
  frame_out
  blk_point [iblk, V, idx t0_0]

/-- The result at an index whose document is inside the array. -/
theorem result_apply (z : FVec Ideal S1024x150000 .f32) (i : S128x1176x8x128.Idx) (r : Fin 1024) (x : Fin 150000)
    (hr : r.val = 8 * i 0 + i 2) (hx : x.val = 128 * i 1 + i 3) :
    Read.val_main_v3 (F := Ideal) z i = z (ix2 r x) := by
  have h0 : (i 0 : ℕ) < 128 := (i 0).isLt
  have h1 : (i 1 : ℕ) < 1176 := (i 1).isLt
  have h2 : (i 2 : ℕ) < 8 := (i 2).isLt
  have h3 : (i 3 : ℕ) < 128 := (i 3).isLt
  rw [Read.val_main_v3_apply, Read.val_main_v2_apply]
  unfold Read.val_main_v1
  refine pad_apply_of_inside _ _ _ _ _ _ _ _ (ix2 r x) fun a => ?_
  match a with
  | ⟨0, _⟩ =>
    show ((((i 0).val * 8 + (i 2).val) * 1176 + (i 1).val) * 128 + (i 3).val) / 150528 = 0 + r.val * (0 + 1)
    omega
  | ⟨1, _⟩ =>
    show ((((i 0).val * 8 + (i 2).val) * 1176 + (i 1).val) * 128 + (i 3).val) % 150528 = 0 + x.val * (0 + 1)
    omega

end Cert.ScoreReference

end
-- ==== Proof.ScoreClaim.lean ====
/-
  The rescoring's value claim: at every document inside the array the kernel's result and the reference's are the same.
-/
module

public import proofs.«01_k».proof.Defs
public import proofs.«01_k».proof.Proof.Gen.On_real_docs
public import proofs.«01_k».proof.Proof.ScoreValue
public import proofs.«01_k».proof.Proof.ScoreReference
public import Idealize.ShloMosaic.Lib.WordCmp
public import Idealize.ShloMosaic.Lib.Claim

@[expose] public section

set_option maxRecDepth 16384

noncomputable section

namespace Cert.ScoreClaim

open Idealize.ShloMosaic Idealize.ShloMosaic.TcCoe Idealize.SL.Sem

/-- The mask's word arithmetic: it cannot wrap, so the comparison is the numbers'. -/
theorem word_lt (a b : ℕ) (ha : a < 1176) (hb : b < 128)
    (h : IntOp.cmpi .slt (IntOp.addi (IntOp.muli (BitVec.ofNat 32 a) 128#32) (BitVec.ofNat 32 b)) 150000#32 = 1#1) :
    128 * a + b < 150000 := by
  have e : IntOp.addi (IntOp.muli (BitVec.ofNat 32 a) 128#32) (BitVec.ofNat 32 b) = BitVec.ofNat 32 (a * 128 + b) := by
    unfold IntOp.addi IntOp.muli
    rw [BitVec.ofNat_add, BitVec.ofNat_mul]
  rw [e] at h
  have hab : a * 128 + b < 150528 := by omega
  clear e
  have hn : a * 128 + b = 128 * a + b := by omega
  rw [← hn]
  generalize a * 128 + b = n at h hab ⊢
  word_cmp at h

/-- The mask says the document is inside the array. -/
theorem inside_of_mask (a0 : IVec On_real_docs.S1024x2048 8) (a1 : IVec On_real_docs.S150000x2048 8)
    (a2 : FVec Ideal On_real_docs.S1024x1 .f32) (a3 : FVec Ideal On_real_docs.S1x150000 .f32) (i : On_real_docs.S128x1176x8x128.Idx)
    (h : On_real_docs.fn (F := Ideal) a0 a1 a2 a3 i = 1#1) : 128 * (i 1 : ℕ) + (i 3 : ℕ) < 150000 := by
  pointwise [On_real_docs.fn] at h
  exact word_lt _ _ (i 1).isLt (i 3).isLt h

/-- The scores at every index whose document is inside the array; 0 elsewhere. -/
def scores (m : (ℓ : Loc ScoreIdeal.nD ScoreIdeal.τ ScoreIdeal.sig) → Buf (Elt Ideal) ℓ) (c : Dev ScoreIdeal.nD) :
    FVec Ideal ScoreIdeal.S128x1176x8x128 .f32 := fun i =>
  if h : 128 * (i 1 : ℕ) + (i 3 : ℕ) < 150000 then
    ScoreValue.launchScore m c ⟨8 * (i 0 : ℕ) + (i 2 : ℕ), by
      have h0 : (i 0 : ℕ) < 128 := (i 0).isLt
      have h2 : (i 2 : ℕ) < 8 := (i 2).isLt
      omega⟩ ⟨_, h⟩
  else 0

theorem algebraic : Cert.algebraic_ScoreIdeal_ScoreReferenceIdeal_on_real_docs
    (hScoreIdeal := ScoreIdeal.Gen.facts) (hScoreReferenceIdeal := ScoreReferenceIdeal.Gen.facts)
    (hOn_real_docs := On_real_docs.Gen.facts) := by
  intro m g m' g' _ hargs
  refine ⟨scores m, ?_, ?_⟩
  · refine (θ_run ScoreIdeal.defs _ _).mono (fun r h c => ⟨fun i hi => ?_, ?_⟩)
      (θ_run_and (ScoreIdealBody.run_main m g) (ScoreIdealBody.frame m g))
    · have hx := inside_of_mask _ _ _ _ i hi
      unfold scores
      rw [dif_pos hx]
      exact ScoreValue.result m r h.1.1 c i _ _ rfl rfl
    · exact h.2.1 c
  · refine (θ_run ScoreReferenceIdeal.defs _ _).mono (fun r h c => ⟨fun i hi => ?_, (h c).2⟩) (ScoreReferenceIdeal.Value.run m' g')
    have hx := inside_of_mask _ _ _ _ i hi
    unfold scores
    rw [dif_pos hx, (h c).1]
    refine (ScoreReference.result_apply (ScoreReferenceIdeal.Value.reg_main_v0 m' c) i ⟨8 * (i 0 : ℕ) + (i 2 : ℕ), by
      have h0 : (i 0 : ℕ) < 128 := (i 0).isLt
      have h2 : (i 2 : ℕ) < 8 := (i 2).isLt
      omega⟩ ⟨_, hx⟩ rfl rfl).trans ?_
    rw [ScoreReference.region, ScoreSpec.reference_apply]
    obtain ⟨e0, e1, e2, e3⟩ := hargs c
    rw [e0, e1, e2, e3]

end Cert.ScoreClaim

end
-- ==== Proof.PrepWords.lean ====
/-
  Words as the numbers they hold: sums, shifts and unions of words, and the conversion of a small whole number to a word.
-/
module

public import Idealize.ShloMosaic.Lib.Pipeline.ValueKit

@[expose] public section

set_option maxRecDepth 16384

noncomputable section

namespace Cert.PrepWords

open Idealize.ShloMosaic Idealize.ShloMosaic.TcCoe

/-- Adding words is adding the numbers they hold. -/
theorem fold_addi {n : ℕ} (g : Fin n → ℕ) :
    (Finset.univ : Finset (Fin n)).fold IntOp.addi (0#32) (fun k => BitVec.ofNat 32 (g k)) = BitVec.ofNat 32 (∑ k, g k) := by
  induction (Finset.univ : Finset (Fin n)) using Finset.induction_on with
  | empty => simp
  | insert a s ha ih =>
    rw [Finset.fold_insert ha, Finset.sum_insert ha, ih, BitVec.ofNat_add]
    rfl

/-- A sign bit shifted to its place. -/
theorem shifted (p : Prop) [Decidable p] (j : ℕ) (hj : j < 32) :
    IntOp.shli .host ((if p then 1#1 else 0#1 : BitVec 1).setWidth 32) (BitVec.ofNat 32 j)
      = BitVec.ofNat 32 (if p then 2 ^ j else 0) := by
  unfold IntOp.shli
  by_cases hp : p
  · simp only [if_pos hp]
    interval_cases j <;> decide +kernel
  · simp only [if_neg hp]
    interval_cases j <;> decide +kernel

theorem shl_or (lo hi : ℕ) (h : lo < 65536) :
    IntOp.ori (BitVec.ofNat 32 lo) (IntOp.shli .vector (BitVec.ofNat 32 hi) 16#32) = BitVec.ofNat 32 (lo + 65536 * hi) := by
  unfold IntOp.ori IntOp.shli
  rw [if_pos (by decide)]
  apply BitVec.eq_of_toNat_eq
  have e : hi * 65536 % 4294967296 = 65536 * (hi % 65536) := by omega
  have e2 : lo % 4294967296 = lo := by omega
  have h2 := Nat.two_pow_add_eq_or_of_lt (i := 16) (b := lo) (by omega) (hi % 65536)
  simp only [BitVec.toNat_or, BitVec.toNat_shiftLeft, BitVec.toNat_ofNat, Nat.shiftLeft_eq]
  norm_num
  rw [Nat.shiftLeft_eq]
  norm_num
  rw [e, e2, Nat.or_comm]
  norm_num at h2
  rw [← h2]
  omega

/-- The conversion to a word of a whole number that fits. -/
theorem fptosi_nat (n : ℕ) (h : n < 65536) : FloatOps.fptosi (F := Ideal) (φ := .f32) 32 (((n : ℝ) : EReal)) = BitVec.ofNat 32 n := by
  show Ideal.fptosi 32 ((n : ℝ) : EReal) = _
  unfold Ideal.fptosi Ideal.toIntClamped
  have h0 : (0 : ℝ) ≤ (n : ℝ) := Nat.cast_nonneg n
  show BitVec.ofInt 32 (max _ (min _ (if (0 : ℝ) ≤ (n : ℝ) then ⌊(n : ℝ)⌋ else ⌈(n : ℝ)⌉))) = _
  rw [if_pos h0, Int.floor_natCast]
  have e : max (-((2 ^ (32 - 1) : ℕ) : ℤ)) (min (((2 ^ (32 - 1) : ℕ) : ℤ) - 1) (n : ℤ)) = (n : ℤ) := by
    norm_num
    omega
  rw [e, BitVec.ofInt_natCast]

/-! ## The packing weights

Row `r` of the weights is `2 ^ (c % 16)` at the 16 columns `c` of the half word it packs, and 0 at every other column. -/

theorem shr (c k n : ℕ) (hc : c < 4294967296) (hk : k < 32) (hn : n = 2 ^ k) :
    IntOp.shrui .vector (BitVec.ofNat 32 c) (BitVec.ofNat 32 k) = BitVec.ofNat 32 (c / n) := by
  have hk' : (BitVec.ofNat 32 k).toNat = k := by rw [BitVec.toNat_ofNat]; omega
  unfold IntOp.shrui
  rw [if_pos (by rw [hk']; exact hk)]
  apply BitVec.eq_of_toNat_eq
  have : c / n ≤ c := Nat.div_le_self _ _
  rw [BitVec.ushiftRight_eq', BitVec.toNat_ushiftRight, hk', BitVec.toNat_ofNat, BitVec.toNat_ofNat, Nat.shiftRight_eq_div_pow,
    Nat.mod_eq_of_lt (by omega), ← hn, Nat.mod_eq_of_lt (by omega)]

theorem low (c k n : ℕ) (hc : c < 4294967296) (hk : k < 32) (hn : n = 2 ^ k - 1) :
    IntOp.andi (BitVec.ofNat 32 c) (BitVec.ofNat 32 n) = BitVec.ofNat 32 (c % 2 ^ k) := by
  unfold IntOp.andi
  apply BitVec.eq_of_toNat_eq
  have h1 : 2 ^ k ≤ 2 ^ 31 := Nat.pow_le_pow_right (by omega) (by omega)
  have h2 : c % 2 ^ k ≤ c := Nat.mod_le _ _
  rw [BitVec.toNat_and, BitVec.toNat_ofNat, BitVec.toNat_ofNat, BitVec.toNat_ofNat, Nat.mod_eq_of_lt (a := c) (by omega),
    Nat.mod_eq_of_lt (a := n) (by omega), hn, Nat.and_two_pow_sub_one_eq_mod, Nat.mod_eq_of_lt (lt_of_le_of_lt h2 (by omega))]

theorem eq_word (a b : ℕ) (ha : a < 4294967296) (hb : b < 4294967296) :
    IntOp.cmpi .eq (BitVec.ofNat 32 a) (BitVec.ofNat 32 b) = if a = b then 1#1 else 0#1 := by
  unfold IntOp.cmpi
  by_cases h : a = b
  · subst h
    simp
  · have h' : BitVec.ofNat 32 a ≠ BitVec.ofNat 32 b := fun e => h (by
      have := congrArg BitVec.toNat e
      rw [BitVec.toNat_ofNat, BitVec.toNat_ofNat] at this
      omega)
    rw [if_neg h]
    show BitVec.ofBool (BitVec.ofNat 32 a == BitVec.ofNat 32 b) = 0#1
    rw [beq_eq_false_iff_ne.mpr h']
    rfl

theorem power (j : ℕ) (hj : j < 16) :
    (FloatOps.sitofp (F := Ideal) .f32 (IntOp.shli .vector 1#32 (BitVec.ofNat 32 j)) : EReal) = (((2 ^ j : ℕ) : ℝ) : EReal) := by
  show (((IntOp.shli .vector 1#32 (BitVec.ofNat 32 j)).toInt : ℝ) : EReal) = _
  have e : (IntOp.shli .vector 1#32 (BitVec.ofNat 32 j)).toInt = ((2 ^ j : ℕ) : ℤ) := by
    unfold IntOp.shli
    interval_cases j <;> decide +kernel
  rw [e, Int.cast_natCast]

theorem weight (r c : ℕ) (hr : r < 128) (hc : c < 2048) :
    Scalar.select
        (IntOp.andi
          (IntOp.cmpi .eq (IntOp.shrui .vector (BitVec.ofNat 32 c) 5#32) (IntOp.andi (BitVec.ofNat 32 r) 63#32))
          (IntOp.cmpi .eq (IntOp.andi (IntOp.shrui .vector (BitVec.ofNat 32 c) 4#32) 1#32) (IntOp.shrui .vector (BitVec.ofNat 32 r) 6#32)))
        (FloatOps.sitofp (F := Ideal) .f32 (IntOp.shli .vector 1#32 (IntOp.andi (BitVec.ofNat 32 c) 15#32)) : EReal) 0
      = if c / 16 = 2 * (r % 64) + r / 64 then (((2 ^ (c % 16) : ℕ) : ℝ) : EReal) else 0 := by
  rw [shr c 5 32 (by omega) (by omega) rfl, shr c 4 16 (by omega) (by omega) rfl, shr r 6 64 (by omega) (by omega) rfl,
    low r 6 63 (by omega) (by omega) rfl, low (c / 16) 1 1 (by omega) (by omega) rfl, low c 4 15 (by omega) (by omega) rfl,
    eq_word _ _ (by omega) (by omega), eq_word _ _ (by omega) (by omega), power _ (by omega)]
  unfold Scalar.select IntOp.andi
  by_cases h1 : c / 32 = r % 2 ^ 6
  · by_cases h2 : c / 16 % 2 ^ 1 = r / 64
    · rw [if_pos h1, if_pos h2, if_pos (show c / 16 = 2 * (r % 64) + r / 64 by omega), if_pos (by decide)]
      rfl
    · rw [if_pos h1, if_neg h2, if_neg (show ¬ c / 16 = 2 * (r % 64) + r / 64 by omega), if_neg (by decide)]
  · rw [if_neg h1, if_neg (show ¬ c / 16 = 2 * (r % 64) + r / 64 by omega)]
    by_cases h2 : c / 16 % 2 ^ 1 = r / 64
    · rw [if_pos h2, if_neg (by decide)]
    · rw [if_neg h2, if_neg (by decide)]

theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A row of weights against a row of zeros and ones: the number the 16 signs spell. -/
theorem weighted (a : ℕ) (ha : a < 128) (p : Fin 2048 → Prop) [DecidablePred p] :
    (∑ c : Fin 2048, (if c.val / 16 = a then (((2 ^ (c.val % 16) : ℕ) : ℝ) : EReal) else 0) * (if p c then (1 : EReal) else 0))
      = ((((∑ j : Fin 16, if p ⟨16 * a + j.val, by omega⟩ then 2 ^ j.val else 0 : ℕ)) : ℝ) : EReal) := by
  rw [← (finProdFinEquiv (m := 128) (n := 16)).sum_comp, Fintype.sum_prod_type,
    Finset.sum_eq_single (⟨a, ha⟩ : Fin 128) ?_ (fun h => absurd (Finset.mem_univ _) h)]
  · rw [Nat.cast_sum, coe_sum]
    refine Finset.sum_congr rfl fun j _ => ?_
    have e : finProdFinEquiv ((⟨a, ha⟩ : Fin 128), j) = (⟨16 * a + j.val, by omega⟩ : Fin 2048) :=
      Fin.ext (by show j.val + 16 * a = 16 * a + j.val; omega)
    rw [e, if_pos (by show (16 * a + j.val) / 16 = a; omega)]
    have e2 : (16 * a + j.val) % 16 = j.val := by omega
    by_cases hp : p ⟨16 * a + j.val, by omega⟩
    · rw [if_pos hp, if_pos hp, mul_one]
      show (((2 ^ ((16 * a + j.val) % 16) : ℕ) : ℝ) : EReal) = _
      rw [e2]
    · rw [if_neg hp, if_neg hp, mul_zero, Nat.cast_zero, EReal.coe_zero]
  · intro b _ hb
    refine Finset.sum_eq_zero fun j _ => ?_
    have e : (finProdFinEquiv (b, j)).val / 16 = b.val := by
      show (j.val + 16 * b.val) / 16 = b.val
      omega
    rw [if_neg (by rw [e]; exact fun h => hb (Fin.ext h)), zero_mul]

/-- Sixteen binary digits spell a number below `2 ^ 16`. -/
theorem digits_lt (p : Fin 16 → Prop) [DecidablePred p] : (∑ j : Fin 16, if p j then 2 ^ j.val else 0) < 65536 := by
  refine lt_of_le_of_lt (Finset.sum_le_sum (g := fun j : Fin 16 => 2 ^ j.val) fun j _ => ?_) (by decide +kernel)
  split <;> simp

/-- Thirty-two digits are the low sixteen and the high sixteen. -/
theorem digits_split (p : Fin 32 → Prop) [DecidablePred p] :
    (∑ j : Fin 32, if p j then 2 ^ j.val else 0)
      = (∑ j : Fin 16, if p ⟨j.val, by omega⟩ then 2 ^ j.val else 0)
        + 65536 * ∑ j : Fin 16, if p ⟨16 + j.val, by omega⟩ then 2 ^ j.val else 0 := by
  rw [Finset.mul_sum]
  refine (Fin.sum_univ_add (a := 16) (b := 16) (fun j : Fin 32 => if p j then 2 ^ j.val else 0)).trans (congrArg₂ (· + ·) rfl ?_)
  refine Finset.sum_congr rfl fun j _ => ?_
  show (if p ⟨16 + j.val, _⟩ then 2 ^ (16 + j.val) else 0) = _
  by_cases hp : p ⟨16 + j.val, by omega⟩
  · rw [if_pos hp, if_pos hp, pow_add]
    rfl
  · rw [if_neg hp, if_neg hp, mul_zero]

end Cert.PrepWords

end
-- ==== Proof.PrepSpec.lean ====
/-
  The query side at an element: the row scale, the int8 code and the packed word of sign bits. Both programs' arithmetic,
  read at an element, is the same; the packed word is the number whose binary digits are 32 neighbouring signs of a row.
-/
module

public import proofs.«01_k».proof.Proof.Gen.PrepIdeal.Skeleton
public import proofs.«01_k».proof.Proof.Gen.PrepReferenceIdeal.Read
public import proofs.«01_k».proof.Proof.PrepWords
public import Idealize.ShloMosaic.Lib.Pipeline.ValueKit

@[expose] public section

set_option maxRecDepth 16384

noncomputable section

namespace Cert.PrepSpec

open Idealize.ShloMosaic Idealize.ShloMosaic.TcCoe
open Cert.PrepReferenceIdeal (S1024x2048 S2x64x512)
open Cert.PrepIdeal (S256x2048 S128x2048)

/-! ## Scale and codes -/

section
variable {F : FTy → Type} [FloatOps F]

/-- The scale of a row whose largest magnitude is `a`. -/
def scaleOf (a : F .f32) : F .f32 :=
  Scalar.select (FloatOps.cmpf .ogt a (Scalar.ofBits .f32 0x00000000#32)) (FloatOps.divf a (Scalar.ofBits .f32 0x42FE0000#32))
    (Scalar.ofBits .f32 0x3F800000#32)

/-- The code of a coordinate in a row of scale `s`. -/
def codeOf (v : F .bf16) (s : F .f32) : BitVec 8 :=
  FloatOps.fptosi 8 (FloatOps.minimumf (Scalar.ofBits .f32 0x42FE0000#32) (FloatOps.maximumf (Scalar.ofBits .f32 0xC2FE0000#32)
    (FloatOps.roundeven (FloatOps.divf (FloatOps.extf .f32 PrepIdeal.Gen.bitsLt_bf16_f32 v) s))))

theorem kernel_scale (b : Vec F S256x2048 .bf16) (k : Fin 256) :
    PrepIdeal.Gen.k0_pay4 b (ix2 k 0) = scaleOf (shapeCast PrepIdeal.S256x1 (multiReduction .maximumf [1] PrepIdeal.S256 (absf (PrepIdeal.Gen.k0_pay3 b)) 0xFF800000#32 PrepIdeal.Gen.reduces_S256x2048_S256 (.inl rfl) rfl) PrepIdeal.Gen.shapeCasts_S256_S256x1 (ix2 k 0)) := rfl

theorem reference_scale (x : Vec F S1024x2048 .bf16) (r : Fin 1024) :
    PrepReferenceIdeal.Gen.k0_pay2 x (ix2 r 0) = scaleOf (shapeCast PrepReferenceIdeal.S1024x1 (multiReduction .maximumf [1] PrepReferenceIdeal.S1024 (absf (PrepReferenceIdeal.Gen.k0_pay1 x)) 0xFF800000#32 PrepReferenceIdeal.Gen.reduces_S1024x2048_S1024 (.inl rfl) rfl) PrepReferenceIdeal.Gen.shapeCasts_S1024_S1024x1 (ix2 r 0)) := rfl

theorem kernel_code (b : Vec F S256x2048 .bf16) (k : Fin 256) (n : Fin 2048) :
    PrepIdeal.Gen.k0_pay5 b (ix2 k n)
      = codeOf (b (ix2 k n)) (broadcastTo PrepIdeal.S256x2048 (PrepIdeal.Gen.k0_pay4 b) PrepIdeal.Gen.broadcasts_S256x1_S256x2048 (ix2 k n)) := rfl

theorem reference_code (x : Vec F S1024x2048 .bf16) (r : Fin 1024) (n : Fin 2048) :
    PrepReferenceIdeal.Gen.k0_pay3 x (ix2 r n)
      = codeOf (x (ix2 r n)) (broadcastTo PrepReferenceIdeal.S1024x2048 (PrepReferenceIdeal.Gen.k0_pay2 x) PrepReferenceIdeal.Gen.broadcasts_S1024x1_S1024x2048 (ix2 r n)) := rfl

end

/-- Equal rows have equal largest elements, whatever the array around them. -/
theorem rowMax (b : FVec Ideal S256x2048 .f32) (x : FVec Ideal S1024x2048 .f32) (k : Fin 256) (r : Fin 1024)
    (h : ∀ n : Fin 2048, b (ix2 k n) = x (ix2 r n)) :
    multiReduction .maximumf [1] PrepIdeal.S256 b 0xFF800000#32 PrepIdeal.Gen.reduces_S256x2048_S256 (.inl rfl) rfl (ix1 k)
      = multiReduction .maximumf [1] PrepReferenceIdeal.S1024 x 0xFF800000#32 PrepReferenceIdeal.Gen.reduces_S1024x2048_S1024 (.inl rfl) rfl (ix1 r) := by
  refine (multiReduction_maximumf_eq_fold _ _ _ _ _ _).trans (Eq.trans ?_ (multiReduction_maximumf_eq_fold _ _ _ _ _ _).symm)
  refine (Shape.Reduces.fold_fiber_r2_a1 _ _ _ _ _).trans (Eq.trans ?_ (Shape.Reduces.fold_fiber_r2_a1 _ _ _ _ _).symm)
  refine Finset.fold_congr fun n _ => ?_
  exact h n

/-- A row's scale: the kernel's on a block whose row is the array's is the reference's. -/
theorem scale (b : FVec Ideal S256x2048 .bf16) (x : FVec Ideal S1024x2048 .bf16) (k : Fin 256) (r : Fin 1024)
    (h : ∀ n : Fin 2048, b (ix2 k n) = x (ix2 r n)) :
    PrepIdeal.Gen.k0_pay4 (F := Ideal) b (ix2 k 0) = PrepReferenceIdeal.Gen.k0_pay2 (F := Ideal) x (ix2 r 0) := by
  rw [kernel_scale, reference_scale]
  refine congrArg scaleOf ?_
  rw [shapeCast_apply _ _ (ix2 k 0) (ix1 k) rfl, shapeCast_apply _ _ (ix2 r 0) (ix1 r) rfl]
  refine rowMax _ _ k r fun n => ?_
  show FloatOps.absf (F := Ideal) (FloatOps.extf _ _ (b _)) = FloatOps.absf (F := Ideal) (FloatOps.extf _ _ (x _))
  rw [h n]

/-- An element's code, likewise. -/
theorem code (b : FVec Ideal S256x2048 .bf16) (x : FVec Ideal S1024x2048 .bf16) (k : Fin 256) (r : Fin 1024)
    (h : ∀ n : Fin 2048, b (ix2 k n) = x (ix2 r n)) (n : Fin 2048) :
    PrepIdeal.Gen.k0_pay5 (F := Ideal) b (ix2 k n) = PrepReferenceIdeal.Gen.k0_pay3 (F := Ideal) x (ix2 r n) := by
  have hs := scale b x k r h
  rw [kernel_code, reference_code, h n]
  refine congrArg (codeOf (x (ix2 r n))) ?_
  generalize PrepIdeal.Gen.k0_pay4 (F := Ideal) b = s at hs ⊢
  generalize PrepReferenceIdeal.Gen.k0_pay2 (F := Ideal) x = s' at hs ⊢
  pointwise
  exact hs

/-! ## The packed word -/

/-- The number the reference packs into word `w` of row `r`: digit `j` is the sign of coordinate `32 w + j`. -/
def word (x : FVec Ideal S1024x2048 .bf16) (r : Fin 1024) (w : Fin 64) : ℕ :=
  ∑ j : Fin 32, if (0 : EReal) < x (ix2 r ⟨32 * w.val + j.val, by omega⟩) then 2 ^ j.val else 0

theorem weights (r : Fin 128) (c : Fin 2048) :
    (PrepIdeal.Gen.k0_pay2 (F := Ideal) (ix2 r c) : EReal)
      = if c.val / 16 = 2 * (r.val % 64) + r.val / 64 then (((2 ^ (c.val % 16) : ℕ) : ℝ) : EReal) else 0 := by
  refine Eq.trans ?_ (PrepWords.weight r.val c.val r.isLt c.isLt)
  pointwise [PrepIdeal.Gen.k0_pay2]

/-- Half a word: a row of weights against a row's signs. -/
theorem half (b : FVec Ideal S256x2048 .bf16) (x : FVec Ideal S1024x2048 .bf16) (k : Fin 256) (r : Fin 1024)
    (h : ∀ n : Fin 2048, b (ix2 k n) = x (ix2 r n)) (s : Fin 128) (a : ℕ) (ha : a < 128) (hs : a = 2 * (s.val % 64) + s.val / 64) :
    (∑ n : Fin 2048, (PrepIdeal.Gen.k0_pay2 (F := Ideal) (ix2 s n) : EReal) * (if (0 : EReal) < b (ix2 k n) then (1 : EReal) else 0))
      = ((((∑ j : Fin 16, if (0 : EReal) < x (ix2 r ⟨16 * a + j.val, by omega⟩) then 2 ^ j.val else 0 : ℕ)) : ℝ) : EReal) := by
  refine Eq.trans (Finset.sum_congr rfl fun n _ => ?_) (PrepWords.weighted a ha fun n => (0 : EReal) < x (ix2 r n))
  rw [weights, h n, hs]

/-- The word the kernel packs is the reference's number. -/
theorem kernel_word (b : FVec Ideal S256x2048 .bf16) (x : FVec Ideal S1024x2048 .bf16) (k : Fin 256) (r : Fin 1024)
    (h : ∀ n : Fin 2048, b (ix2 k n) = x (ix2 r n)) (w : Fin 64) :
    PrepIdeal.Gen.k0_pay9 (F := Ideal) (PrepIdeal.Gen.k0_pay6 (F := Ideal) b) (PrepIdeal.Gen.k0_pay2 (F := Ideal)) (ix3 0 w k)
      = BitVec.ofNat 32 (word x r w) := by
  generalize hW : PrepIdeal.Gen.k0_pay2 (F := Ideal) = W
  pointwise [PrepIdeal.Gen.k0_pay9, PrepIdeal.Gen.k0_pay8, PrepIdeal.Gen.k0_pay6, PrepIdeal.Gen.k0_pay3]
  subst hW
  have hw := w.isLt
  rw [half b x k r h _ (2 * w.val) (by omega) (by show 2 * w.val = 2 * (w.val % 64) + w.val / 64; omega),
    half b x k r h _ (2 * w.val + 1) (by omega) (by show 2 * w.val + 1 = 2 * ((64 + w.val) % 64) + (64 + w.val) / 64; omega),
    PrepWords.fptosi_nat _ (PrepWords.digits_lt fun j => (0 : EReal) < x (ix2 r ⟨16 * (2 * w.val) + j.val, by omega⟩)),
    PrepWords.fptosi_nat _ (PrepWords.digits_lt fun j => (0 : EReal) < x (ix2 r ⟨16 * (2 * w.val + 1) + j.val, by omega⟩)),
    PrepWords.shl_or _ _ (PrepWords.digits_lt fun j => (0 : EReal) < x (ix2 r ⟨16 * (2 * w.val) + j.val, by omega⟩))]
  refine congrArg (BitVec.ofNat 32) ?_
  refine Eq.trans ?_ (PrepWords.digits_split fun j => (0 : EReal) < x (ix2 r ⟨32 * w.val + j.val, by omega⟩)).symm
  refine congrArg₂ (fun u v => u + 65536 * v) ?_ ?_
  all_goals
    refine Finset.sum_congr rfl fun j _ => ?_
    refine congrArg (fun n => if (0 : EReal) < x (ix2 r n) then 2 ^ j.val else 0) (Fin.ext ?_)
    dsimp only
    omega

/-- The reference's word, at row `512 a + q`. -/
theorem reference_word (x : FVec Ideal S1024x2048 .bf16) (i : S2x64x512.Idx) (r : Fin 1024) (w : Fin 64)
    (hr : r.val = 512 * i 0 + i 2) (hw : w.val = i 1) :
    PrepReferenceIdeal.Read.val_main_v15 (F := Ideal) x i = BitVec.ofNat 32 (word x r w) := by
  rw [PrepReferenceIdeal.Read.val_main_v15_apply]
  unfold PrepReferenceIdeal.Read.val_main_v9
  refine Eq.trans ?_ (PrepWords.fold_addi fun j : Fin 32 => if (0 : EReal) < x (ix2 r ⟨32 * w.val + j.val, by omega⟩) then 2 ^ j.val else 0)
  pointwise
  refine Finset.fold_congr fun j _ => ?_
  rw [← PrepWords.shifted _ _ j.isLt]
  have h0 : (i 0 : ℕ) < 2 := (i 0).isLt
  have h1 : (i 1 : ℕ) < 64 := (i 1).isLt
  have h2 : (i 2 : ℕ) < 512 := (i 2).isLt
  have hj : j.val < 32 := j.isLt
  have e : PrepReferenceIdeal.Read.idx_main_v4 (ix4 (i 0) (i 2) (i 1) j) = ix2 r (⟨32 * w.val + j.val, by omega⟩ : Fin 2048) := by
    funext a
    match a with
    | ⟨0, _⟩ =>
      refine Fin.ext ?_
      show ((((i 0).val * 512 + (i 2).val) * 64 + (i 1).val) * 32 + j.val) / 2048 = r.val
      omega
    | ⟨1, _⟩ =>
      refine Fin.ext ?_
      show ((((i 0).val * 512 + (i 2).val) * 64 + (i 1).val) * 32 + j.val) % 2048 = 32 * w.val + j.val
      omega
  rw [PrepReferenceIdeal.Read.val_main_v8_apply, PrepReferenceIdeal.Read.val_main_v4_apply, e,
    PrepReferenceIdeal.Read.val_main_v3_apply, PrepReferenceIdeal.Read.val_main_v2_apply,
    PrepReferenceIdeal.Read.val_main_v7_apply, PrepReferenceIdeal.Read.val_main_v6_apply, PrepReferenceIdeal.Read.val_main_v5_apply,
    PrepReferenceIdeal.Read.val_main_v1_apply, PrepReferenceIdeal.Read.val_main_cst_apply]
  refine congrArg₂ (IntOp.shli .host) (congrArg (BitVec.setWidth 32) ?_) rfl
  pointwise
  by_cases hp : (0 : EReal) < x (ix2 r ⟨32 * w.val + j.val, by omega⟩)
  · rw [if_pos hp, decide_eq_true hp]
    rfl
  · rw [if_neg hp, decide_eq_false hp]
    rfl

/-! ## The count of ones -/

/-- The positive coordinates of row `r`. -/
def positives (x : FVec Ideal S1024x2048 .bf16) (r : Fin 1024) : ℕ := ∑ n : Fin 2048, if (0 : EReal) < x (ix2 r n) then 1 else 0

theorem positives_lt (x : FVec Ideal S1024x2048 .bf16) (r : Fin 1024) : positives x r < 65536 := by
  refine lt_of_le_of_lt (Finset.sum_le_sum (g := fun _ => 1) fun n _ => ?_) (by simp)
  split <;> simp

/-- The count the kernel takes. -/
theorem kernel_count (b : FVec Ideal S256x2048 .bf16) (x : FVec Ideal S1024x2048 .bf16) (k : Fin 256) (r : Fin 1024)
    (h : ∀ n : Fin 2048, b (ix2 k n) = x (ix2 r n)) :
    PrepIdeal.Gen.k0_pay7 (F := Ideal) b (ix2 k 0) = BitVec.ofNat 32 (positives x r) := by
  rw [← PrepWords.fptosi_nat _ (positives_lt x r)]
  pointwise [PrepIdeal.Gen.k0_pay7, PrepIdeal.Gen.k0_pay6, PrepIdeal.Gen.k0_pay3]
  refine congrArg (fun e : EReal => FloatOps.fptosi (F := Ideal) (φ := .f32) 32 e) ?_
  unfold positives
  rw [Nat.cast_sum, PrepWords.coe_sum]
  refine Finset.sum_congr rfl fun n _ => ?_
  rw [h n]
  by_cases hp : (0 : EReal) < x (ix2 r n)
  · rw [if_pos hp, if_pos hp]; simp
  · rw [if_neg hp, if_neg hp]; simp

/-- The count the reference takes. -/
theorem reference_count (x : FVec Ideal S1024x2048 .bf16) (r : Fin 1024) :
    PrepReferenceIdeal.Read.val_main_v14 (F := Ideal) x (ix2 r 0) = BitVec.ofNat 32 (positives x r) := by
  rw [PrepReferenceIdeal.Read.val_main_v14_apply]
  unfold PrepReferenceIdeal.Read.val_main_v13
  refine Eq.trans ?_ (PrepWords.fold_addi fun n : Fin 2048 => if (0 : EReal) < x (ix2 r n) then 1 else 0)
  pointwise
  refine Finset.fold_congr fun n _ => ?_
  rw [PrepReferenceIdeal.Read.val_main_v12_apply, PrepReferenceIdeal.Read.val_main_v11_apply, PrepReferenceIdeal.Read.val_main_v10_apply,
    PrepReferenceIdeal.Read.val_main_cst_0_apply]
  pointwise
  by_cases hp : (0 : EReal) < x (ix2 r n)
  · rw [if_pos hp, decide_eq_true hp]
    rfl
  · rw [if_neg hp, decide_eq_false hp]
    rfl

end Cert.PrepSpec

end
-- ==== Proof.PrepValue.lean ====
/-
  What the query side's kernel leaves in its result arrays: the codes, the row scales, the packed sign words and the
  counts of ones of the argument. The kernel builds the packing weights at its first grid point and keeps them; they are the same at every point.
-/
module

public import proofs.«01_k».proof.Proof.Gen.PrepIdeal.Value
public import proofs.«01_k».proof.Proof.PrepSpec
public import Idealize.ShloMosaic.Lib.Pipeline.ValueKit

@[expose] public section

set_option maxRecDepth 16384

noncomputable section

namespace Cert.PrepValue

open Cert.PrepIdeal Cert.PrepIdeal.Gen
open Idealize.ShloMosaic Idealize.ShloMosaic.TcCoe Idealize.SL.Sem
open Idealize.ShloMosaic.Pipeline (Dat)

variable (m : (ℓ : Loc nD τ sig) → Buf (Elt Ideal) ℓ)

/-- Every window's block index. -/
theorem idx : ∀ t : Fin cfg0.N, win0_0.index t = ![t.val, 0] ∧ win0_1.index t = ![t.val, 0] ∧ win0_2.index t = ![t.val, 0]
    ∧ win0_3.index t = ![t.val / 2, 0, t.val % 2] ∧ win0_4.index t = ![t.val, 0] :=
  (by decide +kernel : ∀ t : Fin grid0.N, _)

/-- The argument at its own type. -/
abbrev arg (c : Dev nD) : FVec Ideal PrepReferenceIdeal.S1024x2048 .bf16 := m ((c : Thread nD τ).loc main_arg0)

/-- A row of a point's block is the argument's. -/
theorem row (c : Dev nD) (t : Fin cfg0.N) (k : Fin 256) (r : Fin 1024) (hr : r.val = t.val * 256 + k.val) (n : Fin 2048) :
    iblk m c 0 t (ix2 k n) = arg m c (ix2 r n) := by
  blk_ext [iblk, V, idx t]

/-- The carried scratch holds the weights after every point. -/
theorem carried (c : Dev nD) (n : ℕ) (hn : n < cfg0.N) : (outsAt0 m c n hn).2.2.2.2.2 = k0_pay2 (F := Ideal) := by
  induction n with
  | zero =>
    rw [outsAt0_A m c ⟨0, hn⟩ rfl]
    frame_out
  | succ n ih =>
    have hN : cfg0.N = 4 := N_0
    rw [outsAt0_B m c ⟨n + 1, hn⟩ (by dsimp only; omega)]
    exact ih (Nat.lt_of_succ_lt hn)

/-- The codes a point leaves. -/
theorem codesAt (c : Dev nD) (t : Fin cfg0.N) : (outsAt0 m c t.val t.isLt).1 = k0_pay5 (F := Ideal) (iblk m c 0 t) := by
  by_cases h : t.val % 4 = 0
  · rw [outsAt0_A m c t h]
    frame_out
  · rw [outsAt0_B m c t h]
    frame_out

/-- The scales a point leaves. -/
theorem scalesAt (c : Dev nD) (t : Fin cfg0.N) : (outsAt0 m c t.val t.isLt).2.1 = k0_pay4 (F := Ideal) (iblk m c 0 t) := by
  by_cases h : t.val % 4 = 0
  · rw [outsAt0_A m c t h]
    frame_out
  · rw [outsAt0_B m c t h]
    frame_out

/-- The packed words a point leaves. -/
theorem wordsAt (c : Dev nD) (t : Fin cfg0.N) : (outsAt0 m c t.val t.isLt).2.2.1
    = k0_pay9 (F := Ideal) (k0_pay6 (F := Ideal) (iblk m c 0 t)) (k0_pay2 (F := Ideal)) := by
  by_cases h : t.val % 4 = 0
  · rw [outsAt0_A m c t h]
    frame_out
  · rw [outsAt0_B m c t h, carried m c (t.val - 1)]
    frame_out
    exact congrArg (k0_pay9 (F := Ideal) (k0_pay6 (F := Ideal) (iblk m c 0 t))) (Memref.IsWhole.read_unread _ _)

/-- The counts of ones a point leaves. -/
theorem onesAt (c : Dev nD) (t : Fin cfg0.N) : (outsAt0 m c t.val t.isLt).2.2.2.1 = k0_pay7 (F := Ideal) (iblk m c 0 t) := by
  by_cases h : t.val % 4 = 0
  · rw [outsAt0_A m c t h]
    frame_out
  · rw [outsAt0_B m c t h]
    frame_out

theorem point_lt (t : Fin cfg0.N) : t.val < 4 := lt_of_lt_of_eq t.isLt N_0

/-- The array's row that row `k` of point `t`'s block is. -/
abbrev rowOf (t : Fin cfg0.N) (k : Fin 256) : Fin 1024 := ⟨t.val * 256 + k.val, by have := point_lt t; omega⟩

theorem codesBlock (c : Dev nD) (t : Fin cfg0.N) (y : S256x2048.Idx) :
    k0_pay5 (F := Ideal) (iblk m c 0 t) y = PrepReferenceIdeal.Gen.k0_pay3 (F := Ideal) (arg m c) (ix2 (rowOf t (y 0)) (y 1)) := by
  idx_vars y
  exact PrepSpec.code _ (arg m c) _ _ (row m c t _ _ rfl) _

theorem scalesBlock (c : Dev nD) (t : Fin cfg0.N) (y : S256x1.Idx) :
    k0_pay4 (F := Ideal) (iblk m c 0 t) y = PrepReferenceIdeal.Gen.k0_pay2 (F := Ideal) (arg m c) (ix2 (rowOf t (y 0)) 0) := by
  idx_vars y
  obtain rfl : y1 = 0 := Subsingleton.elim _ _
  exact PrepSpec.scale _ (arg m c) _ _ (row m c t _ _ rfl)

theorem wordsBlock (c : Dev nD) (t : Fin cfg0.N) (y : S1x64x256.Idx) (i : S2x64x512.Idx)
    (hr : 512 * (i 0 : ℕ) + i 2 = t.val * 256 + y 2) (hw : (i 1 : ℕ) = y 1) :
    k0_pay9 (F := Ideal) (k0_pay6 (F := Ideal) (iblk m c 0 t)) (k0_pay2 (F := Ideal)) y
      = PrepReferenceIdeal.Read.val_main_v15 (F := Ideal) (arg m c) i := by
  rw [PrepSpec.reference_word (arg m c) i (rowOf t (y 2)) (y 1) hr.symm hw.symm]
  idx_vars y
  obtain rfl : y0 = 0 := Subsingleton.elim _ _
  exact PrepSpec.kernel_word _ (arg m c) _ _ (row m c t _ _ rfl) _

theorem onesBlock (c : Dev nD) (t : Fin cfg0.N) (y : S256x1.Idx) :
    k0_pay7 (F := Ideal) (iblk m c 0 t) y = PrepReferenceIdeal.Read.val_main_v14 (F := Ideal) (arg m c) (ix2 (rowOf t (y 0)) 0) := by
  idx_vars y
  obtain rfl : y1 = 0 := Subsingleton.elim _ _
  exact (PrepSpec.kernel_count _ (arg m c) _ _ (row m c t _ _ rfl)).trans (PrepSpec.reference_count (arg m c) _).symm

/-- The codes' array after the run. -/
theorem codes (c : Dev nD) : (dats m 0 c).arrAt 1 cfg0.N = PrepReferenceIdeal.Gen.k0_pay3 (F := Ideal) (arg m c) := by
  refine (dats m 0 c).arrAt_eq_of_covers 1 _ (by decide +kernel) (fun t hf y => ?_)
  blk_simp
  rw [after0_1, codesAt]
  refine (codesBlock m c t y).trans (congrArg _ ?_)
  funext a
  match a with
  | ⟨0, _⟩ => exact Fin.ext (by blk_simp [idx t] <;> rfl)
  | ⟨1, _⟩ => exact Fin.ext (by blk_simp [idx t] <;> rfl)

/-- The scales' array after the run. -/
theorem scales (c : Dev nD) : (dats m 0 c).arrAt 2 cfg0.N = PrepReferenceIdeal.Gen.k0_pay2 (F := Ideal) (arg m c) := by
  refine (dats m 0 c).arrAt_eq_of_covers 2 _ (by decide +kernel) (fun t hf y => ?_)
  blk_simp
  rw [after0_2, scalesAt]
  refine (scalesBlock m c t y).trans (congrArg _ ?_)
  funext a
  match a with
  | ⟨0, _⟩ => exact Fin.ext (by blk_simp [idx t] <;> rfl)
  | ⟨1, _⟩ => exact Fin.ext (by blk_simp [idx t] <;> rfl)

/-- The words' array after the run. -/
theorem words (c : Dev nD) : (dats m 0 c).arrAt 3 cfg0.N = PrepReferenceIdeal.Read.val_main_v15 (F := Ideal) (arg m c) := by
  refine (dats m 0 c).arrAt_eq_of_covers 3 _ (by decide +kernel) (fun t hf y => ?_)
  blk_simp
  rw [after0_3, wordsAt]
  have ht := point_lt t
  refine wordsBlock m c t y _ ?_ ?_
  · blk_simp [idx t] <;> try omega
  · blk_simp [idx t] <;> try omega

/-- The counts' array after the run. -/
theorem ones (c : Dev nD) : (dats m 0 c).arrAt 4 cfg0.N = PrepReferenceIdeal.Read.val_main_v14 (F := Ideal) (arg m c) := by
  refine (dats m 0 c).arrAt_eq_of_covers 4 _ (by decide +kernel) (fun t hf y => ?_)
  blk_simp
  rw [after0_4, onesAt]
  refine (onesBlock m c t y).trans (congrArg _ ?_)
  funext a
  match a with
  | ⟨0, _⟩ => exact Fin.ext (by blk_simp [idx t] <;> rfl)
  | ⟨1, _⟩ => exact Fin.ext (by blk_simp [idx t] <;> rfl)

end Cert.PrepValue

end
-- ==== Proof.PrepReference.lean ====
/-
  What the query side's reference computes: the region's two result arrays are the quantiser on the whole argument.
-/
module

public import proofs.«01_k».proof.Proof.Gen.PrepReferenceIdeal.Read
public import Idealize.ShloMosaic.Lib.Pipeline.ValueKit

@[expose] public section

set_option maxRecDepth 16384

noncomputable section

namespace Cert.PrepReference

open Cert.PrepReferenceIdeal Cert.PrepReferenceIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

theorem codes (c : Dev nD) : Value.reg_main_v0_0 m c = k0_pay3 (F := Ideal) (m ((c : Thread nD τ).loc main_arg0)) := by
  unfold Value.reg_main_v0_0
  refine (dats m 0 c).arrAt_eq_of_after_last 1 t0_0 (by decide +kernel) _ fun j => ?_
  blk_simp
  rw [after0_1]
  frame_out
  blk_point [iblk, V, idx t0_0]

theorem scales (c : Dev nD) : Value.reg_main_v0_1 m c = k0_pay2 (F := Ideal) (m ((c : Thread nD τ).loc main_arg0)) := by
  unfold Value.reg_main_v0_1
  refine (dats m 0 c).arrAt_eq_of_after_last 2 t0_0 (by decide +kernel) _ fun j => ?_
  blk_simp
  rw [after0_2]
  frame_out
  blk_point [iblk, V, idx t0_0]

end Cert.PrepReference

end
-- ==== Proof.PrepClaim.lean ====
/-
  The query side's value claim: codes, row scales, packed sign words and counts of ones are the reference's on every argument.
-/
module

public import proofs.«01_k».proof.Defs
public import proofs.«01_k».proof.Proof.PrepValue
public import proofs.«01_k».proof.Proof.PrepReference
public import Idealize.ShloMosaic.Lib.Claim

@[expose] public section

set_option maxRecDepth 16384

noncomputable section

namespace Cert.PrepClaim

open Idealize.ShloMosaic Idealize.ShloMosaic.TcCoe Idealize.SL.Sem

theorem algebraic : Cert.algebraic_PrepIdeal_PrepReferenceIdeal
    (hPrepIdeal := PrepIdeal.Gen.facts) (hPrepReferenceIdeal := PrepReferenceIdeal.Gen.facts) := by
  intro m g m' g' _ hargs
  refine ⟨fun c => PrepReferenceIdeal.Gen.k0_pay3 (F := Ideal) (PrepValue.arg m c),
    fun c => PrepReferenceIdeal.Gen.k0_pay2 (F := Ideal) (PrepValue.arg m c),
    fun c => PrepReferenceIdeal.Read.val_main_v15 (F := Ideal) (PrepValue.arg m c),
    fun c => PrepReferenceIdeal.Read.val_main_v14 (F := Ideal) (PrepValue.arg m c), ?_, ?_⟩
  · refine (θ_run PrepIdeal.defs _ _).mono (fun r h c => ?_) (PrepIdeal.Gen.run_main m g)
    exact ⟨(PrepIdeal.Value.post1 m r h c).trans (PrepValue.codes m c), (PrepIdeal.Value.post2 m r h c).trans (PrepValue.scales m c),
      (PrepIdeal.Value.post3 m r h c).trans (PrepValue.words m c), (PrepIdeal.Value.post4 m r h c).trans (PrepValue.ones m c),
      PrepIdeal.Value.kept_main_arg0 m r h c⟩
  · refine (θ_run PrepReferenceIdeal.defs _ _).mono (fun r h c => ?_) (PrepReferenceIdeal.Value.run m' g')
    obtain ⟨h0, h1, h2, h3, h4⟩ := h c
    have e := hargs c
    refine ⟨h0.trans ((PrepReference.codes m' c).trans ?_), h1.trans ((PrepReference.scales m' c).trans ?_), h2.trans ?_, h3.trans ?_, h4⟩
    · rw [e]
    · rw [e]
    · rw [e]
      rfl
    · rw [e]
      rfl

end Cert.PrepClaim

end
-- ==== Proof.DistPrepBody.lean ====
/-
  The distance program's first call (`Dist`): the preparation kernel's body and its proof data.

  At each of four blocks of 256 queries the kernel writes the int8 codes, their scales, the packed sign bits, the count of the set bits
  and the query matrix of the distance product. The first point fills a scratch buffer with a constant matrix that every point uses.
  Everything here holds at any float values.
-/
module

public import proofs.«01_k».proof.Proof.Gen.Dist.Skeleton
public import proofs.«01_k».proof.Proof.Gen.Dist.Points
public import proofs.«01_k».proof.Proof.Gen.Dist.Launch
public import Idealize.ShloMosaic.Lib.Pipeline.FrameBody
public import Idealize.ShloMosaic.Lib.Pipeline.Value
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.DistPrepBody

open Cert.Dist Cert.Dist.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rCodes : Rect S256x2048 := Rect.unit (s := S256x2048) ![0, 0] S256x2048.size inb_S256x2048_S256x2048_0_0
abbrev rScratch : Rect S128x2048 := Rect.unit (s := S128x2048) ![0, 0] S128x2048.size inb_S128x2048_S128x2048_0_0
abbrev rCol : Rect S256x1 := Rect.unit (s := S256x1) ![0, 0] S256x1.size inb_S256x1_S256x1_0_0
abbrev rBits : Rect S1x64x256 := Rect.unit (s := S1x64x256) ![0, 0, 0] S1x64x256.size inb_S1x64x256_S1x64x256_0_0_0
abbrev rPiece0 : Rect S256x2048 := Rect.unit (s := S256x2048) ![0, 0] S256x256.size inb_S256x2048_S256x256_0_0
abbrev rPiece1 : Rect S256x2048 := Rect.unit (s := S256x2048) ![0, 256] S256x256.size inb_S256x2048_S256x256_0_256
abbrev rPiece2 : Rect S256x2048 := Rect.unit (s := S256x2048) ![0, 512] S256x256.size inb_S256x2048_S256x256_0_512
abbrev rPiece3 : Rect S256x2048 := Rect.unit (s := S256x2048) ![0, 768] S256x256.size inb_S256x2048_S256x256_0_768
abbrev rPiece4 : Rect S256x2048 := Rect.unit (s := S256x2048) ![0, 1024] S256x256.size inb_S256x2048_S256x256_0_1024
abbrev rPiece5 : Rect S256x2048 := Rect.unit (s := S256x2048) ![0, 1280] S256x256.size inb_S256x2048_S256x256_0_1280
abbrev rPiece6 : Rect S256x2048 := Rect.unit (s := S256x2048) ![0, 1536] S256x256.size inb_S256x2048_S256x256_0_1536
abbrev rPiece7 : Rect S256x2048 := Rect.unit (s := S256x2048) ![0, 1792] S256x256.size inb_S256x2048_S256x256_0_1792

theorem zero2 : (![0, 0] : Fin 2 → Nat) = fun _ => 0 := funext fun a => by fin_cases a <;> rfl
theorem zero3 : (![0, 0, 0] : Fin 3 → Nat) = fun _ => 0 := funext fun a => by fin_cases a <;> rfl

/-! ## What the body computes -/

/-- The packed bits, from the sign bits `b`. -/
def words (b : FVec F S256x2048 .f32) : IVec S64x256 32 := k0_pay8 b (k0_pay2 (F := F))
/-- The packed bits of a block, as stored. -/
def bitsOut (x : Vec F S256x2048 .bf16) : Vec F S1x64x256 .i32 := k0_pay9 (k0_pay6 x) (k0_pay2 (F := F))
/-- The query matrix, from the sign bits and the packed bits: piece `p` in columns `256 p` on. -/
def qmatOf (b : FVec F S256x2048 .f32) (w : IVec S64x256 32) : Vec F S256x2048 .fp8e4m3 :=
  View.canon [⟨rPiece7, k0_pay1 (k0_pay22 w k0_pay10) k0_pay23⟩, ⟨rPiece6, k0_pay21 w k0_pay10⟩, ⟨rPiece5, k0_pay20 w k0_pay10⟩, ⟨rPiece4, k0_pay19 (k0_pay17 w k0_pay10) k0_pay18⟩, ⟨rPiece3, k0_pay16 w k0_pay10⟩, ⟨rPiece2, k0_pay15 w k0_pay10⟩, ⟨rPiece1, k0_pay14 (k0_pay12 b (k0_pay2 (F := F))) k0_pay13⟩, ⟨rPiece0, k0_pay11 b (k0_pay2 (F := F))⟩]
/-- The query matrix of a block. -/
def qmatOut (x : Vec F S256x2048 .bf16) : Vec F S256x2048 .fp8e4m3 := qmatOf (k0_pay6 x) (words (k0_pay6 x))

/-- The eight pieces tile the block of the query matrix. -/
theorem cover_qmat (p0 p1 p2 p3 p4 p5 p6 p7 : Vec F S256x256 .fp8e4m3) (y : S256x2048.Idx) :
    ∃ pc ∈ ([⟨rPiece7, p7⟩, ⟨rPiece6, p6⟩, ⟨rPiece5, p5⟩, ⟨rPiece4, p4⟩, ⟨rPiece3, p3⟩, ⟨rPiece2, p2⟩, ⟨rPiece1, p1⟩, ⟨rPiece0, p0⟩] : List (View.Piece (Elt F) S256x2048 .fp8e4m3)), y ∈ pc.1.set :=
  View.cover_of_tiled [⟨rPiece7, p7⟩, ⟨rPiece6, p6⟩, ⟨rPiece5, p5⟩, ⟨rPiece4, p4⟩, ⟨rPiece3, p3⟩, ⟨rPiece2, p2⟩, ⟨rPiece1, p1⟩, ⟨rPiece0, p0⟩] S256x256.size (by rfl) y

/-- A load of a whole buffer reads the buffer. -/
theorem readAt_x {e : EltTy} (v : View sig .tc .vmem S256x2048 e) (f : v.ty.Contents (Elt F)) :
    v.readAt (Elt F) rCodes.toLoadRect f = v.read (Elt F) f := v.readAt_full f _
theorem readAt_scratch {e : EltTy} (v : View sig .tc .vmem S128x2048 e) (f : v.ty.Contents (Elt F)) :
    v.readAt (Elt F) rScratch.toLoadRect f = v.read (Elt F) f := v.readAt_full f _

/-- The body's branch is taken at the first point. -/
def isFirst (i : grid0.Coords) : Prop :=
  Scalar.cmpi .ne (Scalar.extui (Scalar.cmpi .eq (BitVec.ofNat 32 (i 0).val) 0#32) : BitVec 32) 0#32 = 1#1
instance (i : grid0.Coords) : Decidable (isFirst i) := by unfold isFirst; infer_instance
theorem isFirst_iff : ∀ t : Fin cfg0.N, isFirst (grid0.coords t) ↔ t.val = 0 :=
  (by decide +kernel : ∀ t : Fin grid0.N, isFirst (grid0.coords t) ↔ t.val = 0)

/-! ## The body's triples -/

set_option maxHeartbeats 2000000 in
/-- The body at the first point: it fills the scratch. -/
theorem kernel_first (c : Dev nD) (E : Set ℕ) (i : grid0.Coords) (arg1 : Memref sig .tc .vmem S256x2048 .bf16) (harg1 : arg1.IsWhole) (arg2 : Memref sig .tc .vmem S256x2048 .i8) (harg2 : arg2.IsWhole) (arg3 : Memref sig .tc .vmem S256x1 .f32) (harg3 : arg3.IsWhole) (arg4 : Memref sig .tc .vmem S1x64x256 .i32) (harg4 : arg4.IsWhole) (arg5 : Memref sig .tc .vmem S256x1 .i32) (harg5 : arg5.IsWhole) (arg6 : Memref sig .tc .vmem S256x2048 .fp8e4m3) (harg6 : arg6.IsWhole) (arg7 : Memref sig .tc .vmem S128x2048 .bf16) (harg7 : arg7.IsWhole)
    (h1 : isFirst i)
    (x : Vec F S256x2048 .bf16) (K : PUnit → sProp 𝕄) :
    iprop(owns (c : Thread nD τ) arg1 fullShare x ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare (k0_pay5 x) ∗ owns (c : Thread nD τ) arg3 fullShare (k0_pay4 x)
            ∗ owns (c : Thread nD τ) arg4 fullShare (bitsOut x) ∗ owns (c : Thread nD τ) arg5 fullShare (k0_pay7 x)
            ∗ owns (c : Thread nD τ) arg6 fullShare (qmatOut x) ∗ owns (c : Thread nD τ) arg7 fullShare (k0_pay2 (F := F))) -∗ K ⟨⟩))
      ⊢ wp frame (wpE (defs₀ (F := F)) Variants.none c none) E
          (cc0_prep i arg1 harg1 arg2 harg2 arg3 harg3 arg4 harg4 arg5 harg5 arg6 harg6 arg7 harg7) K := by
  simp only [cc0_prep_eq_skeleton]; unfold cc0_prep_skel
  simp only [k0_part1_eq_skeleton, k0_part2_eq_skeleton, k0_part3_eq_skeleton, k0_part4_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, Hk⟩
  subst hf0
  sl_exec (disch := first | sl_exact h1)
  sl_step
  iapply Hk
  isplitl [H0]
  · iexists f0; isplitr; · ipureintro; rfl
    iexact H0
  isplitl [H1]
  · iexists _; isplitr
    swap; · iexact H1
    ipureintro
    refine (View.read_writes_eq_canon _ _ _ (View.cover_of_tiled [⟨rCodes, _⟩] S256x2048.size (by rfl))).trans ?_
    rw [readAt_x]
    exact View.canon_unit_zero zero2 _ _
  isplitl [H2]
  · iexists _; isplitr
    swap; · iexact H2
    ipureintro
    refine (View.read_writes_eq_canon _ _ _ (View.cover_of_tiled [⟨rCol, _⟩] S256x1.size (by rfl))).trans ?_
    rw [readAt_x]
    exact View.canon_unit_zero zero2 _ _
  isplitl [H3]
  · iexists _; isplitr
    swap; · iexact H3
    ipureintro
    refine (View.read_writes_eq_canon _ _ _ (View.cover_of_tiled [⟨rBits, _⟩] S1x64x256.size (by rfl))).trans ?_
    unfold kernel_first.sl.r
    unfold kernel_first.sl.v33 kernel_first.sl.H6_1
    rw [View.readCov_cons_toLoadRect, readAt_x]
    exact View.canon_unit_zero zero3 _ _
  isplitl [H4]
  · iexists _; isplitr
    swap; · iexact H4
    ipureintro
    refine (View.read_writes_eq_canon _ _ _ (View.cover_of_tiled [⟨rCol, _⟩] S256x1.size (by rfl))).trans ?_
    rw [readAt_x]
    exact View.canon_unit_zero zero2 _ _
  isplitl [H5]
  · iexists _; isplitr
    swap; · iexact H5
    ipureintro
    refine (View.read_writes_eq_canon _ _ _ (cover_qmat _ _ _ _ _ _ _ _)).trans ?_
    unfold kernel_first.sl.r_4 kernel_first.sl.r_3 kernel_first.sl.r_2 kernel_first.sl.r_1 kernel_first.sl.r
    unfold kernel_first.sl.v33 kernel_first.sl.H6_1
    rw [View.readCov_cons_toLoadRect, readAt_x]
    rfl
  iexists _; isplitr
  swap; · iexact H6
  ipureintro
  unfold kernel_first.sl.H6_1
  refine (View.read_writes_eq_canon _ _ _ (View.cover_of_tiled [⟨rScratch, _⟩] S128x2048.size (by rfl))).trans ?_
  exact View.canon_unit_zero zero2 _ _

set_option maxHeartbeats 2000000 in
/-- The body at a later point: the scratch holds what the first point put there. -/
theorem kernel_later (c : Dev nD) (E : Set ℕ) (i : grid0.Coords) (arg1 : Memref sig .tc .vmem S256x2048 .bf16) (harg1 : arg1.IsWhole) (arg2 : Memref sig .tc .vmem S256x2048 .i8) (harg2 : arg2.IsWhole) (arg3 : Memref sig .tc .vmem S256x1 .f32) (harg3 : arg3.IsWhole) (arg4 : Memref sig .tc .vmem S1x64x256 .i32) (harg4 : arg4.IsWhole) (arg5 : Memref sig .tc .vmem S256x1 .i32) (harg5 : arg5.IsWhole) (arg6 : Memref sig .tc .vmem S256x2048 .fp8e4m3) (harg6 : arg6.IsWhole) (arg7 : Memref sig .tc .vmem S128x2048 .bf16) (harg7 : arg7.IsWhole)
    (h1 : ¬ isFirst i)
    (x : Vec F S256x2048 .bf16) (K : PUnit → sProp 𝕄) :
    iprop(owns (c : Thread nD τ) arg1 fullShare x ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d) ∗ (∃ d, owns (c : Thread nD τ) arg6 fullShare d) ∗ owns (c : Thread nD τ) arg7 fullShare (k0_pay2 (F := F))
        ∗ (iprop(owns (c : Thread nD τ) arg1 fullShare x ∗ owns (c : Thread nD τ) arg2 fullShare (k0_pay5 x) ∗ owns (c : Thread nD τ) arg3 fullShare (k0_pay4 x)
            ∗ owns (c : Thread nD τ) arg4 fullShare (bitsOut x) ∗ owns (c : Thread nD τ) arg5 fullShare (k0_pay7 x)
            ∗ owns (c : Thread nD τ) arg6 fullShare (qmatOut x) ∗ owns (c : Thread nD τ) arg7 fullShare (k0_pay2 (F := F))) -∗ K ⟨⟩))
      ⊢ wp frame (wpE (defs₀ (F := F)) Variants.none c none) E
          (cc0_prep i arg1 harg1 arg2 harg2 arg3 harg3 arg4 harg4 arg5 harg5 arg6 harg6 arg7 harg7) K := by
  simp only [cc0_prep_eq_skeleton]; unfold cc0_prep_skel
  simp only [k0_part1_eq_skeleton, k0_part2_eq_skeleton, k0_part3_eq_skeleton, k0_part4_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%f6, %hf6, H6⟩, Hk⟩
  subst hf0
  sl_exec (disch := first | sl_exact h1)
  sl_step
  iapply Hk
  isplitl [H0]
  · iexists f0; isplitr; · ipureintro; rfl
    iexact H0
  isplitl [H1]
  · iexists _; isplitr
    swap; · iexact H1
    ipureintro
    refine (View.read_writes_eq_canon _ _ _ (View.cover_of_tiled [⟨rCodes, _⟩] S256x2048.size (by rfl))).trans ?_
    rw [readAt_x]
    exact View.canon_unit_zero zero2 _ _
  isplitl [H2]
  · iexists _; isplitr
    swap; · iexact H2
    ipureintro
    refine (View.read_writes_eq_canon _ _ _ (View.cover_of_tiled [⟨rCol, _⟩] S256x1.size (by rfl))).trans ?_
    rw [readAt_x]
    exact View.canon_unit_zero zero2 _ _
  isplitl [H3]
  · iexists _; isplitr
    swap; · iexact H3
    ipureintro
    refine (View.read_writes_eq_canon _ _ _ (View.cover_of_tiled [⟨rBits, _⟩] S1x64x256.size (by rfl))).trans ?_
    unfold kernel_later.sl.r
    rw [readAt_scratch, hf6, readAt_x]
    exact View.canon_unit_zero zero3 _ _
  isplitl [H4]
  · iexists _; isplitr
    swap; · iexact H4
    ipureintro
    refine (View.read_writes_eq_canon _ _ _ (View.cover_of_tiled [⟨rCol, _⟩] S256x1.size (by rfl))).trans ?_
    rw [readAt_x]
    exact View.canon_unit_zero zero2 _ _
  isplitl [H5]
  · iexists _; isplitr
    swap; · iexact H5
    ipureintro
    refine (View.read_writes_eq_canon _ _ _ (cover_qmat _ _ _ _ _ _ _ _)).trans ?_
    unfold kernel_later.sl.r_4 kernel_later.sl.r_3 kernel_later.sl.r_2 kernel_later.sl.r_1 kernel_later.sl.r
    rw [readAt_scratch, hf6, readAt_x]
    rfl
  iexists f6; isplitr; · ipureintro; exact hf6
  iexact H6

/-! ## The proof data -/

variable (W : Dev nD → Valuation τ sig (Elt F))

/-- Window `w`'s block at point `t` of the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The scratch operand. -/
abbrev scM : Memref sig .tc .vmem S128x2048 .bf16 := Memref.whole cc0_scratch0

/-- The scoped buffers but the scratch. -/
def others (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

theorem scoped_eq (c : Dev nD) : (Pipeline.scopedRest spec0 c : sProp 𝕄) = iprop((∃ d, owns (c : Thread nD τ) scM fullShare d) ∗ others c) := by
  rw [scopedRest0_eq]; unfold others; simp only [scM, owns_whole]; try rfl

/-- What the body carries from point to point: before the first, the scratch at anything; after it, the scratch at the constant matrix. -/
def inv (c : Dev nD) (t : Fin (cfg0.N + 1)) : sProp 𝕄 :=
  match t.val with
  | 0 => iprop((∃ d, owns (c : Thread nD τ) scM fullShare d) ∗ others c)
  | _ + 1 => iprop(owns (c : Thread nD τ) scM fullShare (k0_pay2 (F := F)) ∗ others c)

theorem inv_zero (c : Dev nD) (t : Fin (cfg0.N + 1)) (h : t.val = 0) :
    inv (F := F) c t = iprop((∃ d, owns (c : Thread nD τ) scM fullShare d) ∗ others c) := by
  unfold inv; rw [h]
theorem inv_pos (c : Dev nD) (t : Fin (cfg0.N + 1)) (h : t.val ≠ 0) :
    inv (F := F) c t = iprop(owns (c : Thread nD τ) scM fullShare (k0_pay2 (F := F)) ∗ others c) := by
  unfold inv; obtain ⟨n, hn⟩ := Nat.exists_eq_succ_of_ne_zero h; rw [hn]

/-- The proof data: the arrays as `W` has them; after the body the queries' buffer at its block and each result's at what the body computes. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => k0_pay5 (iblk0 W c 0 t)
    | ⟨2, _⟩ => k0_pay4 (iblk0 W c 0 t)
    | ⟨3, _⟩ => bitsOut (iblk0 W c 0 t)
    | ⟨4, _⟩ => k0_pay7 (iblk0 W c 0 t)
    | ⟨5, _⟩ => qmatOut (iblk0 W c 0 t)
  Φ t := inv c t
  q _ := fullShare
  owed _ := 0

theorem A_eq (c : Dev nD) (w : Fin cfg0.W) : (dat0 W c).A w = W c (Proc.devRef .tc (Pipeline.arrRef spec0 w)) := by dsimp only [dat0]
theorem after_0 (c : Dev nD) (t : Fin cfg0.N) : (dat0 W c).after 0 t = iblk0 W c 0 t := by dsimp only [dat0]
theorem after_5 (c : Dev nD) (t : Fin cfg0.N) : (dat0 W c).after 5 t = qmatOut (iblk0 W c 0 t) := by dsimp only [dat0]

/-- What the body finds in the queries' buffer. -/
theorem before_0 (c : Dev nD) (t : Fin cfg0.N) (d) : (dat0 W c).before 0 t d = iblk0 W c 0 t :=
  ((dat0 W c).before_in_eq_fetched 0 rfl (fun _ => rfl) (fun _ _ _ => rfl)
    (fun t => by rw [after_0]; unfold Dat.blockOf iblk0; rw [A_eq]) t d).trans
    (by unfold Dat.fetched Dat.blockOf iblk0; rw [A_eq]; try rfl)

/-! ## The body obligation -/

/-- What the body is called with at point `t`; -/
def bodyPre (c : Dev nD) (t : Fin cfg0.N) : sProp 𝕄 :=
  iprop(inv c t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d)))

/-- and what it returns. -/
def bodyPost (c : Dev nD) (t : Fin cfg0.N) : sProp 𝕄 :=
  iprop(inv c t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t))

set_option maxHeartbeats 1000000 in
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, after_0]
  rw [show (dat0 W c).owesAt () t.succ = (dat0 W c).owesAt () t.castSucc from rfl,
    inv_pos c t.succ (Nat.succ_ne_zero _)]
  by_cases h0 : t.val = 0
  · rw [inv_zero c t.castSucc h0]
    iintro ⟨⟨HS, HB⟩, Ho, ⟨%d0, H0⟩, ⟨%d1, H1⟩, ⟨%d2, H2⟩, ⟨%d3, H3⟩, ⟨%d4, H4⟩, ⟨%d5, H5⟩⟩
    iapply (kernel_first c Set.univ (grid0.coords t) _ _ _ _ _ _ _ _ _ _ _ _ _ _ ((isFirst_iff t).mpr h0) (iblk0 W c 0 t) _)
    isplitl [H0]; · iexact H0
    isplitl [H1]; · iexists _; iexact H1
    isplitl [H2]; · iexists _; iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HB HS]
    · isplitl [HS]; · iexact HS
      iexact HB
    isplitl [Ho]; · iexact Ho
    isplitl [H0]; · iexact H0
    isplitl [H1]; · iexact H1
    isplitl [H2]; · iexact H2
    isplitl [H3]; · iexact H3
    isplitl [H4]; · iexact H4
    iexact H5
  · rw [inv_pos c t.castSucc h0]
    iintro ⟨⟨HS, HB⟩, Ho, ⟨%d0, H0⟩, ⟨%d1, H1⟩, ⟨%d2, H2⟩, ⟨%d3, H3⟩, ⟨%d4, H4⟩, ⟨%d5, H5⟩⟩
    iapply (kernel_later c Set.univ (grid0.coords t) _ _ _ _ _ _ _ _ _ _ _ _ _ _ (fun h => h0 ((isFirst_iff t).mp h)) (iblk0 W c 0 t) _)
    isplitl [H0]; · iexact H0
    isplitl [H1]; · iexists _; iexact H1
    isplitl [H2]; · iexists _; iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HB HS]
    · isplitl [HS]; · iexact HS
      iexact HB
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) :
    Pipeline.BodyObligationLoose (dat0 (F := F) W c) (defs₀ (F := F)) Variants.none () Set.univ := fun t => by
  rw [bigSep_W0, bigSep_W0, defs₀_row]
  exact triple_restated (sound_body W c t) rfl .rfl fun _ => .rfl

end Cert.DistPrepBody

end
-- ==== Proof.DistCallBody.lean ====
/-
  The body of the distance kernel (`Dist`, its second call): what one grid point computes.

  The kernel walks 147 blocks of 1024 documents. At each point it masks the document words past the last document
  to zero, spreads them into eight planes of fp8 bit patterns in a scratch buffer, multiplies the query matrix by
  the planes, adds the padding row, encodes the sums as integers and packs them in pairs (`wordsOut`). It also keeps the
  least encoded sum of every group of four blocks (`gminFirst` at a group's first block, `gminNext` at the others). The last block of
  documents overhangs its array; since the overhang is masked, nothing the body computes depends on it (`masked_fill`).
  Everything here holds at any float values.
-/
module

public import proofs.«01_k».proof.Proof.Gen.Dist.Skeleton
public import proofs.«01_k».proof.Proof.Gen.Dist.Points
public import proofs.«01_k».proof.Proof.Gen.Dist.Launch
public import Idealize.ShloMosaic.Lib.Pipeline.FrameBody
public import Idealize.ShloMosaic.Lib.Pipeline.Value
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.DistCallBody

open Cert.Dist Cert.Dist.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rQ : Rect S1024x2048 := Rect.unit (s := S1024x2048) ![0, 0] S1024x2048.size inb_S1024x2048_S1024x2048_0_0
abbrev rDocs : Rect S64x1024 := Rect.unit (s := S64x1024) ![0, 0] S64x1024.size inb_S64x1024_S64x1024_0_0
abbrev rPlanes : Rect S2048x1024 := Rect.unit (s := S2048x1024) ![0, 0] S2048x1024.size inb_S2048x1024_S2048x1024_0_0
abbrev rPad : Rect S8x1024 := Rect.unit (s := S8x1024) ![0, 0] S1x1024.size inb_S8x1024_S1x1024_0_0
abbrev rMin : Rect S128x1x8x128 := Rect.unit (s := S128x1x8x128) ![0, 0, 0, 0] S128x1x8x128.size inb_S128x1x8x128_S128x1x8x128_0_0_0_0
abbrev rPlane0 : Rect S2048x1024 := Rect.unit (s := S2048x1024) ![0, 0] S256x1024.size inb_S2048x1024_S256x1024_0_0
abbrev rPlane1 : Rect S2048x1024 := Rect.unit (s := S2048x1024) ![256, 0] S256x1024.size inb_S2048x1024_S256x1024_256_0
abbrev rPlane2 : Rect S2048x1024 := Rect.unit (s := S2048x1024) ![512, 0] S256x1024.size inb_S2048x1024_S256x1024_512_0
abbrev rPlane3 : Rect S2048x1024 := Rect.unit (s := S2048x1024) ![768, 0] S256x1024.size inb_S2048x1024_S256x1024_768_0
abbrev rPlane4 : Rect S2048x1024 := Rect.unit (s := S2048x1024) ![1024, 0] S256x1024.size inb_S2048x1024_S256x1024_1024_0
abbrev rPlane5 : Rect S2048x1024 := Rect.unit (s := S2048x1024) ![1280, 0] S256x1024.size inb_S2048x1024_S256x1024_1280_0
abbrev rPlane6 : Rect S2048x1024 := Rect.unit (s := S2048x1024) ![1536, 0] S256x1024.size inb_S2048x1024_S256x1024_1536_0
abbrev rPlane7 : Rect S2048x1024 := Rect.unit (s := S2048x1024) ![1792, 0] S256x1024.size inb_S2048x1024_S256x1024_1792_0
abbrev rWords0 : Rect S128x4x8x128 := Rect.unit (s := S128x4x8x128) ![0, 0, 0, 0] S128x1x8x128.size inb_S128x4x8x128_S128x1x8x128_0_0_0_0
abbrev rWords1 : Rect S128x4x8x128 := Rect.unit (s := S128x4x8x128) ![0, 1, 0, 0] S128x1x8x128.size inb_S128x4x8x128_S128x1x8x128_0_1_0_0
abbrev rWords2 : Rect S128x4x8x128 := Rect.unit (s := S128x4x8x128) ![0, 2, 0, 0] S128x1x8x128.size inb_S128x4x8x128_S128x1x8x128_0_2_0_0
abbrev rWords3 : Rect S128x4x8x128 := Rect.unit (s := S128x4x8x128) ![0, 3, 0, 0] S128x1x8x128.size inb_S128x4x8x128_S128x1x8x128_0_3_0_0

/-! ## What the body computes -/

/-- The eight planes of the masked document words, as the scratch holds them: plane `p` in rows `256 p` on. -/
def planes (i : grid1.Coords) (d : Vec F S64x1024 .i32) : Vec F S2048x1024 .fp8e4m3 :=
  View.canon [⟨rPlane7, k1_pay11 (F := F) (k1_pay2 i d)⟩, ⟨rPlane6, k1_pay10 (F := F) (k1_pay2 i d)⟩, ⟨rPlane5, k1_pay9 (F := F) (k1_pay2 i d)⟩,
    ⟨rPlane4, k1_pay8 (F := F) (k1_pay2 i d)⟩, ⟨rPlane3, k1_pay7 (F := F) (k1_pay6 i d)⟩, ⟨rPlane2, k1_pay5 i d⟩, ⟨rPlane1, k1_pay4 i d⟩, ⟨rPlane0, k1_pay3 i d⟩]

/-- The product of the query matrix with the planes. -/
def prod (i : grid1.Coords) (q : Vec F S1024x2048 .fp8e4m3) (d : Vec F S64x1024 .i32) : FVec F S1024x1024 .f32 := k1_pay12 q (planes i d)

/-- The padding block's first row. -/
def padRow (p : Vec F S8x1024 .f32) : Vec F S1x1024 .f32 := VecWindow.window p ![0, 0] S1x1024.size inb_S8x1024_S1x1024_0_0

/-- The packed words of a block: four pairs of 128 documents. -/
def wordsOut (i : grid1.Coords) (q : Vec F S1024x2048 .fp8e4m3) (d : Vec F S64x1024 .i32) (p : Vec F S8x1024 .f32) : Vec F S128x4x8x128 .i32 :=
  View.canon [⟨rWords3, k1_pay20 (k1_pay14 (prod i q d) (padRow p))⟩, ⟨rWords2, k1_pay19 (k1_pay18 (prod i q d) (padRow p))⟩,
    ⟨rWords1, k1_pay16 (prod i q d) (padRow p)⟩, ⟨rWords0, k1_pay15 (prod i q d) (padRow p)⟩]

/-- The group minimum after a group's first block, -/
def gminFirst (i : grid1.Coords) (q : Vec F S1024x2048 .fp8e4m3) (d : Vec F S64x1024 .i32) (p : Vec F S8x1024 .f32) : Vec F S128x1x8x128 .i32 :=
  k1_pay22 (k1_pay13 (prod i q d) (padRow p)) (k1_pay17 (prod i q d) (padRow p))
/-- and after a later block, from the one before. -/
def gminNext (i : grid1.Coords) (q : Vec F S1024x2048 .fp8e4m3) (d : Vec F S64x1024 .i32) (p : Vec F S8x1024 .f32) (g : Vec F S128x1x8x128 .i32) :
    Vec F S128x1x8x128 .i32 :=
  k1_pay1 (k1_pay21 (k1_pay13 (prod i q d) (padRow p)) (k1_pay17 (prod i q d) (padRow p))) g

/-- The eight planes tile the scratch. -/
theorem cover_planes (p0 p1 p2 p3 p4 p5 p6 p7 : Vec F S256x1024 .fp8e4m3) (y : S2048x1024.Idx) :
    ∃ pc ∈ ([⟨rPlane7, p7⟩, ⟨rPlane6, p6⟩, ⟨rPlane5, p5⟩, ⟨rPlane4, p4⟩, ⟨rPlane3, p3⟩, ⟨rPlane2, p2⟩, ⟨rPlane1, p1⟩, ⟨rPlane0, p0⟩] : List (View.Piece (Elt F) S2048x1024 .fp8e4m3)), y ∈ pc.1.set :=
  View.cover_of_tiled [⟨rPlane7, p7⟩, ⟨rPlane6, p6⟩, ⟨rPlane5, p5⟩, ⟨rPlane4, p4⟩, ⟨rPlane3, p3⟩, ⟨rPlane2, p2⟩, ⟨rPlane1, p1⟩, ⟨rPlane0, p0⟩] S256x1024.size (by rfl) y

/-- The four stores tile the block of words. -/
theorem cover_words (p0 p1 p2 p3 : Vec F S128x1x8x128 .i32) (y : S128x4x8x128.Idx) :
    ∃ pc ∈ ([⟨rWords3, p3⟩, ⟨rWords2, p2⟩, ⟨rWords1, p1⟩, ⟨rWords0, p0⟩] : List (View.Piece (Elt F) S128x4x8x128 .i32)), y ∈ pc.1.set :=
  View.cover_of_tiled [⟨rWords3, p3⟩, ⟨rWords2, p2⟩, ⟨rWords1, p1⟩, ⟨rWords0, p0⟩] S128x1x8x128.size (by rfl) y

/-- A load of a whole buffer reads the buffer. -/
theorem readAt_q {e : EltTy} (v : View sig .tc .vmem S1024x2048 e) (f : v.ty.Contents (Elt F)) :
    v.readAt (Elt F) rQ.toLoadRect f = v.read (Elt F) f := v.readAt_full f _
theorem readAt_docs {e : EltTy} (v : View sig .tc .vmem S64x1024 e) (f : v.ty.Contents (Elt F)) :
    v.readAt (Elt F) rDocs.toLoadRect f = v.read (Elt F) f := v.readAt_full f _
theorem readAt_min {e : EltTy} (v : View sig .tc .vmem S128x1x8x128 e) (f : v.ty.Contents (Elt F)) :
    v.readAt (Elt F) rMin.toLoadRect f = v.read (Elt F) f := v.readAt_full f _
theorem readAt_pad (v : View sig .tc .vmem S8x1024 .f32) (f : v.ty.Contents (Elt F)) :
    v.readAt (Elt F) rPad.toLoadRect f = padRow (v.read (Elt F) f) := rfl

/-- A load of the whole scratch after stores that cover it reads what they left. -/
theorem readCov_planes (v : View sig .tc .vmem S2048x1024 .fp8e4m3) (L : List (View.Piece (Elt F) S2048x1024 .fp8e4m3))
    (h : ∀ y : S2048x1024.Idx, ∃ pc ∈ L, y ∈ pc.1.set) : v.readCov L rPlanes.toLoadRect = View.canon L :=
  (v.readAt_full _ _).trans (View.read_writes_eq_canon _ _ _ h)

theorem zero4 : (![0, 0, 0, 0] : Fin 4 → Nat) = fun _ => 0 := funext fun a => by fin_cases a <;> rfl

/-! ## The branches -/

/-- The body's first branch is taken at each group's first block, the second at the others. -/
theorem cond1_iff : ∀ t : Fin cfg1.N, (k1_cond1 (grid1.coords t) = 1#1) ↔ t.val % 4 = 0 :=
  (by decide +kernel : ∀ t : Fin grid1.N, (k1_cond1 (grid1.coords t) = 1#1) ↔ t.val % 4 = 0)
theorem cond2_iff : ∀ t : Fin cfg1.N, (k1_cond2 (grid1.coords t) = 1#1) ↔ ¬ t.val % 4 = 0 :=
  (by decide +kernel : ∀ t : Fin grid1.N, (k1_cond2 (grid1.coords t) = 1#1) ↔ ¬ t.val % 4 = 0)

/-! ## The body's triples -/

set_option maxHeartbeats 2000000 in
/-- The body at a group's first block. -/
theorem kernel_first (c : Dev nD) (E : Set ℕ) (i : grid1.Coords) (arg1 : Memref sig .tc .vmem S1024x2048 .fp8e4m3) (harg1 : arg1.IsWhole) (arg2 : Memref sig .tc .vmem S64x1024 .i32) (harg2 : arg2.IsWhole) (arg3 : Memref sig .tc .vmem S8x1024 .f32) (harg3 : arg3.IsWhole) (arg4 : Memref sig .tc .vmem S128x4x8x128 .i32) (harg4 : arg4.IsWhole) (arg5 : Memref sig .tc .vmem S128x1x8x128 .i32) (harg5 : arg5.IsWhole) (arg6 : Memref sig .tc .vmem S2048x1024 .fp8e4m3) (harg6 : arg6.IsWhole)
    (h1 : k1_cond1 i = 1#1) (h2 : ¬ k1_cond2 i = 1#1)
    (x0 : Vec F S1024x2048 .fp8e4m3) (x1 : Vec F S64x1024 .i32) (x2 : Vec F S8x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (wordsOut i x0 x1 x2) ∗ owns (c : Thread nD τ) arg5 fullShare (gminFirst i x0 x1 x2)
            ∗ (∃ d, owns (c : Thread nD τ) arg6 fullShare d)) -∗ K ⟨⟩))
      ⊢ wp frame (wpE (defs₀ (F := F)) Variants.none c none) E
          (cc1_dist i arg1 harg1 arg2 harg2 arg3 harg3 arg4 harg4 arg5 harg5 arg6 harg6) K := by
  simp only [cc1_dist_eq_skeleton]; unfold cc1_dist_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_words _ _ _ _)).trans ?_
    have hv : kernel_first.sl.v70 c i arg2 arg6 f1 = planes i (arg2.view.read (Elt F) f1) :=
      (readCov_planes arg6.view _ (cover_planes _ _ _ _ _ _ _ _)).trans (congrArg (planes i) (readAt_docs arg2.view f1))
    unfold kernel_first.sl.r_4 kernel_first.sl.r_6 kernel_first.sl.r_2
    rw [hv, readAt_q, readAt_pad]
    rfl
  isplitl [H4]
  · iexists _; isplitr
    swap; · iexact H4
    ipureintro
    refine (View.read_writes_eq_canon _ _ _ (View.cover_of_tiled [⟨rMin, _⟩] S128x1x8x128.size (by rfl))).trans ?_
    have hv : kernel_first.sl.v70 c i arg2 arg6 f1 = planes i (arg2.view.read (Elt F) f1) :=
      (readCov_planes arg6.view _ (cover_planes _ _ _ _ _ _ _ _)).trans (congrArg (planes i) (readAt_docs arg2.view f1))
    unfold kernel_first.sl.r_3 kernel_first.sl.r_5 kernel_first.sl.r_2
    rw [hv, readAt_q, readAt_pad]
    exact View.canon_unit_zero zero4 _ _
  iexists _, _; isplitr
  swap; · iexact H5
  ipureintro
  rfl

set_option maxHeartbeats 2000000 in
/-- The body at a later block of a group: it keeps the lesser of the minimum so far and its own. -/
theorem kernel_next (c : Dev nD) (E : Set ℕ) (i : grid1.Coords) (arg1 : Memref sig .tc .vmem S1024x2048 .fp8e4m3) (harg1 : arg1.IsWhole) (arg2 : Memref sig .tc .vmem S64x1024 .i32) (harg2 : arg2.IsWhole) (arg3 : Memref sig .tc .vmem S8x1024 .f32) (harg3 : arg3.IsWhole) (arg4 : Memref sig .tc .vmem S128x4x8x128 .i32) (harg4 : arg4.IsWhole) (arg5 : Memref sig .tc .vmem S128x1x8x128 .i32) (harg5 : arg5.IsWhole) (arg6 : Memref sig .tc .vmem S2048x1024 .fp8e4m3) (harg6 : arg6.IsWhole)
    (h1 : ¬ k1_cond1 i = 1#1) (h2 : k1_cond2 i = 1#1)
    (x0 : Vec F S1024x2048 .fp8e4m3) (x1 : Vec F S64x1024 .i32) (x2 : Vec F S8x1024 .f32) (g : Vec F S128x1x8x128 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare g ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (wordsOut i x0 x1 x2) ∗ owns (c : Thread nD τ) arg5 fullShare (gminNext i x0 x1 x2 g)
            ∗ (∃ d, owns (c : Thread nD τ) arg6 fullShare d)) -∗ K ⟨⟩))
      ⊢ wp frame (wpE (defs₀ (F := F)) Variants.none c none) E
          (cc1_dist i arg1 harg1 arg2 harg2 arg3 harg3 arg4 harg4 arg5 harg5 arg6 harg6) K := by
  simp only [cc1_dist_eq_skeleton]; unfold cc1_dist_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, Hk⟩
  subst hf0 hf1 hf2 hf4
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_words _ _ _ _)).trans ?_
    have hv : kernel_next.sl.v70 c i arg2 arg6 f1 = planes i (arg2.view.read (Elt F) f1) :=
      (readCov_planes arg6.view _ (cover_planes _ _ _ _ _ _ _ _)).trans (congrArg (planes i) (readAt_docs arg2.view f1))
    unfold kernel_next.sl.r_4 kernel_next.sl.r_6 kernel_next.sl.r_2
    rw [hv, readAt_q, readAt_pad]
    rfl
  isplitl [H4]
  · iexists _; isplitr
    swap; · iexact H4
    ipureintro
    refine (View.read_writes_eq_canon _ _ _ (View.cover_of_tiled [⟨rMin, _⟩] S128x1x8x128.size (by rfl))).trans ?_
    have hv : kernel_next.sl.v70 c i arg2 arg6 f1 = planes i (arg2.view.read (Elt F) f1) :=
      (readCov_planes arg6.view _ (cover_planes _ _ _ _ _ _ _ _)).trans (congrArg (planes i) (readAt_docs arg2.view f1))
    unfold kernel_next.sl.r_7 kernel_next.sl.v154 kernel_next.sl.r_3 kernel_next.sl.r_5 kernel_next.sl.r_2
    rw [hv, readAt_q, readAt_pad, readAt_min]
    exact View.canon_unit_zero zero4 _ _
  iexists _, _; isplitr
  swap; · iexact H5
  ipureintro
  rfl

end Cert.DistCallBody

end
-- ==== Proof.DistCallData.lean ====
/-
  The proof data of the distance kernel's second call (`Dist`): what each window's buffer holds around each grid point.

  The arrays are those of a valuation `W`, whatever ran before. The documents' last block overhangs its array and the
  body masks the overhang, so nothing it computes depends on what the buffer holds there (`masked_fill`).
-/
module

public import proofs.«01_k».proof.Proof.DistCallBody

@[expose] public section

set_option maxRecDepth 16384

noncomputable section

namespace Cert.DistCallBody

open Cert.Dist Cert.Dist.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The overhang is masked -/

/-- How much of each documents' block lies inside the array. -/
theorem xsize_1 : ∀ t : Fin cfg1.N, win1_1.xsize (grid1.coords t) 0 = 64 ∧ win1_1.xsize (grid1.coords t) 1 = min 1024 (150000 - 1024 * t.val) :=
  (by decide +kernel : ∀ t : Fin grid1.N, win1_1.xsize (grid1.coords t) 0 = 64 ∧ win1_1.xsize (grid1.coords t) 1 = min 1024 (150000 - 1024 * t.val))
/-- A point's grid coordinate is its number. -/
theorem coords1 : ∀ t : Fin cfg1.N, ((grid1.coords t) 0).val = t.val :=
  (by decide +kernel : ∀ t : Fin grid1.N, ((grid1.coords t) 0).val = t.val)

/-- The masked documents: a word of a document in range is kept, any other is zero. -/
theorem pay2_at (t : Fin cfg1.N) (v : Vec F S64x1024 .i32) (y : S64x1024.Idx) :
    k1_pay2 (grid1.coords t) v y = if t.val * 1024 + (y 1).val < 150000 then v y else 0#32 := by
  have ht : t.val < 147 := Nat.lt_of_lt_of_eq t.isLt N_1
  have hj : (y 1).val < 1024 := (y 1).isLt
  pointwise [k1_pay2]
  rw [coords1 t, show IntOp.addi (Scalar.muli (BitVec.ofNat 32 t.val) 1024#32) (BitVec.ofNat 32 (y 1).val) = BitVec.ofNat 32 (t.val * 1024 + (y 1).val) from
    BitVec.eq_of_toNat_eq (by simp [IntOp.addi, Scalar.muli, IntOp.muli])]
  have hn : t.val * 1024 + (y 1).val < 150528 := by omega
  generalize t.val * 1024 + (y 1).val = n at hn
  have hc : IntOp.cmpi .slt (BitVec.ofNat 32 n) 150000#32 = 1#1 ↔ n < 150000 := by word_cmp
  unfold Scalar.select
  by_cases h : n < 150000
  · rw [if_pos h, hc.mpr h]; rfl
  · rw [if_neg h]; exact if_neg (fun h' => h (hc.mp h'))

/-- What the body reads of a documents' block does not depend on what the buffer holds past the array's end. -/
theorem masked_fill (t : Fin cfg1.N) (d d' : Vec F S64x1024 .i32) (g) :
    k1_pay2 (F := F) (grid1.coords t) (win1_1.fill (grid1.coords t) d g) = k1_pay2 (grid1.coords t) (win1_1.fill (grid1.coords t) d' g) := by
  funext y
  rw [pay2_at, pay2_at]
  split_ifs with h
  · have hm : win1_1.moved (grid1.coords t) y = true := (win1_1.moved_iff _ y).mpr fun a => by
      have hx := xsize_1 t
      have h0 : (y 0).val < 64 := (y 0).isLt
      have h1 : (y 1).val < 1024 := (y 1).isLt
      match a with
      | 0 => rw [hx.1]; exact h0
      | 1 => rw [hx.2]; omega
    unfold Window.fill; rw [dif_pos hm, dif_pos hm]
  · rfl

theorem planes_congr (i : grid1.Coords) (d d' : Vec F S64x1024 .i32) (h : k1_pay2 i d = k1_pay2 i d') : planes i d = planes i d' := by
  unfold planes k1_pay3 k1_pay4 k1_pay5 k1_pay6; rw [h]
theorem prod_congr (i : grid1.Coords) (q : Vec F S1024x2048 .fp8e4m3) (d d' : Vec F S64x1024 .i32) (h : k1_pay2 i d = k1_pay2 i d') : prod i q d = prod i q d' := by
  unfold prod; rw [planes_congr i d d' h]

/-! ## The proof data -/

variable (W : Dev nD → Valuation τ sig (Elt F))

/-- Window `w`'s block at point `t` of the array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The documents' block at a point, filled out past the array's end with the words `d`. -/
def docsBlk (c : Dev nD) (t : Fin cfg1.N) (d : Vec F S64x1024 .i32) : Vec F S64x1024 .i32 :=
  win1_1.fill (grid1.coords t) d (iblk1 W c 1 t)
/-- The packed words the body leaves at a point. -/
def wordsAt (c : Dev nD) (t : Fin cfg1.N) : Vec F S128x4x8x128 .i32 :=
  wordsOut (grid1.coords t) (iblk1 W c 0 t) (docsBlk W c t fun _ => 0#32) (iblk1 W c 2 t)
/-- The group minimum the body leaves at a point. -/
def gminAt (c : Dev nD) : (n : ℕ) → n < cfg1.N → Vec F S128x1x8x128 .i32
  | 0, h => gminFirst (grid1.coords ⟨0, h⟩) (iblk1 W c 0 ⟨0, h⟩) (docsBlk W c ⟨0, h⟩ fun _ => 0#32) (iblk1 W c 2 ⟨0, h⟩)
  | n + 1, h =>
    if (n + 1) % 4 = 0 then gminFirst (grid1.coords ⟨n + 1, h⟩) (iblk1 W c 0 ⟨n + 1, h⟩) (docsBlk W c ⟨n + 1, h⟩ fun _ => 0#32) (iblk1 W c 2 ⟨n + 1, h⟩)
    else gminNext (grid1.coords ⟨n + 1, h⟩) (iblk1 W c 0 ⟨n + 1, h⟩) (docsBlk W c ⟨n + 1, h⟩ fun _ => 0#32) (iblk1 W c 2 ⟨n + 1, h⟩) (gminAt c n (Nat.lt_of_succ_lt h))

/-- The proof data: the arrays as `W` has them; after the body each input's buffer at its block, the words and the group minimum as computed. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => docsBlk W c t fun _ => 0#32
    | ⟨2, _⟩ => iblk1 W c 2 t
    | ⟨3, _⟩ => wordsAt W c t
    | ⟨4, _⟩ => gminAt W c t.val t.isLt
  Φ _ := Pipeline.scopedRest spec1 c
  q _ := fullShare
  owed _ := 0

theorem A_eq (c : Dev nD) (w : Fin cfg1.W) : (dat1 W c).A w = W c (Proc.devRef .tc (Pipeline.arrRef spec1 w)) := by dsimp only [dat1]
theorem after_0 (c : Dev nD) (t : Fin cfg1.N) : (dat1 W c).after 0 t = iblk1 W c 0 t := by dsimp only [dat1]
theorem after_1 (c : Dev nD) (t : Fin cfg1.N) : (dat1 W c).after 1 t = docsBlk W c t fun _ => 0#32 := by dsimp only [dat1]
theorem after_2 (c : Dev nD) (t : Fin cfg1.N) : (dat1 W c).after 2 t = iblk1 W c 2 t := by dsimp only [dat1]
theorem after_3 (c : Dev nD) (t : Fin cfg1.N) : (dat1 W c).after 3 t = wordsAt W c t := by dsimp only [dat1]
theorem after_4 (c : Dev nD) (t : Fin cfg1.N) : (dat1 W c).after 4 t = gminAt W c t.val t.isLt := by dsimp only [dat1]

/-- The body stores the group minimum at every point; -/
theorem idle_4 : ∀ i : grid1.Coords, idle1 4 i = false := by decide +kernel
/-- it is written back at each group's last point. -/
theorem flush_4 : ∀ t : Fin cfg1.N, (cfg1.win 4).flush t = true ↔ (t.val % 4 = 3 ∨ t.val = 146) :=
  (by decide +kernel : ∀ t : Fin grid1.N, win1_4.flush t = true ↔ (t.val % 4 = 3 ∨ t.val = 146))

/-- What the body finds in each window's buffer. -/
theorem before_0 (c : Dev nD) (t : Fin cfg1.N) (d) : (dat1 W c).before 0 t d = iblk1 W c 0 t :=
  ((dat1 W c).before_in_eq_fetched 0 rfl (fun _ => rfl) (fun _ _ _ => rfl)
    (fun t => by rw [after_0]; unfold Dat.blockOf iblk1; rw [A_eq]) t d).trans
    (by unfold Dat.fetched Dat.blockOf iblk1; rw [A_eq]; try rfl)
theorem before_1 (c : Dev nD) (t : Fin cfg1.N) (d) : (dat1 W c).before 1 t d = docsBlk W c t d := by
  unfold Dat.before; rw [if_pos (fetch1_1 t)]; rfl
theorem before_2 (c : Dev nD) (t : Fin cfg1.N) (d) : (dat1 W c).before 2 t d = iblk1 W c 2 t :=
  ((dat1 W c).before_in_eq_fetched 2 rfl (fun _ => rfl) (fun _ _ _ => rfl)
    (fun t => by rw [after_2]; unfold Dat.blockOf iblk1; rw [A_eq]) t d).trans
    (by unfold Dat.fetched Dat.blockOf iblk1; rw [A_eq]; try rfl)
theorem before_4 (c : Dev nD) (t : Fin cfg1.N) (h : ¬ t.val % 4 = 0) (d) :
    (dat1 W c).before 4 t d = gminAt W c (t.val - 1) (Nat.lt_of_le_of_lt (Nat.sub_le _ _) t.isLt) := by
  have ht : t.val < 147 := Nat.lt_of_lt_of_eq t.isLt N_1
  have hf : (cfg1.win 4).flush ⟨t.val - 1, Nat.lt_of_le_of_lt (Nat.sub_le _ _) t.isLt⟩ = false := by
    rw [← Bool.not_eq_true, flush_4]
    show ¬ ((t.val - 1) % 4 = 3 ∨ t.val - 1 = 146)
    omega
  rw [Dat.before_out_kept (dat1 W c) 4 rfl t (by omega) hf idle_4 (fun _ _ => rfl) d, after_4]

theorem refill_1 (c : Dev nD) (t : Fin cfg1.N) (d) :
    win1_1.fill (grid1.coords t) d (win1_1.cut (grid1.coords t) ((dat1 W c).after 1 t)) = docsBlk W c t d := by
  rw [after_1]; unfold docsBlk; rw [win1_1.cut_fill]

/-- What the body computes, from whatever the documents' buffer holds past the array's end. -/
theorem wordsAt_of (c : Dev nD) (t : Fin cfg1.N) (d) :
    wordsAt W c t = wordsOut (grid1.coords t) (iblk1 W c 0 t) (docsBlk W c t d) (iblk1 W c 2 t) := by
  unfold wordsAt wordsOut docsBlk; rw [prod_congr _ _ _ _ (masked_fill t (fun _ => 0#32) d _)]
theorem gmin_first (c : Dev nD) (t : Fin cfg1.N) (d) (h : t.val % 4 = 0) :
    gminAt W c t.val t.isLt = gminFirst (grid1.coords t) (iblk1 W c 0 t) (docsBlk W c t d) (iblk1 W c 2 t) := by
  have e : gminAt W c t.val t.isLt = gminFirst (grid1.coords t) (iblk1 W c 0 t) (docsBlk W c t fun _ => 0#32) (iblk1 W c 2 t) := by
    obtain ⟨n, hn⟩ := t
    cases n with
    | zero => rfl
    | succ n => exact if_pos h
  rw [e]; unfold gminFirst docsBlk; rw [prod_congr _ _ _ _ (masked_fill t (fun _ => 0#32) d _)]
theorem gmin_next (c : Dev nD) (t : Fin cfg1.N) (d) (h : ¬ t.val % 4 = 0) :
    gminAt W c t.val t.isLt = gminNext (grid1.coords t) (iblk1 W c 0 t) (docsBlk W c t d) (iblk1 W c 2 t)
      (gminAt W c (t.val - 1) (Nat.lt_of_le_of_lt (Nat.sub_le _ _) t.isLt)) := by
  have e : gminAt W c t.val t.isLt = gminNext (grid1.coords t) (iblk1 W c 0 t) (docsBlk W c t fun _ => 0#32) (iblk1 W c 2 t)
      (gminAt W c (t.val - 1) (Nat.lt_of_le_of_lt (Nat.sub_le _ _) t.isLt)) := by
    obtain ⟨n, hn⟩ := t
    cases n with
    | zero => exact absurd rfl h
    | succ n => exact if_neg h
  rw [e]; unfold gminNext docsBlk; rw [prod_congr _ _ _ _ (masked_fill t (fun _ => 0#32) d _)]

/-! ## The scratch among the scoped buffers -/

/-- The scratch operand. -/
abbrev scM : Memref sig .tc .vmem S2048x1024 .fp8e4m3 := Memref.whole cc1_scratch0

/-- The scoped buffers but the scratch. -/
def others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

theorem scoped_split (c : Dev nD) : (Pipeline.scopedRest spec1 c : sProp 𝕄) ⊢ iprop(others c ∗ ∃ d, owns (c : Thread nD τ) scM fullShare d) := by
  rw [scopedRest1_eq]; unfold others; simp only [scM, owns_whole]
  iintro ⟨B0, B1, B2, B3, B4, B5, B6, B7, B8, B9, B10, B11, B12, HS⟩
  isplitr [HS]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexact B12
  iexact HS
theorem scoped_join (c : Dev nD) : iprop(others c ∗ ∃ d, owns (c : Thread nD τ) scM fullShare d) ⊢ (Pipeline.scopedRest spec1 c : sProp 𝕄) := by
  rw [scopedRest1_eq]; unfold others; simp only [scM, owns_whole]
  iintro ⟨⟨B0, B1, B2, B3, B4, B5, B6, B7, B8, B9, B10, B11, B12⟩, HS⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  iexact HS

/-! ## The body obligation -/

/-- What the body is called with at point `t`; -/
def bodyPre (c : Dev nD) (t : Fin cfg1.N) : sProp 𝕄 :=
  iprop(Pipeline.scopedRest spec1 c ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d)))

/-- and what it returns: the documents' window stated on the part inside its array. -/
def bodyPost (c : Dev nD) (t : Fin cfg1.N) : sProp 𝕄 :=
  iprop(Pipeline.scopedRest spec1 c ∗ (dat1 W c).owesAt () t.succ
    ∗ owns (c : Thread nD τ) (st1_0 t) fullShare ((dat1 W c).after 0 t)
    ∗ (∃ d, owns (c : Thread nD τ) (st1_1 t) fullShare (win1_1.fill (grid1.coords t) d (win1_1.cut (grid1.coords t) ((dat1 W c).after 1 t))))
    ∗ owns (c : Thread nD τ) (st1_2 t) fullShare ((dat1 W c).after 2 t)
    ∗ owns (c : Thread nD τ) (st1_3 t) fullShare ((dat1 W c).after 3 t)
    ∗ owns (c : Thread nD τ) (st1_4 t) fullShare ((dat1 W c).after 4 t))

set_option maxHeartbeats 1000000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  rw [after_0, after_2, after_3, after_4,
    show (dat1 W c).owesAt () t.succ = (dat1 W c).owesAt () t.castSucc from rfl]
  by_cases h4 : t.val % 4 = 0
  · simp only [before_0, before_1, before_2]
    iintro ⟨HA, Ho, ⟨%d0, H0⟩, ⟨%d1, H1⟩, ⟨%d2, H2⟩, ⟨%d3, H3⟩, ⟨%d4, H4⟩⟩
    ihave HA' := (scoped_split c) $$ HA
    icases HA' with ⟨HB, HS⟩
    iapply (kernel_first c Set.univ (grid1.coords t) _ _ _ _ _ _ _ _ _ _ _ _ ((cond1_iff t).mpr h4) (fun h => (cond2_iff t).mp h h4) (iblk1 W c 0 t) (docsBlk W c t d1) (iblk1 W c 2 t) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HB HS]
    · iapply (scoped_join c); isplitl [HB]; · iexact HB
      iexact HS
    isplitl [Ho]; · iexact Ho
    isplitl [H0]; · iexact H0
    isplitl [H1]; · iexists d1; rw [refill_1]; iexact H1
    isplitl [H2]; · iexact H2
    isplitl [H3]; · rw [wordsAt_of W c t d1]; iexact H3
    rw [gmin_first W c t d1 h4]; iexact H4
  · simp only [before_0, before_1, before_2, before_4 W c t h4]
    iintro ⟨HA, Ho, ⟨%d0, H0⟩, ⟨%d1, H1⟩, ⟨%d2, H2⟩, ⟨%d3, H3⟩, ⟨%d4, H4⟩⟩
    ihave HA' := (scoped_split c) $$ HA
    icases HA' with ⟨HB, HS⟩
    iapply (kernel_next c Set.univ (grid1.coords t) _ _ _ _ _ _ _ _ _ _ _ _ (fun h => h4 ((cond1_iff t).mp h)) ((cond2_iff t).mpr h4) (iblk1 W c 0 t) (docsBlk W c t d1) (iblk1 W c 2 t) _ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HB HS]
    · iapply (scoped_join c); isplitl [HB]; · iexact HB
      iexact HS
    isplitl [Ho]; · iexact Ho
    isplitl [H0]; · iexact H0
    isplitl [H1]; · iexists d1; rw [refill_1]; iexact H1
    isplitl [H2]; · iexact H2
    isplitl [H3]; · rw [wordsAt_of W c t d1]; iexact H3
    rw [gmin_next W c t d1 h4]; iexact H4

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation. -/
theorem body_obligation (c : Dev nD) :
    Pipeline.BodyObligationLoose (dat1 (F := F) W c) (defs₀ (F := F)) Variants.none () Set.univ := fun t => by
  rw [bigSep_W1, bigSep_W1, defs₀_row]
  rw [show cfg1.idle 4 (cfg1.grid.coords t) = false from idle_4 _]
  exact triple_restated (sound_body W c t) rfl .rfl fun _ => .rfl

end Cert.DistCallBody

end
-- ==== Proof.DistBody.lean ====
/-
  The distance program as a whole (`Dist`): its two calls and the host operations between them, composed.

  The first call leaves the query matrix, the host operations make the padding row and the transposed documents of it all, and the second
  call leaves the packed distances. Everything here holds at any float values.
-/
module

public import proofs.«01_k».proof.Proof.DistPrepBody
public import proofs.«01_k».proof.Proof.DistCallData
public import proofs.«01_k».proof.Proof.Gen.Dist.Regions
public import Idealize.ShloMosaic.Lib.Pipeline.RegionArraysS
public import Idealize.ShloMosaic.Lib.Pipeline.FrameTail

@[expose] public section

set_option maxRecDepth 16384

noncomputable section

namespace Cert.DistBody

open Cert.Dist Cert.Dist.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg RegionSeg LevelCut afterRegion afterRegion_arr afterRegion_keeps initEach)

variable {F : FTy → Type} [FloatOps F]

local notation "𝕄" => MT nD τ sig Unit (Elt F) ℕ (UR sig nD τ) ℕ

variable (m : (ℓ : Loc nD τ sig) → Buf (Elt F) ℓ)

/-! ## What each call leaves -/

/-- What the first call leaves in a buffer. -/
def prepOuts : Outs (F := F) := fun _ r c =>
  afterRegion (DistPrepBody.dat0 (V0 m) c) (V0 m c) (Proc.devRef .tc r)

/-- The buffers at the second call's entry. -/
def entry (c : Dev nD) : Valuation τ sig (Elt F) := V4 m (prepOuts m) c

/-- What each call leaves in a buffer. -/
def outs : Outs (F := F) := fun J r c =>
  match J with
  | 5 => afterRegion (DistCallBody.dat1 (entry m) c) (entry m c) (Proc.devRef .tc r)
  | _ => afterRegion (DistPrepBody.dat0 (V0 m) c) (V0 m c) (Proc.devRef .tc r)

theorem entry_eq (c : Dev nD) : V4 m (outs m) c = entry m c := rfl

/-- The two calls' proof data. -/
def pdats : (p : Fin 2) → (c : Dev nD) → Dat τ (Elt F) Unit ℕ (UR sig nD τ) ℕ (cfgs p) c
  | ⟨0, _⟩ => fun c => DistPrepBody.dat0 (V0 m) c
  | ⟨1, _⟩ => fun c => DistCallBody.dat1 (entry m) c

/-- After the first call every buffer is as the proof data have it. -/
theorem after_prep (c : Dev nD) : ∀ b ∈ Pipeline.ucRefs τ sig,
    afterRegion (DistPrepBody.dat0 (V0 m) c) (V0 m c) b = V1 m (outs m) c b := by
  intro b hb
  obtain ⟨r, -, rfl⟩ := Finset.mem_map.mp (Finset.mem_filter.mp hb).1
  show afterRegion (DistPrepBody.dat0 (V0 m) c) (V0 m c) (Proc.devRef .tc r) = V1 m (outs m) c (Proc.devRef .tc r)
  by_cases hr : r ∈ ([main_v0_0, main_v0_1, main_v0_2, main_v0_3, main_v0_4] : List (Ref sig .tc))
  · simp only [List.mem_cons, List.not_mem_nil, or_false] at hr
    rcases hr with rfl | rfl | rfl | rfl | rfl
    · rw [V1, Function.update_of_ne (show (Proc.devRef .tc main_v0_0 : DevRef τ sig) ≠ Proc.devRef .tc main_v0_4 from StableHlo.devRef_ne_of_ne (by decide)), Function.update_of_ne (show (Proc.devRef .tc main_v0_0 : DevRef τ sig) ≠ Proc.devRef .tc main_v0_3 from StableHlo.devRef_ne_of_ne (by decide)), Function.update_of_ne (show (Proc.devRef .tc main_v0_0 : DevRef τ sig) ≠ Proc.devRef .tc main_v0_2 from StableHlo.devRef_ne_of_ne (by decide)), Function.update_of_ne (show (Proc.devRef .tc main_v0_0 : DevRef τ sig) ≠ Proc.devRef .tc main_v0_1 from StableHlo.devRef_ne_of_ne (by decide)), Function.update_self]
      rfl
    · rw [V1, Function.update_of_ne (show (Proc.devRef .tc main_v0_1 : DevRef τ sig) ≠ Proc.devRef .tc main_v0_4 from StableHlo.devRef_ne_of_ne (by decide)), Function.update_of_ne (show (Proc.devRef .tc main_v0_1 : DevRef τ sig) ≠ Proc.devRef .tc main_v0_3 from StableHlo.devRef_ne_of_ne (by decide)), Function.update_of_ne (show (Proc.devRef .tc main_v0_1 : DevRef τ sig) ≠ Proc.devRef .tc main_v0_2 from StableHlo.devRef_ne_of_ne (by decide)), Function.update_self]
      rfl
    · rw [V1, Function.update_of_ne (show (Proc.devRef .tc main_v0_2 : DevRef τ sig) ≠ Proc.devRef .tc main_v0_4 from StableHlo.devRef_ne_of_ne (by decide)), Function.update_of_ne (show (Proc.devRef .tc main_v0_2 : DevRef τ sig) ≠ Proc.devRef .tc main_v0_3 from StableHlo.devRef_ne_of_ne (by decide)), Function.update_self]
      rfl
    · rw [V1, Function.update_of_ne (show (Proc.devRef .tc main_v0_3 : DevRef τ sig) ≠ Proc.devRef .tc main_v0_4 from StableHlo.devRef_ne_of_ne (by decide)), Function.update_self]
      rfl
    · rw [V1, Function.update_self]
      rfl
  · refine Eq.trans ?_ (V1_of m (outs m) c r hr).symm
    refine afterRegion_keeps _ _ launch0.win.arr_inj (DistPrepBody.A_eq (V0 m) c) r fun w hw => ?_
    have hall : ∀ w : Fin cfg0.W, (cfg0.win w).isOut = true → Pipeline.arrRef spec0 w ∈ ([main_v0_0, main_v0_1, main_v0_2, main_v0_3, main_v0_4] : List (Ref sig .tc)) := by decide
    by_contra h
    exact hr (hw ▸ hall w (eq_true_of_ne_false h))

/-- After the second call every buffer is as the proof data have it. -/
theorem after_dist (c : Dev nD) : ∀ b ∈ Pipeline.ucRefs τ sig,
    afterRegion (DistCallBody.dat1 (entry m) c) (entry m c) b = V5 m (outs m) c b := by
  intro b hb
  obtain ⟨r, -, rfl⟩ := Finset.mem_map.mp (Finset.mem_filter.mp hb).1
  show afterRegion (DistCallBody.dat1 (entry m) c) (entry m c) (Proc.devRef .tc r) = V5 m (outs m) c (Proc.devRef .tc r)
  by_cases hr : r ∈ ([main_v7_0, main_v7_1] : List (Ref sig .tc))
  · simp only [List.mem_cons, List.not_mem_nil, or_false] at hr
    rcases hr with rfl | rfl
    · rw [V5, Function.update_of_ne (show (Proc.devRef .tc main_v7_0 : DevRef τ sig) ≠ Proc.devRef .tc main_v7_1 from StableHlo.devRef_ne_of_ne (by decide)), Function.update_self]
      rfl
    · rw [V5, Function.update_self]
      rfl
  · refine Eq.trans ?_ (V5_of m (outs m) c r hr).symm
    refine afterRegion_keeps _ _ launch1.win.arr_inj (DistCallBody.A_eq (entry m) c) r fun w hw => ?_
    have hall : ∀ w : Fin cfg1.W, (cfg1.win w).isOut = true → Pipeline.arrRef spec1 w ∈ ([main_v7_0, main_v7_1] : List (Ref sig .tc)) := by decide
    by_contra h
    exact hr (hw ▸ hall w (eq_true_of_ne_false h))

/-! ## The two calls as segments -/

/-- Every semaphore of a tensor core is at the one level. -/
def lvls : GSem nD τ sig → Finset Unit := fun g => if g.1.2 = .tc then Finset.univ else ∅

theorem cut (p : Fin 2) : LevelCut (pcfgs (F := F)) adm () lvls (fun _ _ => (0 : ℕ)) p (fun _ => 0) (fun _ => 0) where
  hι c w s := by unfold lvls; rw [if_pos rfl]; exact Finset.mem_univ _
  hιb c w s := le_rfl
  hD c g i h := absurd h (Nat.lt_irrefl 0)

set_option backward.isDefEq.respectTransparency.types false in
/-- The first call, entered from every buffer as the program starts. -/
def seg0 : RegionSeg (pcfgs (F := F)) adm (pdats m) () defs₀ Variants.none lvls (fun _ _ => (0 : ℕ)) 0 :=
  RegionSeg.ofHeldIn (pcfgs (F := F)) adm (pdats m) () defs₀ Variants.none lvls (fun _ _ => (0 : ℕ)) 0 (fun _ => 0)
    (Pipeline.ucRefs τ sig) (fun _ => iprop(emp)) (fun _ => iprop(emp)) launch0.toP rfl
    (fun c => DistPrepBody.body_obligation (V0 m) c) (fun _ _ => rfl) (fun _ => rfl)
    (fun c => (DistPrepBody.dat0 (V0 m) c).share_full fun _ => rfl)
    (fun c => by
      show iprop(Pipeline.scopedRest spec0 c ∗ emp) ⊢ DistPrepBody.inv c 0
      rw [DistPrepBody.inv_zero c 0 rfl, DistPrepBody.scoped_eq c]
      iintro ⟨H, -⟩
      iexact H)
    (fun c => by
      show DistPrepBody.inv c (Fin.last cfg0.N) ⊢ iprop(Pipeline.scopedRest spec0 c ∗ emp)
      rw [DistPrepBody.inv_pos c (Fin.last cfg0.N) (by decide), DistPrepBody.scoped_eq c]
      iintro ⟨H, Ho⟩
      isplitl [H Ho]
      · isplitl [H]
        · iexists _; iexact H
        iexact Ho
      iempintro)
    (fun _ => 0) (cut 0) (fun _ => iprop(emp)) (fun c => V0 m c) (fun c w => DistPrepBody.A_eq (V0 m) c w)

set_option backward.isDefEq.respectTransparency.types false in
/-- The second call, entered from every buffer as the host operations leave it. -/
def seg1 : RegionSeg (pcfgs (F := F)) adm (pdats m) () defs₀ Variants.none lvls (fun _ _ => (0 : ℕ)) 1 :=
  RegionSeg.ofHeldIn (pcfgs (F := F)) adm (pdats m) () defs₀ Variants.none lvls (fun _ _ => (0 : ℕ)) 1 (fun _ => 0)
    (Pipeline.ucRefs τ sig) (fun _ => iprop(emp)) (fun _ => iprop(emp)) launch1.toP rfl
    (fun c => DistCallBody.body_obligation (entry m) c) (fun _ _ => rfl) (fun _ => rfl)
    (fun c => (DistCallBody.dat1 (entry m) c).share_full fun _ => rfl)
    (fun c => by
      show iprop(Pipeline.scopedRest spec1 c ∗ emp) ⊢ Pipeline.scopedRest spec1 c
      iintro ⟨H, -⟩
      iexact H)
    (fun c => by
      show Pipeline.scopedRest spec1 c ⊢ iprop(Pipeline.scopedRest spec1 c ∗ emp)
      iintro H
      isplitl [H]
      · iexact H
      iempintro)
    (fun _ => 0) (cut 1) (fun _ => iprop(emp)) (fun c => entry m c) (fun c w => DistCallBody.A_eq (entry m) c w)

/-- Nothing beside what the core owes. -/
theorem rest_in (A : sProp 𝕄) (c : Dev nD) :
    iprop(A ∗ ∃ Wd, owes (c : Thread nD τ) (0 : CellTallies nD τ sig Unit) Wd)
      ⊢ iprop(A ∗ ((∃ Wd, owes (c : Thread nD τ) (0 : CellTallies nD τ sig Unit) Wd) ∗ emp ∗ emp)) := by
  iintro ⟨Hh, HO⟩
  isplitl [Hh]; · iexact Hh
  isplitl [HO]; · iexact HO
  isplitl []; · iempintro
  iempintro

theorem rest_out (A : sProp 𝕄) (c : Dev nD) :
    iprop(A ∗ ((∃ Wd, owes (c : Thread nD τ) (0 : CellTallies nD τ sig Unit) Wd) ∗ emp ∗ emp))
      ⊢ iprop(A ∗ ∃ Wd, owes (c : Thread nD τ) (0 : CellTallies nD τ sig Unit) Wd) := by
  iintro ⟨Hh, HO, -, -⟩
  isplitl [Hh]; · iexact Hh
  iexact HO

theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)

/-- What a core carries beside the buffers: that it owes nothing. -/
def rest (c : Dev nD) : sProp 𝕄 := iprop(∃ Wd, owes (c : Thread nD τ) (0 : CellTallies nD τ sig Unit) Wd)

set_option backward.isDefEq.respectTransparency.types false in
theorem pre0 (c : Dev nD) : iprop(StableHlo.held (c : Thread nD τ) (Pipeline.ucRefs τ sig) (V0 m c) ∗ rest c) ⊢ (seg0 m).pre c := by
  refine BI.Entails.trans ?_ (RegionSeg.ofHeldIn_pre sub0 c)
  exact rest_in (StableHlo.held (c : Thread nD τ) (Pipeline.ucRefs τ sig) (V0 m c)) c

set_option backward.isDefEq.respectTransparency.types false in
theorem post0 (c : Dev nD) : (seg0 m).post c ⊢ iprop(StableHlo.held (c : Thread nD τ) (Pipeline.ucRefs τ sig) (V1 m (outs m) c) ∗ rest c) := by
  rw [← StableHlo.held_congr (c : Thread nD τ) (S := Pipeline.ucRefs τ sig) (after_prep m c)]
  exact (RegionSeg.ofHeldIn_post sub0 c).trans (rest_out _ c)

set_option backward.isDefEq.respectTransparency.types false in
theorem pre1 (c : Dev nD) : iprop(StableHlo.held (c : Thread nD τ) (Pipeline.ucRefs τ sig) (V4 m (outs m) c) ∗ rest c) ⊢ (seg1 m).pre c := by
  refine BI.Entails.trans ?_ (RegionSeg.ofHeldIn_pre sub1 c)
  exact rest_in (StableHlo.held (c : Thread nD τ) (Pipeline.ucRefs τ sig) (entry m c)) c

set_option backward.isDefEq.respectTransparency.types false in
theorem post1 (c : Dev nD) : (seg1 m).post c ⊢ iprop(StableHlo.held (c : Thread nD τ) (Pipeline.ucRefs τ sig) (V5 m (outs m) c) ∗ rest c) := by
  rw [← StableHlo.held_congr (c : Thread nD τ) (S := Pipeline.ucRefs τ sig) (after_dist m c)]
  exact (RegionSeg.ofHeldIn_post sub1 c).trans (rest_out _ c)

/-! ## The run -/

/-- The program runs, leaves its arguments as they were and the packed distances as the second call's proof data have them. -/
theorem run_main (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v7_0) = (DistCallBody.dat1 (entry m) c).arrAt 3 cfg1.N)
      ∧ r.2.sem = fun _ => 0) := by
  have hlast : ∀ c, V5 m (outs m) c main_v7_0 = (DistCallBody.dat1 (entry m) c).arrAt 3 cfg1.N := fun c => by
    refine Eq.trans ?_ (afterRegion_arr (DistCallBody.dat1 (entry m) c) (entry m c) launch1.win.arr_inj 3)
    rw [V5, Function.update_of_ne (show (Proc.devRef .tc main_v7_0 : DevRef τ sig) ≠ Proc.devRef .tc main_v7_1 from StableHlo.devRef_ne_of_ne (by decide)), Function.update_self]
    rfl
  refine Pipeline.θ_run_regions_kit_dev_sems (pcfgs (F := F)) adm (pdats m) () cellOf_inj emb₁ defs₀ Variants.none lvls (fun _ _ => (0 : ℕ)) m ρ main
    (segs m (outs m) Variants.none lvls (fun _ _ => (0 : ℕ)) (fun _ => rest) () (pdats m) (seg0 m) (seg1 m))
    (fun c Q => by
      rewrite [main_chain c, Seg.run_eq_chain,
        show (segs m (outs m) Variants.none lvls (fun _ _ => (0 : ℕ)) (fun _ => rest) () (pdats m) (seg0 m) (seg1 m) c).map Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      dsimp (config := { failIfUnchanged := false }) only
      exact .rfl)
    (fun c => by simp only [segs, Seg.pipes_host, Seg.pipes_region, Seg.pipes_nil]; decide) 0
    (fun g hg => by unfold lvls; rw [if_neg hg]) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V5 m (outs m) c))
    (hch := fun c => ⟨pre0 m c, post0 m c, .rfl, .rfl, pre1 m c, post1 m c⟩)
    (hinit := ?_) (QY := fun c s => (s.mem ((c.tc : Thread nD τ).loc main_arg0) = m ((c.tc : Thread nD τ).loc main_arg0)
      ∧ s.mem ((c.tc : Thread nD τ).loc main_arg1) = m ((c.tc : Thread nD τ).loc main_arg1))
      ∧ s.mem ((c.tc : Thread nD τ).loc main_v7_0) = (DistCallBody.dat1 (entry m) c).arrAt 3 cfg1.N)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred 0 c ∗ prngReg c (ρ c) ∗ emp))
        ⊢ (bigSep Finset.univ fun c : Dev nD => iprop(StableHlo.held (c : Thread nD τ) (Pipeline.ucRefs τ sig) (V0 m c) ∗ rest c) : sProp 𝕄) := by
      refine bigSep_mono fun c _ => ?_
      rw [← Pipeline.unscopedBufs_held (Ix := Unit) (Name := ℕ) (U := UR sig nD τ) (Lvl := ℕ) c (V0 m c)]
      unfold rest
      show iprop(unscopedBufs c (fun b => V0 m c (Proc.devRef .tc b)) ∗ unscopedSems0 c ∗ owes (c.tc : Thread nD τ) (0 : CellTallies nD τ sig Unit) ∅
        ∗ Pipeline.launchCred 0 c ∗ prngReg c (ρ c) ∗ emp) ⊢ (_ : sProp 𝕄)
      iintro ⟨Hb, -, HO, -⟩
      isplitl [Hb]; · iexact Hb
      iexists _; iexact HO
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c)⟩,
        (h (Proc.devRef .tc main_v7_0) (Finset.mem_filter.mpr ⟨StableHlo.devRef_mem_tcRefs main_v7_0, by decide⟩)).trans (hlast c)⟩
    · iexact HSI

/-- The program runs and leaves its arguments as they were. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_main m ρ) fun _ h => ⟨fun c => (h.1 c).1, h.2⟩

end Cert.DistBody
-- ==== Proof.DistIdealPrepBody.lean ====
/-
  The distance program's first call (`DistIdeal`): the preparation kernel's body and its proof data.

  At each of four blocks of 256 queries the kernel writes the int8 codes, their scales, the packed sign bits, the count of the set bits
  and the query matrix of the distance product. The first point fills a scratch buffer with a constant matrix that every point uses.
  Everything here holds at any float values.
-/
module

public import proofs.«01_k».proof.Proof.Gen.DistIdeal.Skeleton
public import proofs.«01_k».proof.Proof.Gen.DistIdeal.Points
public import proofs.«01_k».proof.Proof.Gen.DistIdeal.Launch
public import Idealize.ShloMosaic.Lib.Pipeline.FrameBody
public import Idealize.ShloMosaic.Lib.Pipeline.Value
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.DistIdealPrepBody

open Cert.DistIdeal Cert.DistIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rCodes : Rect S256x2048 := Rect.unit (s := S256x2048) ![0, 0] S256x2048.size inb_S256x2048_S256x2048_0_0
abbrev rScratch : Rect S128x2048 := Rect.unit (s := S128x2048) ![0, 0] S128x2048.size inb_S128x2048_S128x2048_0_0
abbrev rCol : Rect S256x1 := Rect.unit (s := S256x1) ![0, 0] S256x1.size inb_S256x1_S256x1_0_0
abbrev rBits : Rect S1x64x256 := Rect.unit (s := S1x64x256) ![0, 0, 0] S1x64x256.size inb_S1x64x256_S1x64x256_0_0_0
abbrev rPiece0 : Rect S256x2048 := Rect.unit (s := S256x2048) ![0, 0] S256x256.size inb_S256x2048_S256x256_0_0
abbrev rPiece1 : Rect S256x2048 := Rect.unit (s := S256x2048) ![0, 256] S256x256.size inb_S256x2048_S256x256_0_256
abbrev rPiece2 : Rect S256x2048 := Rect.unit (s := S256x2048) ![0, 512] S256x256.size inb_S256x2048_S256x256_0_512
abbrev rPiece3 : Rect S256x2048 := Rect.unit (s := S256x2048) ![0, 768] S256x256.size inb_S256x2048_S256x256_0_768
abbrev rPiece4 : Rect S256x2048 := Rect.unit (s := S256x2048) ![0, 1024] S256x256.size inb_S256x2048_S256x256_0_1024
abbrev rPiece5 : Rect S256x2048 := Rect.unit (s := S256x2048) ![0, 1280] S256x256.size inb_S256x2048_S256x256_0_1280
abbrev rPiece6 : Rect S256x2048 := Rect.unit (s := S256x2048) ![0, 1536] S256x256.size inb_S256x2048_S256x256_0_1536
abbrev rPiece7 : Rect S256x2048 := Rect.unit (s := S256x2048) ![0, 1792] S256x256.size inb_S256x2048_S256x256_0_1792

theorem zero2 : (![0, 0] : Fin 2 → Nat) = fun _ => 0 := funext fun a => by fin_cases a <;> rfl
theorem zero3 : (![0, 0, 0] : Fin 3 → Nat) = fun _ => 0 := funext fun a => by fin_cases a <;> rfl

/-! ## What the body computes -/

/-- The packed bits, from the sign bits `b`. -/
def words (b : FVec F S256x2048 .f32) : IVec S64x256 32 := k0_pay8 b (k0_pay2 (F := F))
/-- The packed bits of a block, as stored. -/
def bitsOut (x : Vec F S256x2048 .bf16) : Vec F S1x64x256 .i32 := k0_pay9 (k0_pay6 x) (k0_pay2 (F := F))
/-- The query matrix, from the sign bits and the packed bits: piece `p` in columns `256 p` on. -/
def qmatOf (b : FVec F S256x2048 .f32) (w : IVec S64x256 32) : Vec F S256x2048 .fp8e4m3 :=
  View.canon [⟨rPiece7, k0_pay1 (k0_pay22 w k0_pay10) k0_pay23⟩, ⟨rPiece6, k0_pay21 w k0_pay10⟩, ⟨rPiece5, k0_pay20 w k0_pay10⟩, ⟨rPiece4, k0_pay19 (k0_pay17 w k0_pay10) k0_pay18⟩, ⟨rPiece3, k0_pay16 w k0_pay10⟩, ⟨rPiece2, k0_pay15 w k0_pay10⟩, ⟨rPiece1, k0_pay14 (k0_pay12 b (k0_pay2 (F := F))) k0_pay13⟩, ⟨rPiece0, k0_pay11 b (k0_pay2 (F := F))⟩]
/-- The query matrix of a block. -/
def qmatOut (x : Vec F S256x2048 .bf16) : Vec F S256x2048 .fp8e4m3 := qmatOf (k0_pay6 x) (words (k0_pay6 x))

/-- The eight pieces tile the block of the query matrix. -/
theorem cover_qmat (p0 p1 p2 p3 p4 p5 p6 p7 : Vec F S256x256 .fp8e4m3) (y : S256x2048.Idx) :
    ∃ pc ∈ ([⟨rPiece7, p7⟩, ⟨rPiece6, p6⟩, ⟨rPiece5, p5⟩, ⟨rPiece4, p4⟩, ⟨rPiece3, p3⟩, ⟨rPiece2, p2⟩, ⟨rPiece1, p1⟩, ⟨rPiece0, p0⟩] : List (View.Piece (Elt F) S256x2048 .fp8e4m3)), y ∈ pc.1.set :=
  View.cover_of_tiled [⟨rPiece7, p7⟩, ⟨rPiece6, p6⟩, ⟨rPiece5, p5⟩, ⟨rPiece4, p4⟩, ⟨rPiece3, p3⟩, ⟨rPiece2, p2⟩, ⟨rPiece1, p1⟩, ⟨rPiece0, p0⟩] S256x256.size (by rfl) y

/-- A load of a whole buffer reads the buffer. -/
theorem readAt_x {e : EltTy} (v : View sig .tc .vmem S256x2048 e) (f : v.ty.Contents (Elt F)) :
    v.readAt (Elt F) rCodes.toLoadRect f = v.read (Elt F) f := v.readAt_full f _
theorem readAt_scratch {e : EltTy} (v : View sig .tc .vmem S128x2048 e) (f : v.ty.Contents (Elt F)) :
    v.readAt (Elt F) rScratch.toLoadRect f = v.read (Elt F) f := v.readAt_full f _

/-- The body's branch is taken at the first point. -/
def isFirst (i : grid0.Coords) : Prop :=
  Scalar.cmpi .ne (Scalar.extui (Scalar.cmpi .eq (BitVec.ofNat 32 (i 0).val) 0#32) : BitVec 32) 0#32 = 1#1
instance (i : grid0.Coords) : Decidable (isFirst i) := by unfold isFirst; infer_instance
theorem isFirst_iff : ∀ t : Fin cfg0.N, isFirst (grid0.coords t) ↔ t.val = 0 :=
  (by decide +kernel : ∀ t : Fin grid0.N, isFirst (grid0.coords t) ↔ t.val = 0)

/-! ## The body's triples -/

set_option maxHeartbeats 2000000 in
/-- The body at the first point: it fills the scratch. -/
theorem kernel_first (c : Dev nD) (E : Set ℕ) (i : grid0.Coords) (arg1 : Memref sig .tc .vmem S256x2048 .bf16) (harg1 : arg1.IsWhole) (arg2 : Memref sig .tc .vmem S256x2048 .i8) (harg2 : arg2.IsWhole) (arg3 : Memref sig .tc .vmem S256x1 .f32) (harg3 : arg3.IsWhole) (arg4 : Memref sig .tc .vmem S1x64x256 .i32) (harg4 : arg4.IsWhole) (arg5 : Memref sig .tc .vmem S256x1 .i32) (harg5 : arg5.IsWhole) (arg6 : Memref sig .tc .vmem S256x2048 .fp8e4m3) (harg6 : arg6.IsWhole) (arg7 : Memref sig .tc .vmem S128x2048 .bf16) (harg7 : arg7.IsWhole)
    (h1 : isFirst i)
    (x : Vec F S256x2048 .bf16) (K : PUnit → sProp 𝕄) :
    iprop(owns (c : Thread nD τ) arg1 fullShare x ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare (k0_pay5 x) ∗ owns (c : Thread nD τ) arg3 fullShare (k0_pay4 x)
            ∗ owns (c : Thread nD τ) arg4 fullShare (bitsOut x) ∗ owns (c : Thread nD τ) arg5 fullShare (k0_pay7 x)
            ∗ owns (c : Thread nD τ) arg6 fullShare (qmatOut x) ∗ owns (c : Thread nD τ) arg7 fullShare (k0_pay2 (F := F))) -∗ K ⟨⟩))
      ⊢ wp frame (wpE (defs₀ (F := F)) Variants.none c none) E
          (cc0_prep i arg1 harg1 arg2 harg2 arg3 harg3 arg4 harg4 arg5 harg5 arg6 harg6 arg7 harg7) K := by
  simp only [cc0_prep_eq_skeleton]; unfold cc0_prep_skel
  simp only [k0_part1_eq_skeleton, k0_part2_eq_skeleton, k0_part3_eq_skeleton, k0_part4_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, Hk⟩
  subst hf0
  sl_exec (disch := first | sl_exact h1)
  sl_step
  iapply Hk
  isplitl [H0]
  · iexists f0; isplitr; · ipureintro; rfl
    iexact H0
  isplitl [H1]
  · iexists _; isplitr
    swap; · iexact H1
    ipureintro
    refine (View.read_writes_eq_canon _ _ _ (View.cover_of_tiled [⟨rCodes, _⟩] S256x2048.size (by rfl))).trans ?_
    rw [readAt_x]
    exact View.canon_unit_zero zero2 _ _
  isplitl [H2]
  · iexists _; isplitr
    swap; · iexact H2
    ipureintro
    refine (View.read_writes_eq_canon _ _ _ (View.cover_of_tiled [⟨rCol, _⟩] S256x1.size (by rfl))).trans ?_
    rw [readAt_x]
    exact View.canon_unit_zero zero2 _ _
  isplitl [H3]
  · iexists _; isplitr
    swap; · iexact H3
    ipureintro
    refine (View.read_writes_eq_canon _ _ _ (View.cover_of_tiled [⟨rBits, _⟩] S1x64x256.size (by rfl))).trans ?_
    unfold kernel_first.sl.r
    unfold kernel_first.sl.v33 kernel_first.sl.H6_1
    rw [View.readCov_cons_toLoadRect, readAt_x]
    exact View.canon_unit_zero zero3 _ _
  isplitl [H4]
  · iexists _; isplitr
    swap; · iexact H4
    ipureintro
    refine (View.read_writes_eq_canon _ _ _ (View.cover_of_tiled [⟨rCol, _⟩] S256x1.size (by rfl))).trans ?_
    rw [readAt_x]
    exact View.canon_unit_zero zero2 _ _
  isplitl [H5]
  · iexists _; isplitr
    swap; · iexact H5
    ipureintro
    refine (View.read_writes_eq_canon _ _ _ (cover_qmat _ _ _ _ _ _ _ _)).trans ?_
    unfold kernel_first.sl.r_4 kernel_first.sl.r_3 kernel_first.sl.r_2 kernel_first.sl.r_1 kernel_first.sl.r
    unfold kernel_first.sl.v33 kernel_first.sl.H6_1
    rw [View.readCov_cons_toLoadRect, readAt_x]
    rfl
  iexists _; isplitr
  swap; · iexact H6
  ipureintro
  unfold kernel_first.sl.H6_1
  refine (View.read_writes_eq_canon _ _ _ (View.cover_of_tiled [⟨rScratch, _⟩] S128x2048.size (by rfl))).trans ?_
  exact View.canon_unit_zero zero2 _ _

set_option maxHeartbeats 2000000 in
/-- The body at a later point: the scratch holds what the first point put there. -/
theorem kernel_later (c : Dev nD) (E : Set ℕ) (i : grid0.Coords) (arg1 : Memref sig .tc .vmem S256x2048 .bf16) (harg1 : arg1.IsWhole) (arg2 : Memref sig .tc .vmem S256x2048 .i8) (harg2 : arg2.IsWhole) (arg3 : Memref sig .tc .vmem S256x1 .f32) (harg3 : arg3.IsWhole) (arg4 : Memref sig .tc .vmem S1x64x256 .i32) (harg4 : arg4.IsWhole) (arg5 : Memref sig .tc .vmem S256x1 .i32) (harg5 : arg5.IsWhole) (arg6 : Memref sig .tc .vmem S256x2048 .fp8e4m3) (harg6 : arg6.IsWhole) (arg7 : Memref sig .tc .vmem S128x2048 .bf16) (harg7 : arg7.IsWhole)
    (h1 : ¬ isFirst i)
    (x : Vec F S256x2048 .bf16) (K : PUnit → sProp 𝕄) :
    iprop(owns (c : Thread nD τ) arg1 fullShare x ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d) ∗ (∃ d, owns (c : Thread nD τ) arg6 fullShare d) ∗ owns (c : Thread nD τ) arg7 fullShare (k0_pay2 (F := F))
        ∗ (iprop(owns (c : Thread nD τ) arg1 fullShare x ∗ owns (c : Thread nD τ) arg2 fullShare (k0_pay5 x) ∗ owns (c : Thread nD τ) arg3 fullShare (k0_pay4 x)
            ∗ owns (c : Thread nD τ) arg4 fullShare (bitsOut x) ∗ owns (c : Thread nD τ) arg5 fullShare (k0_pay7 x)
            ∗ owns (c : Thread nD τ) arg6 fullShare (qmatOut x) ∗ owns (c : Thread nD τ) arg7 fullShare (k0_pay2 (F := F))) -∗ K ⟨⟩))
      ⊢ wp frame (wpE (defs₀ (F := F)) Variants.none c none) E
          (cc0_prep i arg1 harg1 arg2 harg2 arg3 harg3 arg4 harg4 arg5 harg5 arg6 harg6 arg7 harg7) K := by
  simp only [cc0_prep_eq_skeleton]; unfold cc0_prep_skel
  simp only [k0_part1_eq_skeleton, k0_part2_eq_skeleton, k0_part3_eq_skeleton, k0_part4_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%f6, %hf6, H6⟩, Hk⟩
  subst hf0
  sl_exec (disch := first | sl_exact h1)
  sl_step
  iapply Hk
  isplitl [H0]
  · iexists f0; isplitr; · ipureintro; rfl
    iexact H0
  isplitl [H1]
  · iexists _; isplitr
    swap; · iexact H1
    ipureintro
    refine (View.read_writes_eq_canon _ _ _ (View.cover_of_tiled [⟨rCodes, _⟩] S256x2048.size (by rfl))).trans ?_
    rw [readAt_x]
    exact View.canon_unit_zero zero2 _ _
  isplitl [H2]
  · iexists _; isplitr
    swap; · iexact H2
    ipureintro
    refine (View.read_writes_eq_canon _ _ _ (View.cover_of_tiled [⟨rCol, _⟩] S256x1.size (by rfl))).trans ?_
    rw [readAt_x]
    exact View.canon_unit_zero zero2 _ _
  isplitl [H3]
  · iexists _; isplitr
    swap; · iexact H3
    ipureintro
    refine (View.read_writes_eq_canon _ _ _ (View.cover_of_tiled [⟨rBits, _⟩] S1x64x256.size (by rfl))).trans ?_
    unfold kernel_later.sl.r
    rw [readAt_scratch, hf6, readAt_x]
    exact View.canon_unit_zero zero3 _ _
  isplitl [H4]
  · iexists _; isplitr
    swap; · iexact H4
    ipureintro
    refine (View.read_writes_eq_canon _ _ _ (View.cover_of_tiled [⟨rCol, _⟩] S256x1.size (by rfl))).trans ?_
    rw [readAt_x]
    exact View.canon_unit_zero zero2 _ _
  isplitl [H5]
  · iexists _; isplitr
    swap; · iexact H5
    ipureintro
    refine (View.read_writes_eq_canon _ _ _ (cover_qmat _ _ _ _ _ _ _ _)).trans ?_
    unfold kernel_later.sl.r_4 kernel_later.sl.r_3 kernel_later.sl.r_2 kernel_later.sl.r_1 kernel_later.sl.r
    rw [readAt_scratch, hf6, readAt_x]
    rfl
  iexists f6; isplitr; · ipureintro; exact hf6
  iexact H6

/-! ## The proof data -/

variable (W : Dev nD → Valuation τ sig (Elt F))

/-- Window `w`'s block at point `t` of the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The scratch operand. -/
abbrev scM : Memref sig .tc .vmem S128x2048 .bf16 := Memref.whole cc0_scratch0

/-- The scoped buffers but the scratch. -/
def others (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

theorem scoped_eq (c : Dev nD) : (Pipeline.scopedRest spec0 c : sProp 𝕄) = iprop((∃ d, owns (c : Thread nD τ) scM fullShare d) ∗ others c) := by
  rw [scopedRest0_eq]; unfold others; simp only [scM, owns_whole]; try rfl

/-- What the body carries from point to point: before the first, the scratch at anything; after it, the scratch at the constant matrix. -/
def inv (c : Dev nD) (t : Fin (cfg0.N + 1)) : sProp 𝕄 :=
  match t.val with
  | 0 => iprop((∃ d, owns (c : Thread nD τ) scM fullShare d) ∗ others c)
  | _ + 1 => iprop(owns (c : Thread nD τ) scM fullShare (k0_pay2 (F := F)) ∗ others c)

theorem inv_zero (c : Dev nD) (t : Fin (cfg0.N + 1)) (h : t.val = 0) :
    inv (F := F) c t = iprop((∃ d, owns (c : Thread nD τ) scM fullShare d) ∗ others c) := by
  unfold inv; rw [h]
theorem inv_pos (c : Dev nD) (t : Fin (cfg0.N + 1)) (h : t.val ≠ 0) :
    inv (F := F) c t = iprop(owns (c : Thread nD τ) scM fullShare (k0_pay2 (F := F)) ∗ others c) := by
  unfold inv; obtain ⟨n, hn⟩ := Nat.exists_eq_succ_of_ne_zero h; rw [hn]

/-- The proof data: the arrays as `W` has them; after the body the queries' buffer at its block and each result's at what the body computes. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => k0_pay5 (iblk0 W c 0 t)
    | ⟨2, _⟩ => k0_pay4 (iblk0 W c 0 t)
    | ⟨3, _⟩ => bitsOut (iblk0 W c 0 t)
    | ⟨4, _⟩ => k0_pay7 (iblk0 W c 0 t)
    | ⟨5, _⟩ => qmatOut (iblk0 W c 0 t)
  Φ t := inv c t
  q _ := fullShare
  owed _ := 0

theorem A_eq (c : Dev nD) (w : Fin cfg0.W) : (dat0 W c).A w = W c (Proc.devRef .tc (Pipeline.arrRef spec0 w)) := by dsimp only [dat0]
theorem after_0 (c : Dev nD) (t : Fin cfg0.N) : (dat0 W c).after 0 t = iblk0 W c 0 t := by dsimp only [dat0]
theorem after_5 (c : Dev nD) (t : Fin cfg0.N) : (dat0 W c).after 5 t = qmatOut (iblk0 W c 0 t) := by dsimp only [dat0]

/-- What the body finds in the queries' buffer. -/
theorem before_0 (c : Dev nD) (t : Fin cfg0.N) (d) : (dat0 W c).before 0 t d = iblk0 W c 0 t :=
  ((dat0 W c).before_in_eq_fetched 0 rfl (fun _ => rfl) (fun _ _ _ => rfl)
    (fun t => by rw [after_0]; unfold Dat.blockOf iblk0; rw [A_eq]) t d).trans
    (by unfold Dat.fetched Dat.blockOf iblk0; rw [A_eq]; try rfl)

/-! ## The body obligation -/

/-- What the body is called with at point `t`; -/
def bodyPre (c : Dev nD) (t : Fin cfg0.N) : sProp 𝕄 :=
  iprop(inv c t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d)))

/-- and what it returns. -/
def bodyPost (c : Dev nD) (t : Fin cfg0.N) : sProp 𝕄 :=
  iprop(inv c t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t))

set_option maxHeartbeats 1000000 in
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, after_0]
  rw [show (dat0 W c).owesAt () t.succ = (dat0 W c).owesAt () t.castSucc from rfl,
    inv_pos c t.succ (Nat.succ_ne_zero _)]
  by_cases h0 : t.val = 0
  · rw [inv_zero c t.castSucc h0]
    iintro ⟨⟨HS, HB⟩, Ho, ⟨%d0, H0⟩, ⟨%d1, H1⟩, ⟨%d2, H2⟩, ⟨%d3, H3⟩, ⟨%d4, H4⟩, ⟨%d5, H5⟩⟩
    iapply (kernel_first c Set.univ (grid0.coords t) _ _ _ _ _ _ _ _ _ _ _ _ _ _ ((isFirst_iff t).mpr h0) (iblk0 W c 0 t) _)
    isplitl [H0]; · iexact H0
    isplitl [H1]; · iexists _; iexact H1
    isplitl [H2]; · iexists _; iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HB HS]
    · isplitl [HS]; · iexact HS
      iexact HB
    isplitl [Ho]; · iexact Ho
    isplitl [H0]; · iexact H0
    isplitl [H1]; · iexact H1
    isplitl [H2]; · iexact H2
    isplitl [H3]; · iexact H3
    isplitl [H4]; · iexact H4
    iexact H5
  · rw [inv_pos c t.castSucc h0]
    iintro ⟨⟨HS, HB⟩, Ho, ⟨%d0, H0⟩, ⟨%d1, H1⟩, ⟨%d2, H2⟩, ⟨%d3, H3⟩, ⟨%d4, H4⟩, ⟨%d5, H5⟩⟩
    iapply (kernel_later c Set.univ (grid0.coords t) _ _ _ _ _ _ _ _ _ _ _ _ _ _ (fun h => h0 ((isFirst_iff t).mp h)) (iblk0 W c 0 t) _)
    isplitl [H0]; · iexact H0
    isplitl [H1]; · iexists _; iexact H1
    isplitl [H2]; · iexists _; iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HB HS]
    · isplitl [HS]; · iexact HS
      iexact HB
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) :
    Pipeline.BodyObligationLoose (dat0 (F := F) W c) (defs₀ (F := F)) Variants.none () Set.univ := fun t => by
  rw [bigSep_W0, bigSep_W0, defs₀_row]
  exact triple_restated (sound_body W c t) rfl .rfl fun _ => .rfl

end Cert.DistIdealPrepBody

end
-- ==== Proof.DistIdealCallBody.lean ====
/-
  The body of the distance kernel (`DistIdeal`, its second call): what one grid point computes.

  The kernel walks 147 blocks of 1024 documents. At each point it masks the document words past the last document
  to zero, spreads them into eight planes of fp8 bit patterns in a scratch buffer, multiplies the query matrix by
  the planes, adds the padding row, encodes the sums as integers and packs them in pairs (`wordsOut`). It also keeps the
  least encoded sum of every group of four blocks (`gminFirst` at a group's first block, `gminNext` at the others). The last block of
  documents overhangs its array; since the overhang is masked, nothing the body computes depends on it (`masked_fill`).
  Everything here holds at any float values.
-/
module

public import proofs.«01_k».proof.Proof.Gen.DistIdeal.Skeleton
public import proofs.«01_k».proof.Proof.Gen.DistIdeal.Points
public import proofs.«01_k».proof.Proof.Gen.DistIdeal.Launch
public import Idealize.ShloMosaic.Lib.Pipeline.FrameBody
public import Idealize.ShloMosaic.Lib.Pipeline.Value
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.DistIdealCallBody

open Cert.DistIdeal Cert.DistIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rQ : Rect S1024x2048 := Rect.unit (s := S1024x2048) ![0, 0] S1024x2048.size inb_S1024x2048_S1024x2048_0_0
abbrev rDocs : Rect S64x1024 := Rect.unit (s := S64x1024) ![0, 0] S64x1024.size inb_S64x1024_S64x1024_0_0
abbrev rPlanes : Rect S2048x1024 := Rect.unit (s := S2048x1024) ![0, 0] S2048x1024.size inb_S2048x1024_S2048x1024_0_0
abbrev rPad : Rect S8x1024 := Rect.unit (s := S8x1024) ![0, 0] S1x1024.size inb_S8x1024_S1x1024_0_0
abbrev rMin : Rect S128x1x8x128 := Rect.unit (s := S128x1x8x128) ![0, 0, 0, 0] S128x1x8x128.size inb_S128x1x8x128_S128x1x8x128_0_0_0_0
abbrev rPlane0 : Rect S2048x1024 := Rect.unit (s := S2048x1024) ![0, 0] S256x1024.size inb_S2048x1024_S256x1024_0_0
abbrev rPlane1 : Rect S2048x1024 := Rect.unit (s := S2048x1024) ![256, 0] S256x1024.size inb_S2048x1024_S256x1024_256_0
abbrev rPlane2 : Rect S2048x1024 := Rect.unit (s := S2048x1024) ![512, 0] S256x1024.size inb_S2048x1024_S256x1024_512_0
abbrev rPlane3 : Rect S2048x1024 := Rect.unit (s := S2048x1024) ![768, 0] S256x1024.size inb_S2048x1024_S256x1024_768_0
abbrev rPlane4 : Rect S2048x1024 := Rect.unit (s := S2048x1024) ![1024, 0] S256x1024.size inb_S2048x1024_S256x1024_1024_0
abbrev rPlane5 : Rect S2048x1024 := Rect.unit (s := S2048x1024) ![1280, 0] S256x1024.size inb_S2048x1024_S256x1024_1280_0
abbrev rPlane6 : Rect S2048x1024 := Rect.unit (s := S2048x1024) ![1536, 0] S256x1024.size inb_S2048x1024_S256x1024_1536_0
abbrev rPlane7 : Rect S2048x1024 := Rect.unit (s := S2048x1024) ![1792, 0] S256x1024.size inb_S2048x1024_S256x1024_1792_0
abbrev rWords0 : Rect S128x4x8x128 := Rect.unit (s := S128x4x8x128) ![0, 0, 0, 0] S128x1x8x128.size inb_S128x4x8x128_S128x1x8x128_0_0_0_0
abbrev rWords1 : Rect S128x4x8x128 := Rect.unit (s := S128x4x8x128) ![0, 1, 0, 0] S128x1x8x128.size inb_S128x4x8x128_S128x1x8x128_0_1_0_0
abbrev rWords2 : Rect S128x4x8x128 := Rect.unit (s := S128x4x8x128) ![0, 2, 0, 0] S128x1x8x128.size inb_S128x4x8x128_S128x1x8x128_0_2_0_0
abbrev rWords3 : Rect S128x4x8x128 := Rect.unit (s := S128x4x8x128) ![0, 3, 0, 0] S128x1x8x128.size inb_S128x4x8x128_S128x1x8x128_0_3_0_0

/-! ## What the body computes -/

/-- The eight planes of the masked document words, as the scratch holds them: plane `p` in rows `256 p` on. -/
def planes (i : grid1.Coords) (d : Vec F S64x1024 .i32) : Vec F S2048x1024 .fp8e4m3 :=
  View.canon [⟨rPlane7, k1_pay11 (F := F) (k1_pay2 i d)⟩, ⟨rPlane6, k1_pay10 (F := F) (k1_pay2 i d)⟩, ⟨rPlane5, k1_pay9 (F := F) (k1_pay2 i d)⟩,
    ⟨rPlane4, k1_pay8 (F := F) (k1_pay2 i d)⟩, ⟨rPlane3, k1_pay7 (F := F) (k1_pay6 i d)⟩, ⟨rPlane2, k1_pay5 i d⟩, ⟨rPlane1, k1_pay4 i d⟩, ⟨rPlane0, k1_pay3 i d⟩]

/-- The product of the query matrix with the planes. -/
def prod (i : grid1.Coords) (q : Vec F S1024x2048 .fp8e4m3) (d : Vec F S64x1024 .i32) : FVec F S1024x1024 .f32 := k1_pay12 q (planes i d)

/-- The padding block's first row. -/
def padRow (p : Vec F S8x1024 .f32) : Vec F S1x1024 .f32 := VecWindow.window p ![0, 0] S1x1024.size inb_S8x1024_S1x1024_0_0

/-- The packed words of a block: four pairs of 128 documents. -/
def wordsOut (i : grid1.Coords) (q : Vec F S1024x2048 .fp8e4m3) (d : Vec F S64x1024 .i32) (p : Vec F S8x1024 .f32) : Vec F S128x4x8x128 .i32 :=
  View.canon [⟨rWords3, k1_pay20 (k1_pay14 (prod i q d) (padRow p))⟩, ⟨rWords2, k1_pay19 (k1_pay18 (prod i q d) (padRow p))⟩,
    ⟨rWords1, k1_pay16 (prod i q d) (padRow p)⟩, ⟨rWords0, k1_pay15 (prod i q d) (padRow p)⟩]

/-- The group minimum after a group's first block, -/
def gminFirst (i : grid1.Coords) (q : Vec F S1024x2048 .fp8e4m3) (d : Vec F S64x1024 .i32) (p : Vec F S8x1024 .f32) : Vec F S128x1x8x128 .i32 :=
  k1_pay22 (k1_pay13 (prod i q d) (padRow p)) (k1_pay17 (prod i q d) (padRow p))
/-- and after a later block, from the one before. -/
def gminNext (i : grid1.Coords) (q : Vec F S1024x2048 .fp8e4m3) (d : Vec F S64x1024 .i32) (p : Vec F S8x1024 .f32) (g : Vec F S128x1x8x128 .i32) :
    Vec F S128x1x8x128 .i32 :=
  k1_pay1 (k1_pay21 (k1_pay13 (prod i q d) (padRow p)) (k1_pay17 (prod i q d) (padRow p))) g

/-- The eight planes tile the scratch. -/
theorem cover_planes (p0 p1 p2 p3 p4 p5 p6 p7 : Vec F S256x1024 .fp8e4m3) (y : S2048x1024.Idx) :
    ∃ pc ∈ ([⟨rPlane7, p7⟩, ⟨rPlane6, p6⟩, ⟨rPlane5, p5⟩, ⟨rPlane4, p4⟩, ⟨rPlane3, p3⟩, ⟨rPlane2, p2⟩, ⟨rPlane1, p1⟩, ⟨rPlane0, p0⟩] : List (View.Piece (Elt F) S2048x1024 .fp8e4m3)), y ∈ pc.1.set :=
  View.cover_of_tiled [⟨rPlane7, p7⟩, ⟨rPlane6, p6⟩, ⟨rPlane5, p5⟩, ⟨rPlane4, p4⟩, ⟨rPlane3, p3⟩, ⟨rPlane2, p2⟩, ⟨rPlane1, p1⟩, ⟨rPlane0, p0⟩] S256x1024.size (by rfl) y

/-- The four stores tile the block of words. -/
theorem cover_words (p0 p1 p2 p3 : Vec F S128x1x8x128 .i32) (y : S128x4x8x128.Idx) :
    ∃ pc ∈ ([⟨rWords3, p3⟩, ⟨rWords2, p2⟩, ⟨rWords1, p1⟩, ⟨rWords0, p0⟩] : List (View.Piece (Elt F) S128x4x8x128 .i32)), y ∈ pc.1.set :=
  View.cover_of_tiled [⟨rWords3, p3⟩, ⟨rWords2, p2⟩, ⟨rWords1, p1⟩, ⟨rWords0, p0⟩] S128x1x8x128.size (by rfl) y

/-- A load of a whole buffer reads the buffer. -/
theorem readAt_q {e : EltTy} (v : View sig .tc .vmem S1024x2048 e) (f : v.ty.Contents (Elt F)) :
    v.readAt (Elt F) rQ.toLoadRect f = v.read (Elt F) f := v.readAt_full f _
theorem readAt_docs {e : EltTy} (v : View sig .tc .vmem S64x1024 e) (f : v.ty.Contents (Elt F)) :
    v.readAt (Elt F) rDocs.toLoadRect f = v.read (Elt F) f := v.readAt_full f _
theorem readAt_min {e : EltTy} (v : View sig .tc .vmem S128x1x8x128 e) (f : v.ty.Contents (Elt F)) :
    v.readAt (Elt F) rMin.toLoadRect f = v.read (Elt F) f := v.readAt_full f _
theorem readAt_pad (v : View sig .tc .vmem S8x1024 .f32) (f : v.ty.Contents (Elt F)) :
    v.readAt (Elt F) rPad.toLoadRect f = padRow (v.read (Elt F) f) := rfl

/-- A load of the whole scratch after stores that cover it reads what they left. -/
theorem readCov_planes (v : View sig .tc .vmem S2048x1024 .fp8e4m3) (L : List (View.Piece (Elt F) S2048x1024 .fp8e4m3))
    (h : ∀ y : S2048x1024.Idx, ∃ pc ∈ L, y ∈ pc.1.set) : v.readCov L rPlanes.toLoadRect = View.canon L :=
  (v.readAt_full _ _).trans (View.read_writes_eq_canon _ _ _ h)

theorem zero4 : (![0, 0, 0, 0] : Fin 4 → Nat) = fun _ => 0 := funext fun a => by fin_cases a <;> rfl

/-! ## The branches -/

/-- The body's first branch is taken at each group's first block, the second at the others. -/
theorem cond1_iff : ∀ t : Fin cfg1.N, (k1_cond1 (grid1.coords t) = 1#1) ↔ t.val % 4 = 0 :=
  (by decide +kernel : ∀ t : Fin grid1.N, (k1_cond1 (grid1.coords t) = 1#1) ↔ t.val % 4 = 0)
theorem cond2_iff : ∀ t : Fin cfg1.N, (k1_cond2 (grid1.coords t) = 1#1) ↔ ¬ t.val % 4 = 0 :=
  (by decide +kernel : ∀ t : Fin grid1.N, (k1_cond2 (grid1.coords t) = 1#1) ↔ ¬ t.val % 4 = 0)

/-! ## The body's triples -/

set_option maxHeartbeats 2000000 in
/-- The body at a group's first block. -/
theorem kernel_first (c : Dev nD) (E : Set ℕ) (i : grid1.Coords) (arg1 : Memref sig .tc .vmem S1024x2048 .fp8e4m3) (harg1 : arg1.IsWhole) (arg2 : Memref sig .tc .vmem S64x1024 .i32) (harg2 : arg2.IsWhole) (arg3 : Memref sig .tc .vmem S8x1024 .f32) (harg3 : arg3.IsWhole) (arg4 : Memref sig .tc .vmem S128x4x8x128 .i32) (harg4 : arg4.IsWhole) (arg5 : Memref sig .tc .vmem S128x1x8x128 .i32) (harg5 : arg5.IsWhole) (arg6 : Memref sig .tc .vmem S2048x1024 .fp8e4m3) (harg6 : arg6.IsWhole)
    (h1 : k1_cond1 i = 1#1) (h2 : ¬ k1_cond2 i = 1#1)
    (x0 : Vec F S1024x2048 .fp8e4m3) (x1 : Vec F S64x1024 .i32) (x2 : Vec F S8x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (wordsOut i x0 x1 x2) ∗ owns (c : Thread nD τ) arg5 fullShare (gminFirst i x0 x1 x2)
            ∗ (∃ d, owns (c : Thread nD τ) arg6 fullShare d)) -∗ K ⟨⟩))
      ⊢ wp frame (wpE (defs₀ (F := F)) Variants.none c none) E
          (cc1_dist i arg1 harg1 arg2 harg2 arg3 harg3 arg4 harg4 arg5 harg5 arg6 harg6) K := by
  simp only [cc1_dist_eq_skeleton]; unfold cc1_dist_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_words _ _ _ _)).trans ?_
    have hv : kernel_first.sl.v70 c i arg2 arg6 f1 = planes i (arg2.view.read (Elt F) f1) :=
      (readCov_planes arg6.view _ (cover_planes _ _ _ _ _ _ _ _)).trans (congrArg (planes i) (readAt_docs arg2.view f1))
    unfold kernel_first.sl.r_4 kernel_first.sl.r_6 kernel_first.sl.r_2
    rw [hv, readAt_q, readAt_pad]
    rfl
  isplitl [H4]
  · iexists _; isplitr
    swap; · iexact H4
    ipureintro
    refine (View.read_writes_eq_canon _ _ _ (View.cover_of_tiled [⟨rMin, _⟩] S128x1x8x128.size (by rfl))).trans ?_
    have hv : kernel_first.sl.v70 c i arg2 arg6 f1 = planes i (arg2.view.read (Elt F) f1) :=
      (readCov_planes arg6.view _ (cover_planes _ _ _ _ _ _ _ _)).trans (congrArg (planes i) (readAt_docs arg2.view f1))
    unfold kernel_first.sl.r_3 kernel_first.sl.r_5 kernel_first.sl.r_2
    rw [hv, readAt_q, readAt_pad]
    exact View.canon_unit_zero zero4 _ _
  iexists _, _; isplitr
  swap; · iexact H5
  ipureintro
  rfl

set_option maxHeartbeats 2000000 in
/-- The body at a later block of a group: it keeps the lesser of the minimum so far and its own. -/
theorem kernel_next (c : Dev nD) (E : Set ℕ) (i : grid1.Coords) (arg1 : Memref sig .tc .vmem S1024x2048 .fp8e4m3) (harg1 : arg1.IsWhole) (arg2 : Memref sig .tc .vmem S64x1024 .i32) (harg2 : arg2.IsWhole) (arg3 : Memref sig .tc .vmem S8x1024 .f32) (harg3 : arg3.IsWhole) (arg4 : Memref sig .tc .vmem S128x4x8x128 .i32) (harg4 : arg4.IsWhole) (arg5 : Memref sig .tc .vmem S128x1x8x128 .i32) (harg5 : arg5.IsWhole) (arg6 : Memref sig .tc .vmem S2048x1024 .fp8e4m3) (harg6 : arg6.IsWhole)
    (h1 : ¬ k1_cond1 i = 1#1) (h2 : k1_cond2 i = 1#1)
    (x0 : Vec F S1024x2048 .fp8e4m3) (x1 : Vec F S64x1024 .i32) (x2 : Vec F S8x1024 .f32) (g : Vec F S128x1x8x128 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare g ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (wordsOut i x0 x1 x2) ∗ owns (c : Thread nD τ) arg5 fullShare (gminNext i x0 x1 x2 g)
            ∗ (∃ d, owns (c : Thread nD τ) arg6 fullShare d)) -∗ K ⟨⟩))
      ⊢ wp frame (wpE (defs₀ (F := F)) Variants.none c none) E
          (cc1_dist i arg1 harg1 arg2 harg2 arg3 harg3 arg4 harg4 arg5 harg5 arg6 harg6) K := by
  simp only [cc1_dist_eq_skeleton]; unfold cc1_dist_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, Hk⟩
  subst hf0 hf1 hf2 hf4
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_words _ _ _ _)).trans ?_
    have hv : kernel_next.sl.v70 c i arg2 arg6 f1 = planes i (arg2.view.read (Elt F) f1) :=
      (readCov_planes arg6.view _ (cover_planes _ _ _ _ _ _ _ _)).trans (congrArg (planes i) (readAt_docs arg2.view f1))
    unfold kernel_next.sl.r_4 kernel_next.sl.r_6 kernel_next.sl.r_2
    rw [hv, readAt_q, readAt_pad]
    rfl
  isplitl [H4]
  · iexists _; isplitr
    swap; · iexact H4
    ipureintro
    refine (View.read_writes_eq_canon _ _ _ (View.cover_of_tiled [⟨rMin, _⟩] S128x1x8x128.size (by rfl))).trans ?_
    have hv : kernel_next.sl.v70 c i arg2 arg6 f1 = planes i (arg2.view.read (Elt F) f1) :=
      (readCov_planes arg6.view _ (cover_planes _ _ _ _ _ _ _ _)).trans (congrArg (planes i) (readAt_docs arg2.view f1))
    unfold kernel_next.sl.r_7 kernel_next.sl.v154 kernel_next.sl.r_3 kernel_next.sl.r_5 kernel_next.sl.r_2
    rw [hv, readAt_q, readAt_pad, readAt_min]
    exact View.canon_unit_zero zero4 _ _
  iexists _, _; isplitr
  swap; · iexact H5
  ipureintro
  rfl

end Cert.DistIdealCallBody

end
-- ==== Proof.DistIdealCallData.lean ====
/-
  The proof data of the distance kernel's second call (`DistIdeal`): what each window's buffer holds around each grid point.

  The arrays are those of a valuation `W`, whatever ran before. The documents' last block overhangs its array and the
  body masks the overhang, so nothing it computes depends on what the buffer holds there (`masked_fill`).
-/
module

public import proofs.«01_k».proof.Proof.DistIdealCallBody

@[expose] public section

set_option maxRecDepth 16384

noncomputable section

namespace Cert.DistIdealCallBody

open Cert.DistIdeal Cert.DistIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The overhang is masked -/

/-- How much of each documents' block lies inside the array. -/
theorem xsize_1 : ∀ t : Fin cfg1.N, win1_1.xsize (grid1.coords t) 0 = 64 ∧ win1_1.xsize (grid1.coords t) 1 = min 1024 (150000 - 1024 * t.val) :=
  (by decide +kernel : ∀ t : Fin grid1.N, win1_1.xsize (grid1.coords t) 0 = 64 ∧ win1_1.xsize (grid1.coords t) 1 = min 1024 (150000 - 1024 * t.val))
/-- A point's grid coordinate is its number. -/
theorem coords1 : ∀ t : Fin cfg1.N, ((grid1.coords t) 0).val = t.val :=
  (by decide +kernel : ∀ t : Fin grid1.N, ((grid1.coords t) 0).val = t.val)

/-- The masked documents: a word of a document in range is kept, any other is zero. -/
theorem pay2_at (t : Fin cfg1.N) (v : Vec F S64x1024 .i32) (y : S64x1024.Idx) :
    k1_pay2 (grid1.coords t) v y = if t.val * 1024 + (y 1).val < 150000 then v y else 0#32 := by
  have ht : t.val < 147 := Nat.lt_of_lt_of_eq t.isLt N_1
  have hj : (y 1).val < 1024 := (y 1).isLt
  pointwise [k1_pay2]
  rw [coords1 t, show IntOp.addi (Scalar.muli (BitVec.ofNat 32 t.val) 1024#32) (BitVec.ofNat 32 (y 1).val) = BitVec.ofNat 32 (t.val * 1024 + (y 1).val) from
    BitVec.eq_of_toNat_eq (by simp [IntOp.addi, Scalar.muli, IntOp.muli])]
  have hn : t.val * 1024 + (y 1).val < 150528 := by omega
  generalize t.val * 1024 + (y 1).val = n at hn
  have hc : IntOp.cmpi .slt (BitVec.ofNat 32 n) 150000#32 = 1#1 ↔ n < 150000 := by word_cmp
  unfold Scalar.select
  by_cases h : n < 150000
  · rw [if_pos h, hc.mpr h]; rfl
  · rw [if_neg h]; exact if_neg (fun h' => h (hc.mp h'))

/-- What the body reads of a documents' block does not depend on what the buffer holds past the array's end. -/
theorem masked_fill (t : Fin cfg1.N) (d d' : Vec F S64x1024 .i32) (g) :
    k1_pay2 (F := F) (grid1.coords t) (win1_1.fill (grid1.coords t) d g) = k1_pay2 (grid1.coords t) (win1_1.fill (grid1.coords t) d' g) := by
  funext y
  rw [pay2_at, pay2_at]
  split_ifs with h
  · have hm : win1_1.moved (grid1.coords t) y = true := (win1_1.moved_iff _ y).mpr fun a => by
      have hx := xsize_1 t
      have h0 : (y 0).val < 64 := (y 0).isLt
      have h1 : (y 1).val < 1024 := (y 1).isLt
      match a with
      | 0 => rw [hx.1]; exact h0
      | 1 => rw [hx.2]; omega
    unfold Window.fill; rw [dif_pos hm, dif_pos hm]
  · rfl

theorem planes_congr (i : grid1.Coords) (d d' : Vec F S64x1024 .i32) (h : k1_pay2 i d = k1_pay2 i d') : planes i d = planes i d' := by
  unfold planes k1_pay3 k1_pay4 k1_pay5 k1_pay6; rw [h]
theorem prod_congr (i : grid1.Coords) (q : Vec F S1024x2048 .fp8e4m3) (d d' : Vec F S64x1024 .i32) (h : k1_pay2 i d = k1_pay2 i d') : prod i q d = prod i q d' := by
  unfold prod; rw [planes_congr i d d' h]

/-! ## The proof data -/

variable (W : Dev nD → Valuation τ sig (Elt F))

/-- Window `w`'s block at point `t` of the array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The documents' block at a point, filled out past the array's end with the words `d`. -/
def docsBlk (c : Dev nD) (t : Fin cfg1.N) (d : Vec F S64x1024 .i32) : Vec F S64x1024 .i32 :=
  win1_1.fill (grid1.coords t) d (iblk1 W c 1 t)
/-- The packed words the body leaves at a point. -/
def wordsAt (c : Dev nD) (t : Fin cfg1.N) : Vec F S128x4x8x128 .i32 :=
  wordsOut (grid1.coords t) (iblk1 W c 0 t) (docsBlk W c t fun _ => 0#32) (iblk1 W c 2 t)
/-- The group minimum the body leaves at a point. -/
def gminAt (c : Dev nD) : (n : ℕ) → n < cfg1.N → Vec F S128x1x8x128 .i32
  | 0, h => gminFirst (grid1.coords ⟨0, h⟩) (iblk1 W c 0 ⟨0, h⟩) (docsBlk W c ⟨0, h⟩ fun _ => 0#32) (iblk1 W c 2 ⟨0, h⟩)
  | n + 1, h =>
    if (n + 1) % 4 = 0 then gminFirst (grid1.coords ⟨n + 1, h⟩) (iblk1 W c 0 ⟨n + 1, h⟩) (docsBlk W c ⟨n + 1, h⟩ fun _ => 0#32) (iblk1 W c 2 ⟨n + 1, h⟩)
    else gminNext (grid1.coords ⟨n + 1, h⟩) (iblk1 W c 0 ⟨n + 1, h⟩) (docsBlk W c ⟨n + 1, h⟩ fun _ => 0#32) (iblk1 W c 2 ⟨n + 1, h⟩) (gminAt c n (Nat.lt_of_succ_lt h))

/-- The proof data: the arrays as `W` has them; after the body each input's buffer at its block, the words and the group minimum as computed. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => docsBlk W c t fun _ => 0#32
    | ⟨2, _⟩ => iblk1 W c 2 t
    | ⟨3, _⟩ => wordsAt W c t
    | ⟨4, _⟩ => gminAt W c t.val t.isLt
  Φ _ := Pipeline.scopedRest spec1 c
  q _ := fullShare
  owed _ := 0

theorem A_eq (c : Dev nD) (w : Fin cfg1.W) : (dat1 W c).A w = W c (Proc.devRef .tc (Pipeline.arrRef spec1 w)) := by dsimp only [dat1]
theorem after_0 (c : Dev nD) (t : Fin cfg1.N) : (dat1 W c).after 0 t = iblk1 W c 0 t := by dsimp only [dat1]
theorem after_1 (c : Dev nD) (t : Fin cfg1.N) : (dat1 W c).after 1 t = docsBlk W c t fun _ => 0#32 := by dsimp only [dat1]
theorem after_2 (c : Dev nD) (t : Fin cfg1.N) : (dat1 W c).after 2 t = iblk1 W c 2 t := by dsimp only [dat1]
theorem after_3 (c : Dev nD) (t : Fin cfg1.N) : (dat1 W c).after 3 t = wordsAt W c t := by dsimp only [dat1]
theorem after_4 (c : Dev nD) (t : Fin cfg1.N) : (dat1 W c).after 4 t = gminAt W c t.val t.isLt := by dsimp only [dat1]

/-- The body stores the group minimum at every point; -/
theorem idle_4 : ∀ i : grid1.Coords, idle1 4 i = false := by decide +kernel
/-- it is written back at each group's last point. -/
theorem flush_4 : ∀ t : Fin cfg1.N, (cfg1.win 4).flush t = true ↔ (t.val % 4 = 3 ∨ t.val = 146) :=
  (by decide +kernel : ∀ t : Fin grid1.N, win1_4.flush t = true ↔ (t.val % 4 = 3 ∨ t.val = 146))

/-- What the body finds in each window's buffer. -/
theorem before_0 (c : Dev nD) (t : Fin cfg1.N) (d) : (dat1 W c).before 0 t d = iblk1 W c 0 t :=
  ((dat1 W c).before_in_eq_fetched 0 rfl (fun _ => rfl) (fun _ _ _ => rfl)
    (fun t => by rw [after_0]; unfold Dat.blockOf iblk1; rw [A_eq]) t d).trans
    (by unfold Dat.fetched Dat.blockOf iblk1; rw [A_eq]; try rfl)
theorem before_1 (c : Dev nD) (t : Fin cfg1.N) (d) : (dat1 W c).before 1 t d = docsBlk W c t d := by
  unfold Dat.before; rw [if_pos (fetch1_1 t)]; rfl
theorem before_2 (c : Dev nD) (t : Fin cfg1.N) (d) : (dat1 W c).before 2 t d = iblk1 W c 2 t :=
  ((dat1 W c).before_in_eq_fetched 2 rfl (fun _ => rfl) (fun _ _ _ => rfl)
    (fun t => by rw [after_2]; unfold Dat.blockOf iblk1; rw [A_eq]) t d).trans
    (by unfold Dat.fetched Dat.blockOf iblk1; rw [A_eq]; try rfl)
theorem before_4 (c : Dev nD) (t : Fin cfg1.N) (h : ¬ t.val % 4 = 0) (d) :
    (dat1 W c).before 4 t d = gminAt W c (t.val - 1) (Nat.lt_of_le_of_lt (Nat.sub_le _ _) t.isLt) := by
  have ht : t.val < 147 := Nat.lt_of_lt_of_eq t.isLt N_1
  have hf : (cfg1.win 4).flush ⟨t.val - 1, Nat.lt_of_le_of_lt (Nat.sub_le _ _) t.isLt⟩ = false := by
    rw [← Bool.not_eq_true, flush_4]
    show ¬ ((t.val - 1) % 4 = 3 ∨ t.val - 1 = 146)
    omega
  rw [Dat.before_out_kept (dat1 W c) 4 rfl t (by omega) hf idle_4 (fun _ _ => rfl) d, after_4]

theorem refill_1 (c : Dev nD) (t : Fin cfg1.N) (d) :
    win1_1.fill (grid1.coords t) d (win1_1.cut (grid1.coords t) ((dat1 W c).after 1 t)) = docsBlk W c t d := by
  rw [after_1]; unfold docsBlk; rw [win1_1.cut_fill]

/-- What the body computes, from whatever the documents' buffer holds past the array's end. -/
theorem wordsAt_of (c : Dev nD) (t : Fin cfg1.N) (d) :
    wordsAt W c t = wordsOut (grid1.coords t) (iblk1 W c 0 t) (docsBlk W c t d) (iblk1 W c 2 t) := by
  unfold wordsAt wordsOut docsBlk; rw [prod_congr _ _ _ _ (masked_fill t (fun _ => 0#32) d _)]
theorem gmin_first (c : Dev nD) (t : Fin cfg1.N) (d) (h : t.val % 4 = 0) :
    gminAt W c t.val t.isLt = gminFirst (grid1.coords t) (iblk1 W c 0 t) (docsBlk W c t d) (iblk1 W c 2 t) := by
  have e : gminAt W c t.val t.isLt = gminFirst (grid1.coords t) (iblk1 W c 0 t) (docsBlk W c t fun _ => 0#32) (iblk1 W c 2 t) := by
    obtain ⟨n, hn⟩ := t
    cases n with
    | zero => rfl
    | succ n => exact if_pos h
  rw [e]; unfold gminFirst docsBlk; rw [prod_congr _ _ _ _ (masked_fill t (fun _ => 0#32) d _)]
theorem gmin_next (c : Dev nD) (t : Fin cfg1.N) (d) (h : ¬ t.val % 4 = 0) :
    gminAt W c t.val t.isLt = gminNext (grid1.coords t) (iblk1 W c 0 t) (docsBlk W c t d) (iblk1 W c 2 t)
      (gminAt W c (t.val - 1) (Nat.lt_of_le_of_lt (Nat.sub_le _ _) t.isLt)) := by
  have e : gminAt W c t.val t.isLt = gminNext (grid1.coords t) (iblk1 W c 0 t) (docsBlk W c t fun _ => 0#32) (iblk1 W c 2 t)
      (gminAt W c (t.val - 1) (Nat.lt_of_le_of_lt (Nat.sub_le _ _) t.isLt)) := by
    obtain ⟨n, hn⟩ := t
    cases n with
    | zero => exact absurd rfl h
    | succ n => exact if_neg h
  rw [e]; unfold gminNext docsBlk; rw [prod_congr _ _ _ _ (masked_fill t (fun _ => 0#32) d _)]

/-! ## The scratch among the scoped buffers -/

/-- The scratch operand. -/
abbrev scM : Memref sig .tc .vmem S2048x1024 .fp8e4m3 := Memref.whole cc1_scratch0

/-- The scoped buffers but the scratch. -/
def others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

theorem scoped_split (c : Dev nD) : (Pipeline.scopedRest spec1 c : sProp 𝕄) ⊢ iprop(others c ∗ ∃ d, owns (c : Thread nD τ) scM fullShare d) := by
  rw [scopedRest1_eq]; unfold others; simp only [scM, owns_whole]
  iintro ⟨B0, B1, B2, B3, B4, B5, B6, B7, B8, B9, B10, B11, B12, HS⟩
  isplitr [HS]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexact B12
  iexact HS
theorem scoped_join (c : Dev nD) : iprop(others c ∗ ∃ d, owns (c : Thread nD τ) scM fullShare d) ⊢ (Pipeline.scopedRest spec1 c : sProp 𝕄) := by
  rw [scopedRest1_eq]; unfold others; simp only [scM, owns_whole]
  iintro ⟨⟨B0, B1, B2, B3, B4, B5, B6, B7, B8, B9, B10, B11, B12⟩, HS⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  iexact HS

/-! ## The body obligation -/

/-- What the body is called with at point `t`; -/
def bodyPre (c : Dev nD) (t : Fin cfg1.N) : sProp 𝕄 :=
  iprop(Pipeline.scopedRest spec1 c ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d)))

/-- and what it returns: the documents' window stated on the part inside its array. -/
def bodyPost (c : Dev nD) (t : Fin cfg1.N) : sProp 𝕄 :=
  iprop(Pipeline.scopedRest spec1 c ∗ (dat1 W c).owesAt () t.succ
    ∗ owns (c : Thread nD τ) (st1_0 t) fullShare ((dat1 W c).after 0 t)
    ∗ (∃ d, owns (c : Thread nD τ) (st1_1 t) fullShare (win1_1.fill (grid1.coords t) d (win1_1.cut (grid1.coords t) ((dat1 W c).after 1 t))))
    ∗ owns (c : Thread nD τ) (st1_2 t) fullShare ((dat1 W c).after 2 t)
    ∗ owns (c : Thread nD τ) (st1_3 t) fullShare ((dat1 W c).after 3 t)
    ∗ owns (c : Thread nD τ) (st1_4 t) fullShare ((dat1 W c).after 4 t))

set_option maxHeartbeats 1000000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  rw [after_0, after_2, after_3, after_4,
    show (dat1 W c).owesAt () t.succ = (dat1 W c).owesAt () t.castSucc from rfl]
  by_cases h4 : t.val % 4 = 0
  · simp only [before_0, before_1, before_2]
    iintro ⟨HA, Ho, ⟨%d0, H0⟩, ⟨%d1, H1⟩, ⟨%d2, H2⟩, ⟨%d3, H3⟩, ⟨%d4, H4⟩⟩
    ihave HA' := (scoped_split c) $$ HA
    icases HA' with ⟨HB, HS⟩
    iapply (kernel_first c Set.univ (grid1.coords t) _ _ _ _ _ _ _ _ _ _ _ _ ((cond1_iff t).mpr h4) (fun h => (cond2_iff t).mp h h4) (iblk1 W c 0 t) (docsBlk W c t d1) (iblk1 W c 2 t) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HB HS]
    · iapply (scoped_join c); isplitl [HB]; · iexact HB
      iexact HS
    isplitl [Ho]; · iexact Ho
    isplitl [H0]; · iexact H0
    isplitl [H1]; · iexists d1; rw [refill_1]; iexact H1
    isplitl [H2]; · iexact H2
    isplitl [H3]; · rw [wordsAt_of W c t d1]; iexact H3
    rw [gmin_first W c t d1 h4]; iexact H4
  · simp only [before_0, before_1, before_2, before_4 W c t h4]
    iintro ⟨HA, Ho, ⟨%d0, H0⟩, ⟨%d1, H1⟩, ⟨%d2, H2⟩, ⟨%d3, H3⟩, ⟨%d4, H4⟩⟩
    ihave HA' := (scoped_split c) $$ HA
    icases HA' with ⟨HB, HS⟩
    iapply (kernel_next c Set.univ (grid1.coords t) _ _ _ _ _ _ _ _ _ _ _ _ (fun h => h4 ((cond1_iff t).mp h)) ((cond2_iff t).mpr h4) (iblk1 W c 0 t) (docsBlk W c t d1) (iblk1 W c 2 t) _ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HB HS]
    · iapply (scoped_join c); isplitl [HB]; · iexact HB
      iexact HS
    isplitl [Ho]; · iexact Ho
    isplitl [H0]; · iexact H0
    isplitl [H1]; · iexists d1; rw [refill_1]; iexact H1
    isplitl [H2]; · iexact H2
    isplitl [H3]; · rw [wordsAt_of W c t d1]; iexact H3
    rw [gmin_next W c t d1 h4]; iexact H4

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation. -/
theorem body_obligation (c : Dev nD) :
    Pipeline.BodyObligationLoose (dat1 (F := F) W c) (defs₀ (F := F)) Variants.none () Set.univ := fun t => by
  rw [bigSep_W1, bigSep_W1, defs₀_row]
  rw [show cfg1.idle 4 (cfg1.grid.coords t) = false from idle_4 _]
  exact triple_restated (sound_body W c t) rfl .rfl fun _ => .rfl

end Cert.DistIdealCallBody

end
-- ==== Proof.DistIdealBody.lean ====
/-
  The distance program as a whole (`DistIdeal`): its two calls and the host operations between them, composed.

  The first call leaves the query matrix, the host operations make the padding row and the transposed documents of it all, and the second
  call leaves the packed distances. Everything here holds at any float values.
-/
module

public import proofs.«01_k».proof.Proof.DistIdealPrepBody
public import proofs.«01_k».proof.Proof.DistIdealCallData
public import proofs.«01_k».proof.Proof.Gen.DistIdeal.Regions
public import Idealize.ShloMosaic.Lib.Pipeline.RegionArraysS
public import Idealize.ShloMosaic.Lib.Pipeline.FrameTail

@[expose] public section

set_option maxRecDepth 16384

noncomputable section

namespace Cert.DistIdealBody

open Cert.DistIdeal Cert.DistIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg RegionSeg LevelCut afterRegion afterRegion_arr afterRegion_keeps initEach)

variable {F : FTy → Type} [FloatOps F]

local notation "𝕄" => MT nD τ sig Unit (Elt F) ℕ (UR sig nD τ) ℕ

variable (m : (ℓ : Loc nD τ sig) → Buf (Elt F) ℓ)

/-! ## What each call leaves -/

/-- What the first call leaves in a buffer. -/
def prepOuts : Outs (F := F) := fun _ r c =>
  afterRegion (DistIdealPrepBody.dat0 (V0 m) c) (V0 m c) (Proc.devRef .tc r)

/-- The buffers at the second call's entry. -/
def entry (c : Dev nD) : Valuation τ sig (Elt F) := V4 m (prepOuts m) c

/-- What each call leaves in a buffer. -/
def outs : Outs (F := F) := fun J r c =>
  match J with
  | 5 => afterRegion (DistIdealCallBody.dat1 (entry m) c) (entry m c) (Proc.devRef .tc r)
  | _ => afterRegion (DistIdealPrepBody.dat0 (V0 m) c) (V0 m c) (Proc.devRef .tc r)

theorem entry_eq (c : Dev nD) : V4 m (outs m) c = entry m c := rfl

/-- The two calls' proof data. -/
def pdats : (p : Fin 2) → (c : Dev nD) → Dat τ (Elt F) Unit ℕ (UR sig nD τ) ℕ (cfgs p) c
  | ⟨0, _⟩ => fun c => DistIdealPrepBody.dat0 (V0 m) c
  | ⟨1, _⟩ => fun c => DistIdealCallBody.dat1 (entry m) c

/-- After the first call every buffer is as the proof data have it. -/
theorem after_prep (c : Dev nD) : ∀ b ∈ Pipeline.ucRefs τ sig,
    afterRegion (DistIdealPrepBody.dat0 (V0 m) c) (V0 m c) b = V1 m (outs m) c b := by
  intro b hb
  obtain ⟨r, -, rfl⟩ := Finset.mem_map.mp (Finset.mem_filter.mp hb).1
  show afterRegion (DistIdealPrepBody.dat0 (V0 m) c) (V0 m c) (Proc.devRef .tc r) = V1 m (outs m) c (Proc.devRef .tc r)
  by_cases hr : r ∈ ([main_v0_0, main_v0_1, main_v0_2, main_v0_3, main_v0_4] : List (Ref sig .tc))
  · simp only [List.mem_cons, List.not_mem_nil, or_false] at hr
    rcases hr with rfl | rfl | rfl | rfl | rfl
    · rw [V1, Function.update_of_ne (show (Proc.devRef .tc main_v0_0 : DevRef τ sig) ≠ Proc.devRef .tc main_v0_4 from StableHlo.devRef_ne_of_ne (by decide)), Function.update_of_ne (show (Proc.devRef .tc main_v0_0 : DevRef τ sig) ≠ Proc.devRef .tc main_v0_3 from StableHlo.devRef_ne_of_ne (by decide)), Function.update_of_ne (show (Proc.devRef .tc main_v0_0 : DevRef τ sig) ≠ Proc.devRef .tc main_v0_2 from StableHlo.devRef_ne_of_ne (by decide)), Function.update_of_ne (show (Proc.devRef .tc main_v0_0 : DevRef τ sig) ≠ Proc.devRef .tc main_v0_1 from StableHlo.devRef_ne_of_ne (by decide)), Function.update_self]
      rfl
    · rw [V1, Function.update_of_ne (show (Proc.devRef .tc main_v0_1 : DevRef τ sig) ≠ Proc.devRef .tc main_v0_4 from StableHlo.devRef_ne_of_ne (by decide)), Function.update_of_ne (show (Proc.devRef .tc main_v0_1 : DevRef τ sig) ≠ Proc.devRef .tc main_v0_3 from StableHlo.devRef_ne_of_ne (by decide)), Function.update_of_ne (show (Proc.devRef .tc main_v0_1 : DevRef τ sig) ≠ Proc.devRef .tc main_v0_2 from StableHlo.devRef_ne_of_ne (by decide)), Function.update_self]
      rfl
    · rw [V1, Function.update_of_ne (show (Proc.devRef .tc main_v0_2 : DevRef τ sig) ≠ Proc.devRef .tc main_v0_4 from StableHlo.devRef_ne_of_ne (by decide)), Function.update_of_ne (show (Proc.devRef .tc main_v0_2 : DevRef τ sig) ≠ Proc.devRef .tc main_v0_3 from StableHlo.devRef_ne_of_ne (by decide)), Function.update_self]
      rfl
    · rw [V1, Function.update_of_ne (show (Proc.devRef .tc main_v0_3 : DevRef τ sig) ≠ Proc.devRef .tc main_v0_4 from StableHlo.devRef_ne_of_ne (by decide)), Function.update_self]
      rfl
    · rw [V1, Function.update_self]
      rfl
  · refine Eq.trans ?_ (V1_of m (outs m) c r hr).symm
    refine afterRegion_keeps _ _ launch0.win.arr_inj (DistIdealPrepBody.A_eq (V0 m) c) r fun w hw => ?_
    have hall : ∀ w : Fin cfg0.W, (cfg0.win w).isOut = true → Pipeline.arrRef spec0 w ∈ ([main_v0_0, main_v0_1, main_v0_2, main_v0_3, main_v0_4] : List (Ref sig .tc)) := by decide
    by_contra h
    exact hr (hw ▸ hall w (eq_true_of_ne_false h))

/-- After the second call every buffer is as the proof data have it. -/
theorem after_dist (c : Dev nD) : ∀ b ∈ Pipeline.ucRefs τ sig,
    afterRegion (DistIdealCallBody.dat1 (entry m) c) (entry m c) b = V5 m (outs m) c b := by
  intro b hb
  obtain ⟨r, -, rfl⟩ := Finset.mem_map.mp (Finset.mem_filter.mp hb).1
  show afterRegion (DistIdealCallBody.dat1 (entry m) c) (entry m c) (Proc.devRef .tc r) = V5 m (outs m) c (Proc.devRef .tc r)
  by_cases hr : r ∈ ([main_v7_0, main_v7_1] : List (Ref sig .tc))
  · simp only [List.mem_cons, List.not_mem_nil, or_false] at hr
    rcases hr with rfl | rfl
    · rw [V5, Function.update_of_ne (show (Proc.devRef .tc main_v7_0 : DevRef τ sig) ≠ Proc.devRef .tc main_v7_1 from StableHlo.devRef_ne_of_ne (by decide)), Function.update_self]
      rfl
    · rw [V5, Function.update_self]
      rfl
  · refine Eq.trans ?_ (V5_of m (outs m) c r hr).symm
    refine afterRegion_keeps _ _ launch1.win.arr_inj (DistIdealCallBody.A_eq (entry m) c) r fun w hw => ?_
    have hall : ∀ w : Fin cfg1.W, (cfg1.win w).isOut = true → Pipeline.arrRef spec1 w ∈ ([main_v7_0, main_v7_1] : List (Ref sig .tc)) := by decide
    by_contra h
    exact hr (hw ▸ hall w (eq_true_of_ne_false h))

/-! ## The two calls as segments -/

/-- Every semaphore of a tensor core is at the one level. -/
def lvls : GSem nD τ sig → Finset Unit := fun g => if g.1.2 = .tc then Finset.univ else ∅

theorem cut (p : Fin 2) : LevelCut (pcfgs (F := F)) adm () lvls (fun _ _ => (0 : ℕ)) p (fun _ => 0) (fun _ => 0) where
  hι c w s := by unfold lvls; rw [if_pos rfl]; exact Finset.mem_univ _
  hιb c w s := le_rfl
  hD c g i h := absurd h (Nat.lt_irrefl 0)

set_option backward.isDefEq.respectTransparency.types false in
/-- The first call, entered from every buffer as the program starts. -/
def seg0 : RegionSeg (pcfgs (F := F)) adm (pdats m) () defs₀ Variants.none lvls (fun _ _ => (0 : ℕ)) 0 :=
  RegionSeg.ofHeldIn (pcfgs (F := F)) adm (pdats m) () defs₀ Variants.none lvls (fun _ _ => (0 : ℕ)) 0 (fun _ => 0)
    (Pipeline.ucRefs τ sig) (fun _ => iprop(emp)) (fun _ => iprop(emp)) launch0.toP rfl
    (fun c => DistIdealPrepBody.body_obligation (V0 m) c) (fun _ _ => rfl) (fun _ => rfl)
    (fun c => (DistIdealPrepBody.dat0 (V0 m) c).share_full fun _ => rfl)
    (fun c => by
      show iprop(Pipeline.scopedRest spec0 c ∗ emp) ⊢ DistIdealPrepBody.inv c 0
      rw [DistIdealPrepBody.inv_zero c 0 rfl, DistIdealPrepBody.scoped_eq c]
      iintro ⟨H, -⟩
      iexact H)
    (fun c => by
      show DistIdealPrepBody.inv c (Fin.last cfg0.N) ⊢ iprop(Pipeline.scopedRest spec0 c ∗ emp)
      rw [DistIdealPrepBody.inv_pos c (Fin.last cfg0.N) (by decide), DistIdealPrepBody.scoped_eq c]
      iintro ⟨H, Ho⟩
      isplitl [H Ho]
      · isplitl [H]
        · iexists _; iexact H
        iexact Ho
      iempintro)
    (fun _ => 0) (cut 0) (fun _ => iprop(emp)) (fun c => V0 m c) (fun c w => DistIdealPrepBody.A_eq (V0 m) c w)

set_option backward.isDefEq.respectTransparency.types false in
/-- The second call, entered from every buffer as the host operations leave it. -/
def seg1 : RegionSeg (pcfgs (F := F)) adm (pdats m) () defs₀ Variants.none lvls (fun _ _ => (0 : ℕ)) 1 :=
  RegionSeg.ofHeldIn (pcfgs (F := F)) adm (pdats m) () defs₀ Variants.none lvls (fun _ _ => (0 : ℕ)) 1 (fun _ => 0)
    (Pipeline.ucRefs τ sig) (fun _ => iprop(emp)) (fun _ => iprop(emp)) launch1.toP rfl
    (fun c => DistIdealCallBody.body_obligation (entry m) c) (fun _ _ => rfl) (fun _ => rfl)
    (fun c => (DistIdealCallBody.dat1 (entry m) c).share_full fun _ => rfl)
    (fun c => by
      show iprop(Pipeline.scopedRest spec1 c ∗ emp) ⊢ Pipeline.scopedRest spec1 c
      iintro ⟨H, -⟩
      iexact H)
    (fun c => by
      show Pipeline.scopedRest spec1 c ⊢ iprop(Pipeline.scopedRest spec1 c ∗ emp)
      iintro H
      isplitl [H]
      · iexact H
      iempintro)
    (fun _ => 0) (cut 1) (fun _ => iprop(emp)) (fun c => entry m c) (fun c w => DistIdealCallBody.A_eq (entry m) c w)

/-- Nothing beside what the core owes. -/
theorem rest_in (A : sProp 𝕄) (c : Dev nD) :
    iprop(A ∗ ∃ Wd, owes (c : Thread nD τ) (0 : CellTallies nD τ sig Unit) Wd)
      ⊢ iprop(A ∗ ((∃ Wd, owes (c : Thread nD τ) (0 : CellTallies nD τ sig Unit) Wd) ∗ emp ∗ emp)) := by
  iintro ⟨Hh, HO⟩
  isplitl [Hh]; · iexact Hh
  isplitl [HO]; · iexact HO
  isplitl []; · iempintro
  iempintro

theorem rest_out (A : sProp 𝕄) (c : Dev nD) :
    iprop(A ∗ ((∃ Wd, owes (c : Thread nD τ) (0 : CellTallies nD τ sig Unit) Wd) ∗ emp ∗ emp))
      ⊢ iprop(A ∗ ∃ Wd, owes (c : Thread nD τ) (0 : CellTallies nD τ sig Unit) Wd) := by
  iintro ⟨Hh, HO, -, -⟩
  isplitl [Hh]; · iexact Hh
  iexact HO

theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)

/-- What a core carries beside the buffers: that it owes nothing. -/
def rest (c : Dev nD) : sProp 𝕄 := iprop(∃ Wd, owes (c : Thread nD τ) (0 : CellTallies nD τ sig Unit) Wd)

set_option backward.isDefEq.respectTransparency.types false in
theorem pre0 (c : Dev nD) : iprop(StableHlo.held (c : Thread nD τ) (Pipeline.ucRefs τ sig) (V0 m c) ∗ rest c) ⊢ (seg0 m).pre c := by
  refine BI.Entails.trans ?_ (RegionSeg.ofHeldIn_pre sub0 c)
  exact rest_in (StableHlo.held (c : Thread nD τ) (Pipeline.ucRefs τ sig) (V0 m c)) c

set_option backward.isDefEq.respectTransparency.types false in
theorem post0 (c : Dev nD) : (seg0 m).post c ⊢ iprop(StableHlo.held (c : Thread nD τ) (Pipeline.ucRefs τ sig) (V1 m (outs m) c) ∗ rest c) := by
  rw [← StableHlo.held_congr (c : Thread nD τ) (S := Pipeline.ucRefs τ sig) (after_prep m c)]
  exact (RegionSeg.ofHeldIn_post sub0 c).trans (rest_out _ c)

set_option backward.isDefEq.respectTransparency.types false in
theorem pre1 (c : Dev nD) : iprop(StableHlo.held (c : Thread nD τ) (Pipeline.ucRefs τ sig) (V4 m (outs m) c) ∗ rest c) ⊢ (seg1 m).pre c := by
  refine BI.Entails.trans ?_ (RegionSeg.ofHeldIn_pre sub1 c)
  exact rest_in (StableHlo.held (c : Thread nD τ) (Pipeline.ucRefs τ sig) (entry m c)) c

set_option backward.isDefEq.respectTransparency.types false in
theorem post1 (c : Dev nD) : (seg1 m).post c ⊢ iprop(StableHlo.held (c : Thread nD τ) (Pipeline.ucRefs τ sig) (V5 m (outs m) c) ∗ rest c) := by
  rw [← StableHlo.held_congr (c : Thread nD τ) (S := Pipeline.ucRefs τ sig) (after_dist m c)]
  exact (RegionSeg.ofHeldIn_post sub1 c).trans (rest_out _ c)

/-! ## The run -/

/-- The program runs, leaves its arguments as they were and the packed distances as the second call's proof data have them. -/
theorem run_main (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v7_0) = (DistIdealCallBody.dat1 (entry m) c).arrAt 3 cfg1.N
      ∧ r.2.mem ((c.tc : Thread nD τ).loc main_v7_1) = (DistIdealCallBody.dat1 (entry m) c).arrAt 4 cfg1.N)
      ∧ r.2.sem = fun _ => 0) := by
  have hlast : ∀ c, V5 m (outs m) c main_v7_0 = (DistIdealCallBody.dat1 (entry m) c).arrAt 3 cfg1.N := fun c => by
    refine Eq.trans ?_ (afterRegion_arr (DistIdealCallBody.dat1 (entry m) c) (entry m c) launch1.win.arr_inj 3)
    rw [V5, Function.update_of_ne (show (Proc.devRef .tc main_v7_0 : DevRef τ sig) ≠ Proc.devRef .tc main_v7_1 from StableHlo.devRef_ne_of_ne (by decide)), Function.update_self]
    rfl
  have hgroup : ∀ c, V5 m (outs m) c main_v7_1 = (DistIdealCallBody.dat1 (entry m) c).arrAt 4 cfg1.N := fun c => by
    refine Eq.trans ?_ (afterRegion_arr (DistIdealCallBody.dat1 (entry m) c) (entry m c) launch1.win.arr_inj 4)
    rw [V5, Function.update_self]
    rfl
  refine Pipeline.θ_run_regions_kit_dev_sems (pcfgs (F := F)) adm (pdats m) () cellOf_inj emb₁ defs₀ Variants.none lvls (fun _ _ => (0 : ℕ)) m ρ main
    (segs m (outs m) Variants.none lvls (fun _ _ => (0 : ℕ)) (fun _ => rest) () (pdats m) (seg0 m) (seg1 m))
    (fun c Q => by
      rewrite [main_chain c, Seg.run_eq_chain,
        show (segs m (outs m) Variants.none lvls (fun _ _ => (0 : ℕ)) (fun _ => rest) () (pdats m) (seg0 m) (seg1 m) c).map Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      dsimp (config := { failIfUnchanged := false }) only
      exact .rfl)
    (fun c => by simp only [segs, Seg.pipes_host, Seg.pipes_region, Seg.pipes_nil]; decide) 0
    (fun g hg => by unfold lvls; rw [if_neg hg]) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V5 m (outs m) c))
    (hch := fun c => ⟨pre0 m c, post0 m c, .rfl, .rfl, pre1 m c, post1 m c⟩)
    (hinit := ?_) (QY := fun c s => (s.mem ((c.tc : Thread nD τ).loc main_arg0) = m ((c.tc : Thread nD τ).loc main_arg0)
      ∧ s.mem ((c.tc : Thread nD τ).loc main_arg1) = m ((c.tc : Thread nD τ).loc main_arg1))
      ∧ s.mem ((c.tc : Thread nD τ).loc main_v7_0) = (DistIdealCallBody.dat1 (entry m) c).arrAt 3 cfg1.N
      ∧ s.mem ((c.tc : Thread nD τ).loc main_v7_1) = (DistIdealCallBody.dat1 (entry m) c).arrAt 4 cfg1.N)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred 0 c ∗ prngReg c (ρ c) ∗ emp))
        ⊢ (bigSep Finset.univ fun c : Dev nD => iprop(StableHlo.held (c : Thread nD τ) (Pipeline.ucRefs τ sig) (V0 m c) ∗ rest c) : sProp 𝕄) := by
      refine bigSep_mono fun c _ => ?_
      rw [← Pipeline.unscopedBufs_held (Ix := Unit) (Name := ℕ) (U := UR sig nD τ) (Lvl := ℕ) c (V0 m c)]
      unfold rest
      show iprop(unscopedBufs c (fun b => V0 m c (Proc.devRef .tc b)) ∗ unscopedSems0 c ∗ owes (c.tc : Thread nD τ) (0 : CellTallies nD τ sig Unit) ∅
        ∗ Pipeline.launchCred 0 c ∗ prngReg c (ρ c) ∗ emp) ⊢ (_ : sProp 𝕄)
      iintro ⟨Hb, -, HO, -⟩
      isplitl [Hb]; · iexact Hb
      iexists _; iexact HO
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c)⟩,
        (h (Proc.devRef .tc main_v7_0) (Finset.mem_filter.mpr ⟨StableHlo.devRef_mem_tcRefs main_v7_0, by decide⟩)).trans (hlast c),
        (h (Proc.devRef .tc main_v7_1) (Finset.mem_filter.mpr ⟨StableHlo.devRef_mem_tcRefs main_v7_1, by decide⟩)).trans (hgroup c)⟩
    · iexact HSI

/-- The program runs and leaves its arguments as they were. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_main m ρ) fun _ h => ⟨fun c => (h.1 c).1, h.2⟩

end Cert.DistIdealBody
-- ==== Proof.DistWords.lean ====
/-
  Facts about one word: its bits as bytes, what a byte with one bit set is as an fp8 number, how many bits two words differ in, and
  the packing of two counts into one word.
-/
module

public import proofs.«01_k».proof.Proof.PrepWords
public import Idealize.ShloMosaic.Lib.BitcastPair
public import Idealize.ShloMosaic.Lib.Pipeline.ValueKit

@[expose] public section

set_option maxRecDepth 16384

noncomputable section

namespace Cert.DistWords

open Idealize.ShloMosaic Idealize.ShloMosaic.TcCoe

/-! ## Words read as bytes -/

/-- Words read as bytes along the rows: byte `p` of a lane is byte `p % 4` of word `p / 4`. -/
theorem bitcast_bit {R r n : ℕ} (x : (⟨2, ![r, n]⟩ : Shape).Idx → BitVec 32) (h : (⟨2, ![r, n]⟩ : Shape).Bitcasts 32 ⟨2, ![R, n]⟩ 8)
    (p : Fin R) (l : Fin n) (a : Fin r) (ha : a.val = p.val / 4) (q : ℕ) (hq : q < 8) :
    (bitcast ⟨2, ![R, n]⟩ 8 x h (ValueIdx.ix2 p l)).getLsbD q = (x (ValueIdx.ix2 a l)).getLsbD (8 * (p.val % 4) + q) := by
  rw [bitcast_getLsbD x h _ q hq (by decide)]
  have hrow : (⟨2, ![R, n]⟩ : Shape).row (ValueIdx.ix2 p l) = p.val := rfl
  have e1 : ((⟨2, ![R, n]⟩ : Shape).row (ValueIdx.ix2 p l) * 8 + q) / 32 = a.val := by rw [hrow]; omega
  have e2 : ((⟨2, ![R, n]⟩ : Shape).row (ValueIdx.ix2 p l) * 8 + q) % 32 = 8 * (p.val % 4) + q := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- A map of words that keeps one bit of every byte and puts it at place `j` of the byte. -/
def Picks (f : BitVec 32 → BitVec 32) (p j : ℕ) : Prop :=
  ∀ v : BitVec 32, ∀ b < 4, ∀ q < 8, (f v).getLsbD (8 * b + q) = (decide (q = j) && v.getLsbD (8 * b + p))

theorem byte_eq (x : BitVec 8) (j : ℕ) (c : Bool) (h : ∀ q < 8, x.getLsbD q = (decide (q = j) && c)) :
    x = if c then BitVec.ofNat 8 (2 ^ j) else 0#8 := by
  apply BitVec.eq_of_getLsbD_eq
  intro q hq
  rw [h q hq]
  cases c
  · simp
  · simp only [Bool.and_true, if_true, BitVec.getLsbD_ofNat, Nat.testBit_two_pow]
    simp only [hq, decide_true, Bool.true_and]
    exact decide_eq_decide.mpr eq_comm

/-- The fp8 numbers of the bytes with one bit set. -/
theorem fp8_value (j : ℕ) (hj : j = 3 ∨ j = 4 ∨ j = 5 ∨ j = 6) :
    (FloatOps.ofBits (F := Ideal) .fp8e4m3 (BitVec.ofNat 8 (2 ^ j)) : EReal) = (((2 : ℝ) ^ (2 ^ (j - 3)) / 128 : ℝ) : EReal) := by
  show Ideal.ofBits .fp8e4m3 (BitVec.ofNat 8 (2 ^ j)) = _
  rcases hj with rfl | rfl | rfl | rfl <;> simp [Ideal.ofBits, Ideal.e4m3fn, -EReal.coe_mul] <;> norm_num

theorem fp8_zero : (FloatOps.ofBits (F := Ideal) .fp8e4m3 0#8 : EReal) = 0 := by
  show Ideal.ofBits .fp8e4m3 0#8 = _
  simp [Ideal.ofBits, Ideal.e4m3fn]

theorem picks_and (p : ℕ) (m : BitVec 32) (hm : ∀ b < 4, ∀ q < 8, m.getLsbD (8 * b + q) = decide (q = p)) :
    Picks (fun v => IntOp.andi v m) p p := by
  intro v b hb q hq
  show (v &&& m).getLsbD _ = _
  rw [BitVec.getLsbD_and, hm b hb q hq]
  by_cases h : q = p
  · subst h; simp
  · simp [h]

theorem picks_shl (p : ℕ) (hp : p < 3) (m : BitVec 32) (hm : ∀ b < 4, ∀ q < 8, m.getLsbD (8 * b + q) = decide (q = p + 4)) :
    Picks (fun v => IntOp.andi (IntOp.shli .vector v 4#32) m) p (p + 4) := by
  intro v b hb q hq
  show ((if (4#32 : BitVec 32).toNat < 32 then v <<< (4#32 : BitVec 32) else _) &&& m).getLsbD _ = _
  rw [if_pos (by decide), BitVec.getLsbD_and, hm b hb q hq, BitVec.shiftLeft_eq', BitVec.getLsbD_shiftLeft]
  by_cases h : q = p + 4
  · subst h
    have h1 : 8 * b + (p + 4) < 32 := by omega
    have h2 : ¬ (8 * b + (p + 4) < (4#32 : BitVec 32).toNat) := by rw [show (4#32 : BitVec 32).toNat = 4 from rfl]; omega
    have h3 : 8 * b + (p + 4) - (4#32 : BitVec 32).toNat = 8 * b + p := by rw [show (4#32 : BitVec 32).toNat = 4 from rfl]; omega
    rw [h3]
    simp [h1]
    intro; omega
  · simp [h]

theorem picks_shr (m : BitVec 32) (hm : ∀ b < 4, ∀ q < 8, m.getLsbD (8 * b + q) = decide (q = 6)) :
    Picks (fun v => IntOp.andi (IntOp.shrui .vector v 1#32) m) 7 6 := by
  intro v b hb q hq
  show ((if (1#32 : BitVec 32).toNat < 32 then v >>> (1#32 : BitVec 32) else _) &&& m).getLsbD _ = _
  rw [if_pos (by decide), BitVec.getLsbD_and, hm b hb q hq, BitVec.ushiftRight_eq', BitVec.getLsbD_ushiftRight]
  by_cases h : q = 6
  · subst h
    have h3 : (1#32 : BitVec 32).toNat + (8 * b + 6) = 8 * b + 7 := by rw [show (1#32 : BitVec 32).toNat = 1 from rfl]; omega
    rw [h3]
    simp
  · simp [h]

theorem mask (m : BitVec 32) (p : ℕ) (h : ∀ k : Fin 32, m.getLsbD k.val = decide (k.val % 8 = p)) :
    ∀ b < 4, ∀ q < 8, m.getLsbD (8 * b + q) = decide (q = p) := by
  intro b hb q hq
  refine (h ⟨8 * b + q, by omega⟩).trans (decide_eq_decide.mpr ?_)
  show (8 * b + q) % 8 = p ↔ q = p
  omega

theorem picks0 : Picks (fun v => IntOp.andi (IntOp.shli .vector v 4#32) 269488144#32) 0 4 := picks_shl 0 (by omega) _ (mask _ 4 (by decide))
theorem picks1 : Picks (fun v => IntOp.andi (IntOp.shli .vector v 4#32) 538976288#32) 1 5 := picks_shl 1 (by omega) _ (mask _ 5 (by decide))
theorem picks2 : Picks (fun v => IntOp.andi (IntOp.shli .vector v 4#32) 1077952576#32) 2 6 := picks_shl 2 (by omega) _ (mask _ 6 (by decide))
theorem picks3 : Picks (fun v => IntOp.andi v 134744072#32) 3 3 := picks_and 3 _ (mask _ 3 (by decide))
theorem picks4 : Picks (fun v => IntOp.andi v 269488144#32) 4 4 := picks_and 4 _ (mask _ 4 (by decide))
theorem picks5 : Picks (fun v => IntOp.andi v 538976288#32) 5 5 := picks_and 5 _ (mask _ 5 (by decide))
theorem picks6 : Picks (fun v => IntOp.andi v 1077952576#32) 6 6 := picks_and 6 _ (mask _ 6 (by decide))
theorem picks7 : Picks (fun v => IntOp.andi (IntOp.shrui .vector v 1#32) 1077952576#32) 7 6 := picks_shr _ (mask _ 6 (by decide))

/-- The fp8 number of bit `j` of a byte. -/
def val (j : ℕ) : ℝ := (2 : ℝ) ^ (2 ^ (j - 3)) / 128

/-- One plane read at an element: bit `p` of a byte, as an fp8 number. -/
theorem plane {R r n : ℕ} (f : BitVec 32 → BitVec 32) (p j : ℕ) (hf : Picks f p j) (hj : j = 3 ∨ j = 4 ∨ j = 5 ∨ j = 6)
    (x : (⟨2, ![r, n]⟩ : Shape).Idx → BitVec 32) (h : (⟨2, ![r, n]⟩ : Shape).Bitcasts 32 ⟨2, ![R, n]⟩ 8)
    (k : Fin R) (l : Fin n) (a : Fin r) (ha : a.val = k.val / 4) :
    (FloatOps.ofBits (F := Ideal) .fp8e4m3 (bitcast ⟨2, ![R, n]⟩ 8 (fun i => f (x i)) h (ValueIdx.ix2 k l)) : EReal)
      = ((if (x (ValueIdx.ix2 a l)).getLsbD (8 * (k.val % 4) + p) then val j else 0 : ℝ) : EReal) := by
  rw [byte_eq (bitcast ⟨2, ![R, n]⟩ 8 (fun i => f (x i)) h (ValueIdx.ix2 k l)) j ((x (ValueIdx.ix2 a l)).getLsbD (8 * (k.val % 4) + p))
    (fun q hq => by rw [bitcast_bit _ h k l a ha q hq]; exact hf _ _ (by omega) q hq)]
  by_cases hb : (x (ValueIdx.ix2 a l)).getLsbD (8 * (k.val % 4) + p) = true
  · rw [if_pos hb, if_pos hb]
    exact fp8_value j hj
  · rw [if_neg hb, if_neg hb]
    exact fp8_zero

/-! ## Counting bits -/

/-- The number of bits set in a word. -/
def ones (w : BitVec 32) : ℕ := ∑ k : Fin 32, if w.getLsbD k.val then 1 else 0

theorem ctpop_eq (w : BitVec 32) : IntOp.ctpop w = BitVec.ofNat 32 (ones w) := by
  unfold IntOp.ctpop ones
  refine congrArg (BitVec.ofNat 32) ?_
  rw [← List.countP_eq_length_filter, Fin.sum_univ_eq_sum_range (fun k => if w.getLsbD k then 1 else 0) 32]
  simp only [List.range_succ, List.range_zero, List.countP_append, List.countP_cons, List.countP_nil, Finset.sum_range_succ, Finset.sum_range_zero, List.nil_append, Nat.zero_add]

/-- What a word `d` adds to a word `q`'s count when the two are compared: every set bit of `d` counts one, up where `q` has none
and down where `q` has one. -/
def gain (q d : BitVec 32) : ℤ := ∑ k : Fin 32, if d.getLsbD k.val then (if q.getLsbD k.val then -1 else 1) else 0

theorem ones_xor (q d : BitVec 32) : (ones (q ^^^ d) : ℤ) - ones q = gain q d := by
  unfold ones gain
  push_cast
  rw [← Finset.sum_sub_distrib]
  refine Finset.sum_congr rfl fun k _ => ?_
  rw [BitVec.getLsbD_xor]
  cases q.getLsbD k.val <;> cases d.getLsbD k.val <;> simp

theorem gain_abs (q d : BitVec 32) : |gain q d| ≤ 32 := by
  unfold gain
  refine (Finset.abs_sum_le_sum_abs _ _).trans ((Finset.sum_le_sum (g := fun _ => (1 : ℤ)) fun k _ => ?_).trans (by simp))
  split <;> [split; skip] <;> simp

theorem gain_zero (q : BitVec 32) : gain q 0#32 = 0 := by
  unfold gain
  simp

/-! ## Whole numbers as words -/

theorem fptosi_int (n : ℤ) (h : |n| < 65536) : FloatOps.fptosi (F := Ideal) (φ := .f32) 32 (((n : ℝ) : EReal)) = BitVec.ofInt 32 n := by
  show Ideal.fptosi 32 ((n : ℝ) : EReal) = _
  unfold Ideal.fptosi Ideal.toIntClamped
  have ha := abs_lt.mp h
  have e0 : (if (0 : ℝ) ≤ (n : ℝ) then ⌊(n : ℝ)⌋ else ⌈(n : ℝ)⌉) = n := by
    rw [Int.floor_intCast, Int.ceil_intCast, ite_self]
  show BitVec.ofInt 32 (max _ (min _ (if (0 : ℝ) ≤ (n : ℝ) then ⌊(n : ℝ)⌋ else ⌈(n : ℝ)⌉))) = _
  rw [e0]
  have e : max (-((2 ^ (32 - 1) : ℕ) : ℤ)) (min (((2 ^ (32 - 1) : ℕ) : ℤ) - 1) n) = n := by
    norm_num
    omega
  rw [e]

/-- The count of one word with the base added, as the reference computes it. -/
theorem count_word (a b : ℕ) (n : ℤ) (h : (a : ℤ) - b = n) :
    IntOp.addi (IntOp.subi (BitVec.ofNat 32 a) (BitVec.ofNat 32 b)) 2048#32 = BitVec.ofInt 32 (n + 2048) := by
  subst h
  show (BitVec.ofNat 32 a - BitVec.ofNat 32 b) + 2048#32 = _
  rw [BitVec.ofInt_add, sub_eq_add_neg, BitVec.ofInt_add, BitVec.ofInt_neg, BitVec.ofInt_natCast, BitVec.ofInt_natCast, BitVec.sub_eq_add_neg]
  rfl

/-- Two counts packed into one word: the tag of the high one leaves the word. -/
theorem pack (lo hi : BitVec 32) :
    IntOp.addi (IntOp.shli .vector (IntOp.addi 1258291200#32 hi) 16#32) (IntOp.addi 1258291200#32 lo)
      = IntOp.addi (IntOp.addi lo 1258291200#32) (IntOp.shli .host hi 16#32) := by
  have hs : ∀ u (v : BitVec 32), IntOp.shli u v 16#32 = v <<< 16 := by
    intro u v
    unfold IntOp.shli
    rw [if_pos (by decide)]
    rfl
  rw [hs, hs]
  show (1258291200#32 + hi) <<< 16 + (1258291200#32 + lo) = (lo + 1258291200#32) + hi <<< 16
  have h1 : (1258291200#32 + hi) <<< 16 = hi <<< 16 := by
    apply BitVec.eq_of_toNat_eq
    simp only [BitVec.toNat_shiftLeft, BitVec.toNat_add, BitVec.toNat_ofNat, Nat.shiftLeft_eq]
    omega
  rw [h1, BitVec.add_comm 1258291200#32 lo, BitVec.add_comm]

end Cert.DistWords

end
-- ==== Proof.DistPlanes.lean ====
/-
  The two matrices the distance call multiplies, read at an element: a plane holds one bit of every byte of the documents' words as an fp8
  number, and the query matrix holds the reciprocal of that number, negative where the query's bit is set.
-/
module

public import proofs.«01_k».proof.Proof.DistIdealCallBody
public import proofs.«01_k».proof.Proof.DistIdealPrepBody
public import proofs.«01_k».proof.Proof.DistWords
public import proofs.«01_k».proof.Proof.PrepSpec
public import Idealize.ShloMosaic.Lib.Pipeline.ValueKit

@[expose] public section

set_option maxRecDepth 16384

noncomputable section

namespace Cert.DistPlanes

open Cert.DistIdeal Cert.DistIdeal.Gen
open Idealize.ShloMosaic Idealize.ShloMosaic.TcCoe
open Cert.DistWords (val)

/-- Where plane `p` puts its bit in a byte. -/
def place : ℕ → ℕ
  | 0 => 4 | 1 => 5 | 2 => 6 | 3 => 3 | 4 => 4 | 5 => 5 | 6 => 6 | _ => 6

theorem place_of (p : ℕ) : place p = 3 ∨ place p = 4 ∨ place p = 5 ∨ place p = 6 := by
  unfold place
  split <;> simp

/-- Row `k` of the planes is bit `k / 256` of byte `k % 4` of word `k % 256 / 4`. -/
abbrev wordOf (k : Fin 2048) : Fin 64 := ⟨k.val % 256 / 4, by omega⟩
abbrev bitOf (k : Fin 2048) : ℕ := 8 * (k.val % 4) + k.val / 256

theorem plane_piece (f : BitVec 32 → BitVec 32) (p j : ℕ) (hf : DistWords.Picks f p j) (hj : j = place p) (W : IVec S64x1024 32)
    (x : S256x1024.Idx) (y : S2048x1024.Idx) (h0 : (y 0).val = 256 * p + (x 0).val) (h1 : (y 1).val = (x 1).val) :
    shapeCast S256x1024 (bitcastToFloat (F := Ideal) .fp8e4m3 (bitcast S256x1024 8 (fun i => f (W i)) bitcasts_S64x1024_w32_S256x1024_w8))
        shapeCasts_S256x1024_S256x1024 x
      = ((if (W (ix2 (wordOf (y 0)) (y 1))).getLsbD (bitOf (y 0)) then val (place ((y 0).val / 256)) else 0 : ℝ) : EReal) := by
  rw [shapeCast_id]
  idx_vars x
  have hx : x0.val < 256 := x0.isLt
  change (y 0).val = 256 * p + x0.val at h0
  change (y 1).val = x1.val at h1
  have e1 : (y 1) = x1 := Fin.ext h1
  have e2 : (y 0).val / 256 = p := by omega
  have e3 : bitOf (y 0) = 8 * (x0.val % 4) + p := by
    show 8 * ((y 0).val % 4) + (y 0).val / 256 = _
    omega
  rw [e1, e2, e3, ← hj]
  exact DistWords.plane f p j hf (hj ▸ place_of p) W bitcasts_S64x1024_w32_S256x1024_w8 x0 x1 (wordOf (y 0)) (by show (y 0).val % 256 / 4 = _; omega)

set_option maxHeartbeats 1600000 in
/-- The planes of a block of documents. -/
theorem planes_apply (i : grid1.Coords) (d : Vec Ideal S64x1024 .i32) (y : S2048x1024.Idx) :
    DistIdealCallBody.planes (F := Ideal) i d y
      = ((if (k1_pay2 (F := Ideal) i d (ix2 (wordOf (y 0)) (y 1))).getLsbD (bitOf (y 0)) then val (place ((y 0).val / 256)) else 0 : ℝ) : EReal) := by
  unfold DistIdealCallBody.planes
  canon_tiles x h
  · exact plane_piece _ 7 6 DistWords.picks7 rfl _ x y h0 h1
  · exact plane_piece _ 6 6 DistWords.picks6 rfl _ x y h0 h1
  · exact plane_piece _ 5 5 DistWords.picks5 rfl _ x y h0 h1
  · exact plane_piece _ 4 4 DistWords.picks4 rfl _ x y h0 h1
  · exact plane_piece _ 3 3 DistWords.picks3 rfl _ x y h0 h1
  · exact plane_piece _ 2 6 DistWords.picks2 rfl _ x y h0 h1
  · exact plane_piece _ 1 5 DistWords.picks1 rfl _ x y h0 h1
  · exact plane_piece _ 0 4 DistWords.picks0 rfl _ x y (by omega) h1

/-! ## The query matrix -/

/-- The identity matrix of the transposing product. -/
theorem eye (a b : Fin 256) : (k0_pay10 (F := Ideal) (ix2 a b) : EReal) = if a = b then 1 else 0 := by
  pointwise [k0_pay10]
  rw [PrepWords.eq_word _ _ (by omega) (by omega)]
  by_cases h : a = b
  · rw [if_pos h, if_pos (congrArg Fin.val h)]; rfl
  · rw [if_neg h, if_neg (fun e => h (Fin.ext e))]; rfl

/-- A product with the identity turns a matrix on its side. -/
theorem turned (B : FVec Ideal S256x256 .fp8e4m3) (a b : Fin 256) :
    (matmul (F := Ideal) dot_S256x256_S256x256_S256x256_1_1_0_0_n_n none (k0_pay10 (F := Ideal)) B (constant S256x256 .f32 0x00000000#32) (ix2 a b) : EReal)
      = B (ix2 b a) := by
  generalize hE : k0_pay10 (F := Ideal) = E
  pointwise
  subst hE
  rw [Finset.sum_eq_single a]
  · rw [eye, if_pos rfl, one_mul]
  · intro x _ hx
    rw [eye, if_neg (Ne.symm hx), zero_mul]
  · intro h
    exact absurd (Finset.mem_univ a) h

theorem val_pos (j : ℕ) : (0 : ℝ) < val j := by
  unfold DistWords.val
  positivity

set_option maxHeartbeats 1600000 in
/-- One piece of the query matrix: the reciprocal of the plane's number, negative where the query's bit is set. -/
theorem query_piece (f : BitVec 32 → BitVec 32) (p j : ℕ) (hf : DistWords.Picks f p j) (hj : j = place p) (W : IVec S64x256 32) (cn cp : BitVec 32)
    (hn : (FloatOps.ofBits (F := Ideal) .f32 cn : EReal) = ((-(val j)⁻¹ : ℝ) : EReal)) (hp : (FloatOps.ofBits (F := Ideal) .f32 cp : EReal) = (((val j)⁻¹ : ℝ) : EReal))
    (x : S256x256.Idx) (y : S256x2048.Idx) (h0 : (y 0).val = (x 0).val) (h1 : (y 1).val = 256 * p + (x 1).val) :
    (truncf .fp8e4m3 (select (cmpf .ogt
        (matmul (F := Ideal) dot_S256x256_S256x256_S256x256_1_1_0_0_n_n none (k0_pay10 (F := Ideal))
          (bitcastToFloat (F := Ideal) .fp8e4m3 (bitcast S256x256 8 (fun i => f (W i)) bitcasts_S64x256_w32_S256x256_w8)) (constant S256x256 .f32 0x00000000#32))
        (broadcast S256x256 (Scalar.ofBits (F := Ideal) .f32 0x00000000#32)))
      (broadcast S256x256 (Scalar.ofBits (F := Ideal) .f32 cn)) (broadcast S256x256 (Scalar.ofBits (F := Ideal) .f32 cp))) bitsLt_fp8e4m3_f32 x : EReal)
      = ((if (W (ix2 (wordOf (y 1)) (y 0))).getLsbD (bitOf (y 1)) then -(val (place ((y 1).val / 256)))⁻¹ else (val (place ((y 1).val / 256)))⁻¹ : ℝ) : EReal) := by
  idx_vars x
  have hx : x1.val < 256 := x1.isLt
  change (y 1).val = 256 * p + x1.val at h1
  change (y 0).val = x0.val at h0
  have e1 : (y 0) = x0 := Fin.ext h0
  have e2 : (y 1).val / 256 = p := by omega
  have e3 : bitOf (y 1) = 8 * (x1.val % 4) + p := by
    show 8 * ((y 1).val % 4) + (y 1).val / 256 = _
    omega
  rw [e1, e2, e3, ← hj]
  have hb := DistWords.plane f p j hf (hj ▸ place_of p) W bitcasts_S64x256_w32_S256x256_w8 x1 x0 (wordOf (y 1)) (by show (y 1).val % 256 / 4 = _; omega)
  have ht := (turned (bitcastToFloat (F := Ideal) .fp8e4m3 (bitcast S256x256 8 (fun i => f (W i)) bitcasts_S64x256_w32_S256x256_w8)) x0 x1).trans hb
  generalize matmul (F := Ideal) dot_S256x256_S256x256_S256x256_1_1_0_0_n_n none (k0_pay10 (F := Ideal))
          (bitcastToFloat (F := Ideal) .fp8e4m3 (bitcast S256x256 8 (fun i => f (W i)) bitcasts_S64x256_w32_S256x256_w8)) (constant S256x256 .f32 0x00000000#32) = M at ht
  obtain ⟨B, hB⟩ : ∃ B : Bool, B = (W (ix2 (wordOf (y 1)) x0)).getLsbD (8 * (x1.val % 4) + p) := ⟨_, rfl⟩
  replace ht : M (ix2 x0 x1) = ((if B = true then val j else 0 : ℝ) : EReal) := by rw [hB]; exact ht
  rw [← hB]
  pointwise
  rw [ht]
  change (if _ then (FloatOps.ofBits (F := Ideal) .f32 cn : EReal) else (FloatOps.ofBits (F := Ideal) .f32 cp : EReal)) = _
  rw [hn, hp]
  cases B
  · rw [if_neg (by simp), if_neg (by simp)]
  · rw [if_pos rfl, if_pos (EReal.coe_pos.mpr (val_pos j)), if_pos rfl]

theorem lit_32 : (FloatOps.ofBits (F := Ideal) .f32 0x42000000#32 : EReal) = (((val 4)⁻¹ : ℝ) : EReal) := by
  show Ideal.ofBits .f32 _ = _
  simp [Ideal.ofBits, Ideal.ieee, val, -EReal.coe_mul]; norm_num
theorem lit_n32 : (FloatOps.ofBits (F := Ideal) .f32 0xC2000000#32 : EReal) = ((-(val 4)⁻¹ : ℝ) : EReal) := by
  show Ideal.ofBits .f32 _ = _
  simp [Ideal.ofBits, Ideal.ieee, val, -EReal.coe_mul, -EReal.coe_neg]; norm_num
theorem lit_8 : (FloatOps.ofBits (F := Ideal) .f32 0x41000000#32 : EReal) = (((val 5)⁻¹ : ℝ) : EReal) := by
  show Ideal.ofBits .f32 _ = _
  simp [Ideal.ofBits, Ideal.ieee, val, -EReal.coe_mul]; norm_num
theorem lit_n8 : (FloatOps.ofBits (F := Ideal) .f32 0xC1000000#32 : EReal) = ((-(val 5)⁻¹ : ℝ) : EReal) := by
  show Ideal.ofBits .f32 _ = _
  simp [Ideal.ofBits, Ideal.ieee, val, -EReal.coe_mul, -EReal.coe_neg]; norm_num
theorem lit_half : (FloatOps.ofBits (F := Ideal) .f32 0x3F000000#32 : EReal) = (((val 6)⁻¹ : ℝ) : EReal) := by
  show Ideal.ofBits .f32 _ = _
  simp [Ideal.ofBits, Ideal.ieee, val, -EReal.coe_mul]; norm_num
theorem lit_nhalf : (FloatOps.ofBits (F := Ideal) .f32 0xBF000000#32 : EReal) = ((-(val 6)⁻¹ : ℝ) : EReal) := by
  show Ideal.ofBits .f32 _ = _
  simp [Ideal.ofBits, Ideal.ieee, val, -EReal.coe_mul, -EReal.coe_neg]; norm_num
theorem lit_64 : (FloatOps.ofBits (F := Ideal) .f32 0x42800000#32 : EReal) = (((val 3)⁻¹ : ℝ) : EReal) := by
  show Ideal.ofBits .f32 _ = _
  simp [Ideal.ofBits, Ideal.ieee, val, -EReal.coe_mul]; norm_num
theorem lit_n64 : (FloatOps.ofBits (F := Ideal) .f32 0xC2800000#32 : EReal) = ((-(val 3)⁻¹ : ℝ) : EReal) := by
  show Ideal.ofBits .f32 _ = _
  simp [Ideal.ofBits, Ideal.ieee, val, -EReal.coe_mul, -EReal.coe_neg]; norm_num

set_option maxHeartbeats 1600000 in
/-- The query matrix from the packed words. -/
theorem qmat_apply (b : FVec Ideal S256x2048 .f32) (y : S256x2048.Idx) :
    (DistIdealPrepBody.qmatOf (F := Ideal) b (DistIdealPrepBody.words b) y : EReal)
      = ((if (DistIdealPrepBody.words b (ix2 (wordOf (y 1)) (y 0))).getLsbD (bitOf (y 1)) then -(val (place ((y 1).val / 256)))⁻¹ else (val (place ((y 1).val / 256)))⁻¹ : ℝ) : EReal) := by
  unfold DistIdealPrepBody.qmatOf
  generalize hW : DistIdealPrepBody.words b = W
  canon_tiles x h
  · exact query_piece _ 7 6 DistWords.picks7 rfl W _ _ lit_nhalf lit_half x y h0 h1
  · exact query_piece _ 6 6 DistWords.picks6 rfl W _ _ lit_nhalf lit_half x y h0 h1
  · exact query_piece _ 5 5 DistWords.picks5 rfl W _ _ lit_n8 lit_8 x y h0 h1
  · exact query_piece _ 4 4 DistWords.picks4 rfl W _ _ lit_n32 lit_32 x y h0 h1
  · exact query_piece _ 3 3 DistWords.picks3 rfl W _ _ lit_n64 lit_64 x y h0 h1
  · exact query_piece _ 2 6 DistWords.picks2 rfl W _ _ lit_nhalf lit_half x y h0 h1
  · subst hW
    exact query_piece _ 1 5 DistWords.picks1 rfl (DistIdealPrepBody.words b) _ _ lit_n8 lit_8 x y h0 h1
  · subst hW
    exact query_piece _ 0 4 DistWords.picks0 rfl (DistIdealPrepBody.words b) _ _ lit_n32 lit_32 x y h0 (by omega)

end Cert.DistPlanes

end
-- ==== Proof.DistEntry.lean ====
/-
  What the distance kernel's second call finds in its arrays: the query matrix the first call leaves, the transposed documents, and
  the padding row the host operations make.
-/
module

public import proofs.«01_k».proof.Proof.DistIdealBody
public import proofs.«01_k».proof.Proof.DistPlanes
public import proofs.«01_k».proof.Proof.PrepSpec
public import Idealize.ShloMosaic.Lib.Claim
public import Idealize.ShloMosaic.Lib.Pipeline.ValueKit

@[expose] public section

set_option maxRecDepth 16384

noncomputable section

namespace Cert.DistEntry

open Cert.DistIdeal Cert.DistIdeal.Gen
open Idealize.ShloMosaic Idealize.ShloMosaic.TcCoe Idealize.SL.Sem
open Idealize.ShloMosaic.Pipeline (Dat afterRegion afterRegion_arr)
open Cert.DistWords (val)
open Cert.DistPlanes (wordOf bitOf place)

variable (m : (ℓ : Loc nD τ sig) → Buf (Elt Ideal) ℓ)

/-- The arguments at their own types. -/
abbrev queries (c : Dev nD) : FVec Ideal S1024x2048 .bf16 := m ((c : Thread nD τ).loc main_arg0)
abbrev docs (c : Dev nD) : IVec S150000x64 32 := m ((c : Thread nD τ).loc main_arg1)

theorem docs_step (V : Valuation τ sig (Elt Ideal)) : StableHlo.after hostOps1_2 V (Proc.devRef .tc main_v6)
    = (transpose S64x150000 [1, 0] (V (Proc.devRef .tc main_arg1) : IVec S150000x64 32) transposes_S150000x64_S64x150000_1_0 : IVec S64x150000 32) := by
  after_results

theorem docs_kept (o : Outs (F := Ideal)) (c : Dev nD) : V3 m o c (Proc.devRef .tc main_arg1) = docs m c :=
  (V3_of m o c main_arg1 (by decide)).trans <| (V2_of m o c main_arg1 (by decide)).trans <| (V1_of m o c main_arg1 (by decide)).trans rfl

/-- The documents as the second call finds them, transposed. -/
theorem docs_of (o : Outs (F := Ideal)) (c : Dev nD) : V4 m o c (Proc.devRef .tc main_v6)
    = (transpose S64x150000 [1, 0] (docs m c) transposes_S150000x64_S64x150000_1_0 : IVec S64x150000 32) :=
  (docs_step (V3 m o c)).trans (congrArg (fun d : IVec S150000x64 32 => transpose S64x150000 [1, 0] d transposes_S150000x64_S64x150000_1_0) (docs_kept m o c))

/-- The padding row as the second call finds it. -/
theorem pad_of (o : Outs (F := Ideal)) (c : Dev nD) : V4 m o c (Proc.devRef .tc main_v5)
    = (select (cmpi .slt (iotaInDim S8x150528 32 1) (broadcastInDim S8x150528 ![] bcast_S_S8x150528 (constantI S_ 32 150000#32)))
        (broadcastInDim S8x150528 ![] bcast_S_S8x150528 (constant (F := Ideal) S_ .f32 0x4B000800#32))
        (broadcastInDim S8x150528 ![] bcast_S_S8x150528 (constant (F := Ideal) S_ .f32 0x4B002800#32)) : FVec Ideal S8x150528 .f32) := by
  show StableHlo.after hostOps1_2 (StableHlo.after hostOps1_1 (StableHlo.after hostOps1 (V1 m o c))) (Proc.devRef .tc main_v5) = _
  generalize V1 m o c = V
  after_results
  rfl

/-- The query matrix: at a row and a bit, the sign of the bit over the plane's number. -/
def qarr (x : FVec Ideal S1024x2048 .bf16) : FVec Ideal S1024x2048 .fp8e4m3 := fun y =>
  ((if (BitVec.ofNat 32 (PrepSpec.word x (y 0) (wordOf (y 1)))).getLsbD (bitOf (y 1)) then -(val (place ((y 1).val / 256)))⁻¹
    else (val (place ((y 1).val / 256)))⁻¹ : ℝ) : EReal)

theorem idx0 : ∀ t : Fin cfg0.N, win0_0.index t = ![t.val, 0] ∧ win0_5.index t = ![t.val, 0] :=
  (by decide +kernel : ∀ t : Fin grid0.N, _)

theorem point_lt (t : Fin cfg0.N) : t.val < 4 := lt_of_lt_of_eq t.isLt N_0

/-- A row of a point's block is the argument's. -/
theorem row (c : Dev nD) (t : Fin cfg0.N) (k : Fin 256) (r : Fin 1024) (hr : r.val = t.val * 256 + k.val) (n : Fin 2048) :
    DistIdealPrepBody.iblk0 (V0 m) c 0 t (ix2 k n) = queries m c (ix2 r n) := by
  blk_ext [DistIdealPrepBody.iblk0, V0, idx0 t]

/-- The query matrix as the second call finds it is the first call's. -/
theorem query_entry (c : Dev nD) : DistIdealBody.entry m c (Proc.devRef .tc main_v0_4) = (DistIdealPrepBody.dat0 (V0 m) c).arrAt 5 cfg0.N := by
  refine (V4_of m _ c main_v0_4 (by decide)).trans <| (V3_of m _ c main_v0_4 (by decide)).trans <| (V2_of m _ c main_v0_4 (by decide)).trans ?_
  rw [V1, Function.update_self]
  exact afterRegion_arr _ _ launch0.win.arr_inj 5

theorem words_eq (c : Dev nD) (t : Fin cfg0.N) (w : Fin 64) (k : Fin 256) (r : Fin 1024) (hr : r.val = t.val * 256 + k.val) :
    DistIdealPrepBody.words (k0_pay6 (F := Ideal) (DistIdealPrepBody.iblk0 (V0 m) c 0 t)) (ix2 w k) = BitVec.ofNat 32 (PrepSpec.word (queries m c) r w) := by
  refine Eq.trans ?_ (PrepSpec.kernel_word (DistIdealPrepBody.iblk0 (V0 m) c 0 t) (queries m c) k r (row m c t k r hr) w)
  show k0_pay8 (F := Ideal) (k0_pay6 (F := Ideal) (DistIdealPrepBody.iblk0 (V0 m) c 0 t)) (k0_pay2 (F := Ideal)) (ix2 w k)
    = k0_pay9 (F := Ideal) (k0_pay6 (F := Ideal) (DistIdealPrepBody.iblk0 (V0 m) c 0 t)) (k0_pay2 (F := Ideal)) (ix3 0 w k)
  unfold k0_pay9
  generalize k0_pay8 (F := Ideal) _ _ = v
  pointwise []

/-- The query matrix's array after the first call. -/
theorem query_arr (c : Dev nD) : (DistIdealPrepBody.dat0 (V0 m) c).arrAt 5 cfg0.N = qarr (queries m c) := by
  refine (DistIdealPrepBody.dat0 (V0 m) c).arrAt_eq_of_covers 5 _ (by decide +kernel) (fun t hf y => ?_)
  blk_simp
  rw [DistIdealPrepBody.after_5]
  have hy : ((win0_5.blk t).view.emb y : S1024x2048.Idx) = ix2 ⟨t.val * 256 + (y 0).val, by have := point_lt t; have h : (y 0).val < 256 := (y 0).isLt; omega⟩ (y 1) := by
    funext a
    match a with
    | ⟨0, _⟩ => exact Fin.ext (by blk_simp [idx0 t] <;> rfl)
    | ⟨1, _⟩ => exact Fin.ext (by blk_simp [idx0 t] <;> rfl)
  refine Eq.trans ?_ (congrArg (qarr (queries m c)) hy.symm)
  refine (DistPlanes.qmat_apply (k0_pay6 (F := Ideal) (DistIdealPrepBody.iblk0 (V0 m) c 0 t)) y).trans ?_
  rw [words_eq m c t (wordOf (y 1)) (y 0) ⟨t.val * 256 + (y 0).val, by have := point_lt t; have h : (y 0).val < 256 := (y 0).isLt; omega⟩ rfl]
  rfl

/-! ## The second call's blocks -/

theorem idx1 : ∀ t : Fin cfg1.N, win1_0.index t = ![0, 0] ∧ win1_1.index t = ![0, t.val] ∧ win1_2.index t = ![0, t.val] ∧ win1_3.index t = ![0, t.val, 0, 0] :=
  (by decide +kernel : ∀ t : Fin grid1.N, _)

theorem point1_lt (t : Fin cfg1.N) : t.val < 147 := lt_of_lt_of_eq t.isLt N_1

/-- Every point reads the whole query matrix. -/
theorem query_blk (c : Dev nD) (t : Fin cfg1.N) (a : Fin 1024) (k : Fin 2048) :
    DistIdealCallBody.iblk1 (DistIdealBody.entry m) c 0 t (ix2 a k) = qarr (queries m c) (ix2 a k) := by
  have h : DistIdealBody.entry m c (Proc.devRef .tc main_v0_4) = qarr (queries m c) := (query_entry m c).trans (query_arr m c)
  unfold DistIdealCallBody.iblk1
  generalize qarr (queries m c) = q at h ⊢
  generalize DistIdealBody.entry m c = V at h ⊢
  subst h
  blk_ext [idx1 t]

/-- The masked documents a point reads: a document in range, or zero. -/
theorem docs_blk (c : Dev nD) (t : Fin cfg1.N) (w : Fin 64) (l : Fin 1024) :
    k1_pay2 (F := Ideal) (grid1.coords t) (DistIdealCallBody.docsBlk (DistIdealBody.entry m) c t fun _ => 0#32) (ix2 w l)
      = if h : t.val * 1024 + l.val < 150000 then docs m c (ix2 ⟨t.val * 1024 + l.val, h⟩ w) else 0#32 := by
  rw [DistIdealCallBody.pay2_at]
  have hl : l.val < 1024 := l.isLt
  by_cases h : t.val * 1024 + l.val < 150000
  · rw [dif_pos h, if_pos (show t.val * 1024 + ((ix2 w l : S64x1024.Idx) 1).val < 150000 from h)]
    have hm : win1_1.moved (grid1.coords t) (ix2 w l) = true := (win1_1.moved_iff _ _).mpr fun a => by
      have hx := DistIdealCallBody.xsize_1 t
      match a with
      | 0 => rw [hx.1]; exact w.isLt
      | 1 => rw [hx.2]; show l.val < _; omega
    unfold DistIdealCallBody.docsBlk Idealize.ShloMosaic.Pipeline.Window.fill
    rw [dif_pos hm]
    unfold DistIdealCallBody.iblk1
    have hd : DistIdealBody.entry m c (Proc.devRef .tc main_v6) = _ := docs_of m (DistIdealBody.prepOuts m) c
    generalize docs m c = d at hd ⊢
    generalize DistIdealBody.entry m c = V at hd ⊢
    refine Eq.trans (b := (V (Proc.devRef .tc main_v6) : IVec S64x150000 32) (ix2 w ⟨t.val * 1024 + l.val, h⟩)) ?_ ?_
    · refine congrArg (V (Proc.devRef .tc main_v6) : IVec S64x150000 32) ?_
      funext a
      match a with
      | ⟨0, _⟩ => exact Fin.ext (by blk_simp [idx1 t] <;> rfl)
      | ⟨1, _⟩ => exact Fin.ext (by blk_simp [idx1 t] <;> rfl)
    · rw [hd]
      pointwise []
  · rw [dif_neg h, if_neg (show ¬ t.val * 1024 + ((ix2 w l : S64x1024.Idx) 1).val < 150000 from h)]

theorem lit_bias : (FloatOps.ofBits (F := Ideal) .f32 0x4B000800#32 : EReal) = (((8388608 + 2048 : ℤ) : ℝ) : EReal) := by
  show Ideal.ofBits .f32 _ = _
  simp [Ideal.ofBits, Ideal.ieee, -EReal.coe_mul]
theorem lit_far : (FloatOps.ofBits (F := Ideal) .f32 0x4B002800#32 : EReal) = (((8388608 + 10240 : ℤ) : ℝ) : EReal) := by
  show Ideal.ofBits .f32 _ = _
  simp [Ideal.ofBits, Ideal.ieee, -EReal.coe_mul]

/-- The padding row a point reads. -/
theorem pad_blk (c : Dev nD) (t : Fin cfg1.N) (l : Fin 1024) :
    (DistIdealCallBody.padRow (F := Ideal) (DistIdealCallBody.iblk1 (DistIdealBody.entry m) c 2 t) (ix2 0 l) : EReal)
      = (((8388608 + (if t.val * 1024 + l.val < 150000 then 2048 else 10240) : ℤ) : ℝ) : EReal) := by
  have ht := point1_lt t
  have hl : l.val < 1024 := l.isLt
  have hd : DistIdealBody.entry m c (Proc.devRef .tc main_v5) = _ := pad_of m (DistIdealBody.prepOuts m) c
  unfold DistIdealCallBody.padRow DistIdealCallBody.iblk1
  generalize DistIdealBody.entry m c = V at hd ⊢
  refine Eq.trans (b := ((V (Proc.devRef .tc main_v5) : FVec Ideal S8x150528 .f32) (ix2 0 ⟨t.val * 1024 + l.val, by omega⟩) : EReal)) ?_ ?_
  · refine congrArg (V (Proc.devRef .tc main_v5) : FVec Ideal S8x150528 .f32) ?_
    funext a
    match a with
    | ⟨0, _⟩ => exact Fin.ext (by blk_simp [idx1 t] <;> rfl)
    | ⟨1, _⟩ => exact Fin.ext (by blk_simp [idx1 t] <;> rfl)
  · rw [hd]
    have hn : t.val * 1024 + l.val < 150528 := by omega
    pointwise []
    generalize t.val * 1024 + l.val = n at hn
    have hc : IntOp.cmpi .slt (BitVec.ofNat 32 n) 150000#32 = 1#1 ↔ n < 150000 := by word_cmp
    unfold Scalar.select
    by_cases h : n < 150000
    · rw [if_pos h, hc.mpr h]; exact lit_bias
    · rw [if_neg h]; exact (if_neg (fun h' => h (hc.mp h'))).trans lit_far

end Cert.DistEntry

end
-- ==== Proof.DistEncode.lean ====
/-
  The distance kernel's last steps at an element: the sum is encoded as an integer, and two such codes make a packed word.
-/
module

public import proofs.«01_k».proof.Proof.DistIdealCallBody
public import proofs.«01_k».proof.Proof.DistWords
public import proofs.«01_k».proof.Proof.PrepWords

@[expose] public section

set_option maxRecDepth 16384

noncomputable section

namespace Cert.DistEncode

open Cert.DistIdeal Cert.DistIdeal.Gen
open Idealize.ShloMosaic Idealize.ShloMosaic.TcCoe
open Cert.DistWords (val gain)

theorem two23 : (FloatOps.ofBits (F := Ideal) .f32 0x4B000000#32 : EReal) = ((8388608 : ℝ) : EReal) := by
  show Ideal.ofBits .f32 _ = _
  simp [Ideal.ofBits, Ideal.ieee, -EReal.coe_mul]

/-- The code of a sum. -/
theorem code_apply (v : FVec Ideal S1024x1024 .f32) (u : FVec Ideal S1x1024 .f32) (a l : Fin 1024) (s c : ℤ) (hs : (v (ix2 a l) : EReal) = ((s : ℝ) : EReal))
    (hc : (u (ix2 0 l) : EReal) = (((8388608 + c : ℤ) : ℝ) : EReal)) (hb : |s + c| < 65536) :
    k1_pay14 (F := Ideal) v u (ix2 a l) = IntOp.addi 1258291200#32 (BitVec.ofInt 32 (s + c)) := by
  rw [← DistWords.fptosi_int (s + c) hb]
  pointwise [k1_pay14, k1_pay13]
  refine congrArg (fun e : EReal => IntOp.addi 1258291200#32 (FloatOps.fptosi (F := Ideal) (φ := .f32) 32 e)) ?_
  refine (congrArg₂ (fun p q : EReal => p - q) (congrArg₂ (fun p q : EReal => p + q) hs hc) two23).trans ?_
  rw [← EReal.coe_add, ← EReal.coe_sub]
  refine congrArg _ ?_
  push_cast
  ring

/-- One stored piece of the packed words: two runs of 128 codes. -/
theorem piece_apply (E : IVec S1024x1024 32) (o o' : ℕ) (h : S1024x1024.Slices ![0, o] S1024x128) (h' : S1024x1024.Slices ![0, o'] S1024x128)
    (x : S128x1x8x128.Idx) (a l l' : Fin 1024) (ha : a.val = 8 * (x 0).val + (x 2).val) (hl : l.val = o + (x 3).val) (hl' : l'.val = o' + (x 3).val) :
    shapeCast S128x1x8x128 (shapeCast S128x8x128 (addi (shli (extractStridedSlice S1024x128 ![0, o'] E h') (broadcast S1024x128 16#32))
        (extractStridedSlice S1024x128 ![0, o] E h)) shapeCasts_S1024x128_S128x8x128) shapeCasts_S128x8x128_S128x1x8x128 x
      = IntOp.addi (IntOp.shli .vector (E (ix2 a l')) 16#32) (E (ix2 a l)) := by
  have h1 : (x 1).val = 0 := by have : (x 1).val < 1 := (x 1).isLt; omega
  have h0 : (x 0).val < 128 := (x 0).isLt
  have h2 : (x 2).val < 8 := (x 2).isLt
  have h3 : (x 3).val < 128 := (x 3).isLt
  idx_vars x
  pointwise []
  have ea : (⟨x0.val * 8 + x2.val, by omega⟩ : Fin 1024) = a := Fin.ext (by rw [ha]; show x0.val * 8 + x2.val = 8 * x0.val + x2.val; omega)
  have el : (⟨o + x3.val, by rw [← (show l.val = o + x3.val from hl)]; exact l.isLt⟩ : Fin 1024) = l := Fin.ext hl.symm
  have el' : (⟨o' + x3.val, by rw [← (show l'.val = o' + x3.val from hl')]; exact l'.isLt⟩ : Fin 1024) = l' := Fin.ext hl'.symm
  exact congrArg₂ IntOp.addi (congrArg (fun w => IntOp.shli .vector w 16#32) (congrArg E (congrArg₂ (fun p q => ix2 p q) ea el')))
    (congrArg E (congrArg₂ (fun p q => ix2 p q) ea el))

/-- The packed words at an element: the codes of two documents 128 apart. -/
theorem words_apply (i : grid1.Coords) (q : Vec Ideal S1024x2048 .fp8e4m3) (d : Vec Ideal S64x1024 .i32) (p : Vec Ideal S8x1024 .f32) (y : S128x4x8x128.Idx)
    (a l l' : Fin 1024) (ha : a.val = 8 * (y 0).val + (y 2).val) (hl : l.val = 256 * (y 1).val + (y 3).val) (hl' : l'.val = l.val + 128) :
    DistIdealCallBody.wordsOut (F := Ideal) i q d p y
      = IntOp.addi (IntOp.shli .vector (k1_pay14 (F := Ideal) (DistIdealCallBody.prod i q d) (DistIdealCallBody.padRow p) (ix2 a l')) 16#32)
          (k1_pay14 (F := Ideal) (DistIdealCallBody.prod i q d) (DistIdealCallBody.padRow p) (ix2 a l)) := by
  unfold DistIdealCallBody.wordsOut
  generalize DistIdealCallBody.prod (F := Ideal) i q d = v
  generalize DistIdealCallBody.padRow (F := Ideal) p = u
  canon_tiles x h
  · exact piece_apply (k1_pay14 (F := Ideal) v u) 768 896 slices_S1024x1024_o0_768_S1024x128 slices_S1024x1024_o0_896_S1024x128 x a l l' (by omega) (by omega) (by omega)
  · exact piece_apply (k1_pay14 (F := Ideal) v u) 512 640 slices_S1024x1024_o0_512_S1024x128 slices_S1024x1024_o0_640_S1024x128 x a l l' (by omega) (by omega) (by omega)
  · exact piece_apply (k1_pay14 (F := Ideal) v u) 256 384 slices_S1024x1024_o0_256_S1024x128 slices_S1024x1024_o0_384_S1024x128 x a l l' (by omega) (by omega) (by omega)
  · exact piece_apply (k1_pay14 (F := Ideal) v u) 0 128 slices_S1024x1024_o0_0_S1024x128 slices_S1024x1024_o0_128_S1024x128 x a l l' (by omega) (by omega) (by omega)

end Cert.DistEncode

end
-- ==== Proof.DistProduct.lean ====
/-
  The distance product at an element: the query matrix times the planes is the sum, over the words, of the bit by bit scores of a query
  and a document. With the padding row added it is encoded as an integer, and two such codes make a packed word.
-/
module

public import proofs.«01_k».proof.Proof.DistPlanes

@[expose] public section

set_option maxRecDepth 16384

noncomputable section

namespace Cert.DistProduct

open Cert.DistIdeal Cert.DistIdeal.Gen
open Idealize.ShloMosaic Idealize.ShloMosaic.TcCoe
open Cert.DistWords (val gain)
open Cert.DistPlanes (wordOf bitOf place)

theorem bit_lt (k : Fin 2048) : bitOf k < 32 := by
  show 8 * (k.val % 4) + k.val / 256 < 32
  omega

/-- A plane's row is a word and one of its bits. -/
def rows : Fin 2048 ≃ Fin 64 × Fin 32 where
  toFun k := (wordOf k, ⟨bitOf k, bit_lt k⟩)
  invFun p := ⟨256 * (p.2.val % 8) + 4 * p.1.val + p.2.val / 8, by omega⟩
  left_inv k := by
    refine Fin.ext ?_
    show 256 * ((8 * (k.val % 4) + k.val / 256) % 8) + 4 * (k.val % 256 / 4) + (8 * (k.val % 4) + k.val / 256) / 8 = k.val
    have hk := k.isLt
    have h1 : (8 * (k.val % 4) + k.val / 256) % 8 = k.val / 256 := by omega
    have h2 : (8 * (k.val % 4) + k.val / 256) / 8 = k.val % 4 := by omega
    rw [h1, h2]
    omega
  right_inv p := by
    obtain ⟨w, b⟩ := p
    have hw := w.isLt
    have hb := b.isLt
    have h1 : (256 * (b.val % 8) + 4 * w.val + b.val / 8) % 256 = 4 * w.val + b.val / 8 := by omega
    have h2 : (256 * (b.val % 8) + 4 * w.val + b.val / 8) / 256 = b.val % 8 := by omega
    have h3 : (256 * (b.val % 8) + 4 * w.val + b.val / 8) % 4 = b.val / 8 := by omega
    refine Prod.ext (Fin.ext ?_) (Fin.ext ?_)
    · show (256 * (b.val % 8) + 4 * w.val + b.val / 8) % 256 / 4 = w.val
      rw [h1]
      omega
    · show 8 * ((256 * (b.val % 8) + 4 * w.val + b.val / 8) % 4) + (256 * (b.val % 8) + 4 * w.val + b.val / 8) / 256 = b.val
      rw [h2, h3]
      omega

/-- One row's term: the plane's number cancels. -/
theorem term (v : ℝ) (hv : 0 < v) (qb db : Bool) :
    ((if qb = true then -v⁻¹ else v⁻¹ : ℝ) : EReal) * ((if db = true then v else 0 : ℝ) : EReal)
      = (((if db = true then (if qb = true then -1 else 1) else 0 : ℤ) : ℝ) : EReal) := by
  rw [← EReal.coe_mul]
  refine congrArg _ ?_
  have h : v⁻¹ * v = 1 := inv_mul_cancel₀ hv.ne'
  cases qb <;> cases db <;> simp [h]

/-- The terms of all rows. -/
theorem terms (Q D : Fin 64 → BitVec 32) :
    (∑ k : Fin 2048, ((if (Q (wordOf k)).getLsbD (bitOf k) = true then -(val (place (k.val / 256)))⁻¹ else (val (place (k.val / 256)))⁻¹ : ℝ) : EReal)
        * ((if (D (wordOf k)).getLsbD (bitOf k) = true then val (place (k.val / 256)) else 0 : ℝ) : EReal))
      = (((∑ w : Fin 64, gain (Q w) (D w) : ℤ) : ℝ) : EReal) := by
  rw [Finset.sum_congr rfl fun k _ => term (val (place (k.val / 256))) (DistPlanes.val_pos _) ((Q (wordOf k)).getLsbD (bitOf k)) ((D (wordOf k)).getLsbD (bitOf k)),
    ← PrepWords.coe_sum, ← Int.cast_sum]
  refine congrArg (fun n : ℤ => ((n : ℝ) : EReal)) ?_
  unfold gain
  refine Eq.trans ?_ (Fintype.sum_prod_type (fun p : Fin 64 × Fin 32 => if (D p.1).getLsbD p.2.val then (if (Q p.1).getLsbD p.2.val then (-1 : ℤ) else 1) else 0))
  exact Equiv.sum_comp rows fun p : Fin 64 × Fin 32 => if (D p.1).getLsbD p.2.val then (if (Q p.1).getLsbD p.2.val then (-1 : ℤ) else 1) else 0

/-- The product at an element. -/
theorem prod_apply (i : grid1.Coords) (q : FVec Ideal S1024x2048 .fp8e4m3) (d : IVec S64x1024 32) (a l : Fin 1024) (Q : Fin 64 → BitVec 32)
    (hq : ∀ k : Fin 2048, (q (ix2 a k) : EReal)
      = ((if (Q (wordOf k)).getLsbD (bitOf k) = true then -(val (place (k.val / 256)))⁻¹ else (val (place (k.val / 256)))⁻¹ : ℝ) : EReal)) :
    (DistIdealCallBody.prod (F := Ideal) i q d (ix2 a l) : EReal) = (((∑ w : Fin 64, gain (Q w) (k1_pay2 (F := Ideal) i d (ix2 w l)) : ℤ) : ℝ) : EReal) := by
  rw [← terms Q fun w => k1_pay2 (F := Ideal) i d (ix2 w l)]
  unfold DistIdealCallBody.prod
  have hp := fun k : Fin 2048 => DistPlanes.planes_apply i d (ix2 k l)
  generalize DistIdealCallBody.planes (F := Ideal) i d = P at hp
  pointwise [k1_pay12]
  refine Finset.sum_congr rfl fun k _ => ?_
  exact congrArg₂ (fun u v : EReal => u * v) (hq k) (hp k)

end Cert.DistProduct

end
-- ==== Proof.DistLeast.lean ====
/-
  The least of a run of whole numbers, and how both programs come to it: the kernel by minima of floats and of encoded words, the
  reference by a fold over words.
-/
module

public import proofs.«01_k».proof.Proof.DistEncode

@[expose] public section

set_option maxRecDepth 16384

noncomputable section

namespace Cert.DistLeast

open Cert.DistIdeal Cert.DistIdeal.Gen
open Idealize.ShloMosaic Idealize.ShloMosaic.TcCoe

/-- `z` is the least of the first `n` values of `g`. -/
def Least (g : ℕ → ℤ) (n : ℕ) (z : ℤ) : Prop := (∃ k < n, g k = z) ∧ ∀ k < n, z ≤ g k

/-- The least of eight numbers, in the order the kernel takes the minima. -/
def least8 (g : ℕ → ℤ) : ℤ :=
  min (min (min (min (g 0) (g 1)) (min (g 2) (g 3))) (min (g 4) (g 5))) (min (g 6) (g 7))

theorem mem_min (s : Set ℤ) (a b : ℤ) (ha : a ∈ s) (hb : b ∈ s) : min a b ∈ s := by
  rcases min_choice a b with h | h <;> rw [h] <;> assumption

theorem least8_spec (g : ℕ → ℤ) : Least g 8 (least8 g) := by
  constructor
  · have h : ∀ k < 8, g k ∈ {z | ∃ k < 8, g k = z} := fun k hk => ⟨k, hk, rfl⟩
    exact mem_min _ _ _ (mem_min _ _ _ (mem_min _ _ _ (mem_min _ _ _ (h 0 (by omega)) (h 1 (by omega))) (mem_min _ _ _ (h 2 (by omega)) (h 3 (by omega))))
      (mem_min _ _ _ (h 4 (by omega)) (h 5 (by omega)))) (mem_min _ _ _ (h 6 (by omega)) (h 7 (by omega)))
  · intro k hk
    unfold least8
    interval_cases k <;> simp only [min_le_iff, le_refl, true_or, or_true]

/-- The least of a run followed by another. -/
theorem Least.append {g : ℕ → ℤ} {n k : ℕ} {z w : ℤ} (h : Least g n z) (h' : Least (fun i => g (n + i)) k w) : Least g (n + k) (min z w) := by
  obtain ⟨⟨i, hi, ei⟩, hz⟩ := h
  obtain ⟨⟨j, hj, ej⟩, hw⟩ := h'
  refine ⟨mem_min {z | ∃ l < n + k, g l = z} _ _ ⟨i, by omega, ei⟩ ⟨n + j, by omega, ej⟩, fun l hl => ?_⟩
  by_cases hln : l < n
  · exact (min_le_left _ _).trans (hz l hln)
  · have e := hw (l - n) (by omega)
    dsimp only at e
    rw [show n + (l - n) = l by omega] at e
    exact (min_le_right _ _).trans e

/-- A tail no less than every value changes nothing. -/
theorem Least.extend {g : ℕ → ℤ} {n m : ℕ} {z b : ℤ} (h : Least g n z) (hnm : n ≤ m) (hb : ∀ k, g k ≤ b) (ht : ∀ k, n ≤ k → k < m → g k = b) : Least g m z := by
  obtain ⟨⟨i, hi, ei⟩, hz⟩ := h
  refine ⟨⟨i, by omega, ei⟩, fun l hl => ?_⟩
  by_cases hln : l < n
  · exact hz l hln
  · rw [ht l (by omega) hl, ← ei]
    exact hb i

/-- The smaller of two words is the smaller of the numbers they hold. -/
theorem minsi_int (a b : ℤ) (ha : 0 ≤ a ∧ a < 2147483648) (hb : 0 ≤ b ∧ b < 2147483648) :
    IntOp.minsi (BitVec.ofInt 32 a) (BitVec.ofInt 32 b) = BitVec.ofInt 32 (min a b) := by
  have ea : (BitVec.ofInt 32 a).toInt = a := by rw [BitVec.toInt_ofInt, Int.bmod_def]; norm_num; omega
  have eb : (BitVec.ofInt 32 b).toInt = b := by rw [BitVec.toInt_ofInt, Int.bmod_def]; norm_num; omega
  unfold IntOp.minsi
  simp only [BitVec.slt, ea, eb, decide_eq_true_eq]
  split_ifs with h
  · rw [min_eq_left h.le]
  · rw [min_eq_right (not_lt.mp h)]

theorem code_int (a : ℤ) : IntOp.addi 1258291200#32 (BitVec.ofInt 32 a) = BitVec.ofInt 32 (1258291200 + a) := by
  rw [BitVec.ofInt_add]; rfl

/-- The smaller of two encoded counts. -/
theorem minsi_code (a b : ℤ) (ha : 0 ≤ a ∧ a ≤ 10240) (hb : 0 ≤ b ∧ b ≤ 10240) :
    IntOp.minsi (IntOp.addi 1258291200#32 (BitVec.ofInt 32 a)) (IntOp.addi 1258291200#32 (BitVec.ofInt 32 b))
      = IntOp.addi 1258291200#32 (BitVec.ofInt 32 (min a b)) := by
  rw [code_int, code_int, code_int, minsi_int _ _ (by omega) (by omega), min_add_add_left]

/-- The reference's fold. -/
theorem fold_minsi {n : ℕ} (g : ℕ → ℤ) (z : ℤ) (hg : ∀ k, 0 ≤ g k ∧ g k ≤ 10240) (h : Least g n z) :
    (Finset.univ : Finset (Fin n)).fold IntOp.minsi (2147483647#32) (fun k => BitVec.ofInt 32 (g k.val)) = BitVec.ofInt 32 z := by
  have key : ∀ s : Finset (Fin n), ∃ u : ℤ, (s.fold IntOp.minsi (2147483647#32) (fun k => BitVec.ofInt 32 (g k.val)) = BitVec.ofInt 32 u)
      ∧ (0 ≤ u ∧ u < 2147483648) ∧ (∀ k ∈ s, u ≤ g k.val) ∧ (u = 2147483647 ∨ ∃ k ∈ s, g k.val = u) := by
    intro s
    induction s using Finset.induction_on with
    | empty => exact ⟨2147483647, rfl, by omega, by simp, .inl rfl⟩
    | insert a s ha ih =>
      obtain ⟨u, e, hu, hle, hm⟩ := ih
      have ha' := hg a.val
      refine ⟨min (g a.val) u, ?_, by omega, ?_, ?_⟩
      · rw [Finset.fold_insert ha, e, minsi_int _ _ (by omega) hu]
      · intro k hk
        rcases Finset.mem_insert.mp hk with rfl | hk
        · exact min_le_left _ _
        · exact (min_le_right _ _).trans (hle k hk)
      · rcases min_choice (g a.val) u with h' | h'
        · exact .inr ⟨a, Finset.mem_insert_self _ _, h'.symm⟩
        · rw [h']
          exact hm.imp id fun ⟨k, hk, ek⟩ => ⟨k, Finset.mem_insert_of_mem hk, ek⟩
  obtain ⟨u, e, hu, hle, hm⟩ := key Finset.univ
  obtain ⟨⟨i, hi, ei⟩, hz⟩ := h
  rw [e]
  have h1 : u ≤ z := ei ▸ hle ⟨i, hi⟩ (Finset.mem_univ _)
  refine congrArg _ (le_antisymm h1 ?_)
  rcases hm with hm | ⟨k, -, ek⟩
  · have := (hg i).2
    omega
  · exact ek ▸ hz k.val k.isLt

/-! ## The kernel's minimum of a block -/

theorem min_coe (a b : ℤ) : (min (((8388608 + a : ℤ) : ℝ) : EReal) (((8388608 + b : ℤ) : ℝ) : EReal)) = (((8388608 + min a b : ℤ) : ℝ) : EReal) := by
  rw [← EReal.coe_strictMono.monotone.map_min, ← Int.cast_min, min_add_add_left]

/-- The code of a small whole number above 2^23. -/
theorem code_of (n : ℤ) (h : |n| < 65536) :
    IntOp.addi 1258291200#32 (FloatOps.fptosi (F := Ideal) (φ := .f32) 32 (((((8388608 + n : ℤ) : ℝ) : EReal)) - (FloatOps.ofBits (F := Ideal) .f32 0x4B000000#32 : EReal)))
      = IntOp.addi 1258291200#32 (BitVec.ofInt 32 n) := by
  rw [DistEncode.two23, ← EReal.coe_sub, ← DistWords.fptosi_int n h]
  refine congrArg (fun e : EReal => IntOp.addi 1258291200#32 (FloatOps.fptosi (F := Ideal) (φ := .f32) 32 e)) (congrArg _ ?_)
  push_cast
  ring

/-- The sum of a score and its padding, as one whole number above 2^23. -/
theorem sum_apply (v : FVec Ideal S1024x1024 .f32) (u : FVec Ideal S1x1024 .f32) (a l : Fin 1024) (s c : ℤ) (hs : (v (ix2 a l) : EReal) = ((s : ℝ) : EReal))
    (hc : (u (ix2 0 l) : EReal) = (((8388608 + c : ℤ) : ℝ) : EReal)) : (k1_pay13 (F := Ideal) v u (ix2 a l) : EReal) = (((8388608 + (s + c) : ℤ) : ℝ) : EReal) := by
  pointwise [k1_pay13]
  refine (congrArg₂ (fun p q : EReal => p + q) hs hc).trans ?_
  rw [← EReal.coe_add]
  refine congrArg _ ?_
  push_cast
  ring

/-- The encoded least of a block's eight documents in one lane. -/
theorem block_apply (v : FVec Ideal S1024x1024 .f32) (u : FVec Ideal S1x1024 .f32) (y : S128x8x128.Idx) (a : Fin 1024) (f : ℕ → ℤ)
    (ha : a.val = 8 * (y 0).val + (y 1).val) (hf : ∀ k, 0 ≤ f k ∧ f k ≤ 10240)
    (hv : ∀ (k : ℕ) (h : k * 128 + (y 2).val < 1024), (k1_pay13 (F := Ideal) v u (ix2 a ⟨k * 128 + (y 2).val, h⟩) : EReal) = (((8388608 + f k : ℤ) : ℝ) : EReal)) :
    k1_pay21 (F := Ideal) (k1_pay13 v u) (k1_pay17 v u) y = IntOp.addi 1258291200#32 (BitVec.ofInt 32 (least8 f)) := by
  have h0 : (y 0).val < 128 := (y 0).isLt
  have h1 : (y 1).val < 8 := (y 1).isLt
  have h2 : (y 2).val < 128 := (y 2).isLt
  have hl := least8_spec f
  rw [← code_of (least8 f) (by obtain ⟨⟨k, -, e⟩, -⟩ := hl; have := hf k; rw [abs_lt]; omega)]
  unfold k1_pay17
  generalize k1_pay13 (F := Ideal) v u = V at hv ⊢
  idx_vars y
  pointwise [k1_pay21]
  have e : ∀ (k o : ℕ) (ho : o = k * 128) (hk : k < 8), (V (ix2 ⟨y0.val * 8 + y1.val, by omega⟩ ⟨o + y2.val, by omega⟩) : EReal)
      = (((8388608 + f k : ℤ) : ℝ) : EReal) := by
    intro k o ho hk
    subst ho
    refine Eq.trans (congrArg V (congrArg₂ (fun p q => ix2 p q) (Fin.ext ?_) rfl)) (hv k (by omega))
    show y0.val * 8 + y1.val = a.val
    omega
  have e0 : (V (ix2 ⟨y0.val * 8 + y1.val, by omega⟩ ⟨y2.val, by omega⟩) : EReal) = (((8388608 + f 0 : ℤ) : ℝ) : EReal) :=
    Eq.trans (congrArg V (congrArg₂ (fun p q => ix2 p q) rfl (Fin.ext (Nat.zero_add _).symm))) (e 0 0 rfl (by omega))
  rw [e0, e 1 128 rfl (by omega), e 2 256 rfl (by omega), e 3 384 rfl (by omega), e 4 512 rfl (by omega), e 5 640 rfl (by omega),
    e 6 768 rfl (by omega), e 7 896 rfl (by omega)]
  simp only [min_coe]
  rfl

/-- The group minimum after a group's first block. -/
theorem first_apply (i : grid1.Coords) (q : Vec Ideal S1024x2048 .fp8e4m3) (d : Vec Ideal S64x1024 .i32) (p : Vec Ideal S8x1024 .f32) (y : S128x1x8x128.Idx)
    (a : Fin 1024) (f : ℕ → ℤ) (ha : a.val = 8 * (y 0).val + (y 2).val) (hf : ∀ k, 0 ≤ f k ∧ f k ≤ 10240)
    (hv : ∀ (k : ℕ) (h : k * 128 + (y 3).val < 1024),
      (k1_pay13 (F := Ideal) (DistIdealCallBody.prod i q d) (DistIdealCallBody.padRow p) (ix2 a ⟨k * 128 + (y 3).val, h⟩) : EReal) = (((8388608 + f k : ℤ) : ℝ) : EReal)) :
    DistIdealCallBody.gminFirst (F := Ideal) i q d p y = IntOp.addi 1258291200#32 (BitVec.ofInt 32 (least8 f)) := by
  have h := block_apply (DistIdealCallBody.prod i q d) (DistIdealCallBody.padRow p) (ix3 (y 0) (y 2) (y 3)) a f ha hf hv
  unfold DistIdealCallBody.gminFirst
  generalize k1_pay13 (F := Ideal) (DistIdealCallBody.prod i q d) (DistIdealCallBody.padRow p) = V at h ⊢
  generalize k1_pay17 (F := Ideal) (DistIdealCallBody.prod i q d) (DistIdealCallBody.padRow p) = U at h ⊢
  rw [← h]
  have h1 : (y 1).val < 1 := (y 1).isLt
  unfold k1_pay22
  generalize k1_pay21 (F := Ideal) V U = R
  idx_vars y
  pointwise []

/-- The group minimum after a later block. -/
theorem next_apply (i : grid1.Coords) (q : Vec Ideal S1024x2048 .fp8e4m3) (d : Vec Ideal S64x1024 .i32) (p : Vec Ideal S8x1024 .f32) (g : Vec Ideal S128x1x8x128 .i32)
    (y : S128x1x8x128.Idx) (a : Fin 1024) (f : ℕ → ℤ) (ha : a.val = 8 * (y 0).val + (y 2).val) (hf : ∀ k, 0 ≤ f k ∧ f k ≤ 10240)
    (hv : ∀ (k : ℕ) (h : k * 128 + (y 3).val < 1024),
      (k1_pay13 (F := Ideal) (DistIdealCallBody.prod i q d) (DistIdealCallBody.padRow p) (ix2 a ⟨k * 128 + (y 3).val, h⟩) : EReal) = (((8388608 + f k : ℤ) : ℝ) : EReal)) :
    DistIdealCallBody.gminNext (F := Ideal) i q d p g y = IntOp.minsi (g y) (IntOp.addi 1258291200#32 (BitVec.ofInt 32 (least8 f))) := by
  have h := block_apply (DistIdealCallBody.prod i q d) (DistIdealCallBody.padRow p) (ix3 (y 0) (y 2) (y 3)) a f ha hf hv
  unfold DistIdealCallBody.gminNext
  generalize k1_pay13 (F := Ideal) (DistIdealCallBody.prod i q d) (DistIdealCallBody.padRow p) = V at h ⊢
  generalize k1_pay17 (F := Ideal) (DistIdealCallBody.prod i q d) (DistIdealCallBody.padRow p) = U at h ⊢
  rw [← h]
  have h1 : (y 1).val < 1 := (y 1).isLt
  generalize k1_pay21 (F := Ideal) V U = R
  idx_vars y
  pointwise [k1_pay1]
  exact congrArg (fun e => IntOp.minsi (g (ix4 y0 e y2 y3)) (R (ix3 y0 y2 y3))) (Subsingleton.elim _ _)

end Cert.DistLeast

end
-- ==== Proof.DistReference.lean ====
/-
  What the distance program's reference computes, read at an element: the sum over the 64 words of a query and a document of the
  bit by bit scores, plus 2048; past the last document 10240; two such counts packed into one word;
  and the least of 32 counts 128 documents apart.
-/
module

public import proofs.«01_k».proof.Proof.Gen.DistReferenceIdeal.Read
public import proofs.«01_k».proof.Proof.PrepSpec
public import proofs.«01_k».proof.Proof.DistWords
public import proofs.«01_k».proof.Proof.DistLeast
public import Idealize.ShloMosaic.Lib.Pipeline.ValueKit
public import Idealize.ShloMosaic.Lib.KernelVsHost

@[expose] public section

set_option maxRecDepth 16384

noncomputable section

namespace Cert.DistReference

open Cert.DistReferenceIdeal Cert.DistReferenceIdeal.Gen
open Idealize.ShloMosaic Idealize.ShloMosaic.TcCoe
open Cert.DistWords (ones gain)

/-- The queries, the documents. -/
abbrev Queries : Type := FVec Ideal PrepReferenceIdeal.S1024x2048 .bf16
abbrev Docs : Type := IVec S150000x64 32

/-- Word `w` of query `r`. -/
def qword (x : Queries) (r : Fin 1024) (w : Fin 64) : BitVec 32 := BitVec.ofNat 32 (PrepSpec.word x r w)

/-- The count of query `r` against document `d`, by the word. -/
def score (x : Queries) (y : Docs) (r : Fin 1024) (d : Fin 150000) : ℤ := ∑ w : Fin 64, gain (qword x r w) (y (ix2 d w))

/-- The encoded count: past the last document it is 10240. -/
def count (x : Queries) (y : Docs) (r : Fin 1024) (d : ℕ) : BitVec 32 :=
  if h : d < 150000 then BitVec.ofInt 32 (score x y r ⟨d, h⟩ + 2048) else 10240#32

theorem word_apply (x : Queries) (r : Fin 1024) (w : Fin 64) :
    Read.val_main_v8 (F := Ideal) x (ix2 r w) = qword x r w := by
  unfold Read.val_main_v8 qword
  refine Eq.trans ?_ (PrepWords.fold_addi fun j : Fin 32 => if (0 : EReal) < x (ix2 r ⟨32 * w.val + j.val, by omega⟩) then 2 ^ j.val else 0)
  pointwise
  refine Finset.fold_congr fun j _ => ?_
  rw [← PrepWords.shifted _ _ j.isLt]
  have hj : j.val < 32 := j.isLt
  have e : Read.idx_main_v3 (ix3 r w j) = ix2 r (⟨32 * w.val + j.val, by omega⟩ : Fin 2048) := by
    funext a
    match a with
    | ⟨0, _⟩ =>
      refine Fin.ext ?_
      show ((r.val * 64 + w.val) * 32 + j.val) / 2048 = r.val
      omega
    | ⟨1, _⟩ =>
      refine Fin.ext ?_
      show ((r.val * 64 + w.val) * 32 + j.val) % 2048 = 32 * w.val + j.val
      omega
  rw [Read.val_main_v7_apply, Read.val_main_v3_apply, e,
    Read.val_main_v2_apply, Read.val_main_v1_apply,
    Read.val_main_v6_apply, Read.val_main_v5_apply, Read.val_main_v4_apply,
    Read.val_main_v0_apply, Read.val_main_cst_apply]
  refine congrArg₂ (IntOp.shli .host) (congrArg (BitVec.setWidth 32) ?_) rfl
  pointwise
  by_cases hp : (0 : EReal) < x (ix2 r ⟨32 * w.val + j.val, by omega⟩)
  · rw [if_pos hp, decide_eq_true hp]
    rfl
  · rw [if_neg hp, decide_eq_false hp]
    rfl

/-- The set bits of a query. -/
theorem ones_apply (x : Queries) (r : Fin 1024) :
    Read.val_main_v19 (F := Ideal) x (ix1 r) = BitVec.ofNat 32 (∑ w : Fin 64, ones (qword x r w)) := by
  unfold Read.val_main_v19
  refine Eq.trans ?_ (PrepWords.fold_addi fun w : Fin 64 => ones (qword x r w))
  pointwise
  refine Finset.fold_congr fun w _ => ?_
  rw [Read.val_main_v18_apply, Read.val_main_v17_apply, DistWords.ctpop_eq]
  exact congrArg (fun v => BitVec.ofNat 32 (ones v)) (word_apply x r w)

/-- The set bits of a query xor a document. -/
theorem ham_apply (x : Queries) (y : Docs) (r : Fin 1024) (d : Fin 150000) :
    Read.val_main_v16 (F := Ideal) x y (ix2 r d) = BitVec.ofNat 32 (∑ w : Fin 64, ones (qword x r w ^^^ y (ix2 d w))) := by
  unfold Read.val_main_v16
  refine Eq.trans ?_ (PrepWords.fold_addi fun w : Fin 64 => ones (qword x r w ^^^ y (ix2 d w)))
  pointwise
  refine Finset.fold_congr fun w _ => ?_
  rw [Read.val_main_v15_apply, Read.val_main_v14_apply, DistWords.ctpop_eq, Read.val_main_v13_apply, Read.val_main_v11_apply, Read.val_main_v9_apply,
    Read.val_main_v12_apply, Read.val_main_v10_apply]
  refine congrArg (fun v => BitVec.ofNat 32 (ones v)) (congrArg₂ IntOp.xori ?_ ?_)
  · refine Eq.trans (congrArg _ ?_) (word_apply x r w)
    funext a
    match a with
    | ⟨0, _⟩ => rfl
    | ⟨1, _⟩ => rfl
  · refine congrArg y ?_
    funext a
    match a with
    | ⟨0, _⟩ => rfl
    | ⟨1, _⟩ => rfl

/-- The count at a document. -/
theorem count_apply (x : Queries) (y : Docs) (r : Fin 1024) (d : Fin 150000) :
    Read.val_main_v24 (F := Ideal) x y (ix2 r d) = BitVec.ofInt 32 (score x y r d + 2048) := by
  rw [Read.val_main_v24_apply, Read.val_main_v22_apply, ham_apply, Read.val_main_v21_apply, Read.val_main_v20_apply,
    show Read.idx_main_v20 (Read.idx_main_v21 (ix2 r d)) = ix1 r from funext fun a => match a with | ⟨0, _⟩ => rfl,
    ones_apply, Read.val_main_v23_apply, Read.val_main_c_2_apply]
  refine DistWords.count_word _ _ _ ?_
  unfold score
  push_cast
  rw [← Finset.sum_sub_distrib]
  exact Finset.sum_congr rfl fun w _ => DistWords.ones_xor _ _

/-- The padded counts. -/
theorem padded_apply (x : Queries) (y : Docs) (r : Fin 1024) (d : Fin 150528) :
    Read.val_main_v25 (F := Ideal) x y (ix2 r d) = count x y r d.val := by
  unfold Read.val_main_v25 count
  by_cases h : d.val < 150000
  · rw [dif_pos h, ← count_apply]
    refine pad_apply_of_inside _ _ _ _ _ _ _ _ (ix2 r ⟨d.val, h⟩) fun a => ?_
    match a with
    | ⟨0, _⟩ => show r.val = 0 + r.val * (0 + 1); omega
    | ⟨1, _⟩ => show d.val = 0 + d.val * (0 + 1); omega
  · rw [dif_neg h]
    refine (pad_apply_of_not_inside _ _ _ _ _ _ _ _ (1 : Fin 2) ?_).trans rfl
    rintro ⟨-, -, h'⟩
    change (d.val - 0) / (0 + 1) < 150000 at h'
    omega

/-- The index arithmetic of splitting the documents into pairs of 128. -/
theorem split (a b c d e N : ℕ) (ha : a < 128) (hb : b < 8) (hc : c < 588) (hd : d < 128) (he : e < 2)
    (hN : N = ((a * 8 + b) * 588 + c) * 128 + d) :
    ((((N / 602112 * 8 + N / 75264 % 8) * 588 + N / 128 % 588) * 2 + e) * 128 + N % 128) / 150528 = 8 * a + b
      ∧ ((((N / 602112 * 8 + N / 75264 % 8) * 588 + N / 128 % 588) * 2 + e) * 128 + N % 128) % 150528 = 256 * c + d + 128 * e := by
  have h1 : N / 602112 = a := by omega
  have h2 : N / 75264 = a * 8 + b := by omega
  have h3 : N / 128 = (a * 8 + b) * 588 + c := by omega
  have h4 : N % 128 = d := by omega
  have h5 : (a * 8 + b) % 8 = b := by omega
  have h6 : ((a * 8 + b) * 588 + c) % 588 = c := by omega
  rw [h1, h2, h3, h4, h5, h6]
  constructor <;> omega

/-- The result at an element: two counts in a word. -/
theorem result_apply (x : Queries) (y : Docs) (i : S128x588x8x128.Idx) (r : Fin 1024) (n : ℕ) (hr : r.val = 8 * (i 0).val + (i 2).val)
    (hn : n = 256 * (i 1).val + (i 3).val) :
    Read.val_main_v41 (F := Ideal) x y i
      = IntOp.addi (IntOp.addi (count x y r n) 1258291200#32) (IntOp.shli .host (count x y r (n + 128)) 16#32) := by
  have h0 : (i 0).val < 128 := (i 0).isLt
  have h1 : (i 1).val < 588 := (i 1).isLt
  have h2 : (i 2).val < 8 := (i 2).isLt
  have h3 : (i 3).val < 128 := (i 3).isLt
  rw [Read.val_main_v41_apply, Read.val_main_v35_apply, Read.val_main_v30_apply, Read.val_main_v34_apply, Read.val_main_v29_apply, Read.val_main_v33_apply,
    Read.val_main_c_4_apply, Read.val_main_c_5_apply, Read.val_main_v28_apply, Read.val_main_v27_apply, Read.val_main_v26_apply,
    Read.val_main_v32_apply, Read.val_main_v31_apply, Read.val_main_v26_apply]
  refine congrArg₂ IntOp.addi (congrArg (fun v => IntOp.addi v 1258291200#32) ?_) (congrArg (fun v => IntOp.shli .host v 16#32) ?_)
  · refine Eq.trans (congrArg _ ?_) (padded_apply x y r ⟨n, by omega⟩)
    funext a
    match a with
    | ⟨0, _⟩ => refine Fin.ext ?_; exact (split _ _ _ _ 0 _ h0 h2 h1 h3 (by omega) rfl).1.trans (by show _ = r.val; omega)
    | ⟨1, _⟩ => refine Fin.ext ?_; exact (split _ _ _ _ 0 _ h0 h2 h1 h3 (by omega) rfl).2.trans (by show _ = n; omega)
  · refine Eq.trans (congrArg _ ?_) (padded_apply x y r ⟨n + 128, by omega⟩)
    funext a
    match a with
    | ⟨0, _⟩ => refine Fin.ext ?_; exact (split _ _ _ _ 1 _ h0 h2 h1 h3 (by omega) rfl).1.trans (by show _ = r.val; omega)
    | ⟨1, _⟩ => refine Fin.ext ?_; exact (split _ _ _ _ 1 _ h0 h2 h1 h3 (by omega) rfl).2.trans (by show _ = n + 128; omega)

/-! ## The least of a group -/

/-- The count as a whole number. -/
def number (x : Queries) (y : Docs) (r : Fin 1024) (d : ℕ) : ℤ := if h : d < 150000 then score x y r ⟨d, h⟩ + 2048 else 10240

theorem count_eq (x : Queries) (y : Docs) (r : Fin 1024) (d : ℕ) : count x y r d = BitVec.ofInt 32 (number x y r d) := by
  unfold count number
  split
  · rfl
  · rfl

/-- The sum of 64 words' scores is small. -/
theorem sum_abs (Q D : Fin 64 → BitVec 32) : |∑ w : Fin 64, gain (Q w) (D w)| ≤ 2048 :=
  (Finset.abs_sum_le_sum_abs _ _).trans ((Finset.sum_le_sum fun w _ => DistWords.gain_abs (Q w) (D w)).trans (by simp))

theorem number_bound (x : Queries) (y : Docs) (r : Fin 1024) (d : ℕ) : 0 ≤ number x y r d ∧ number x y r d ≤ 10240 := by
  unfold number
  split
  · next h =>
    have := abs_le.mp (sum_abs (qword x r) fun w => y (ix2 ⟨d, h⟩ w))
    unfold score
    omega
  · omega

/-- The counts padded to whole groups. -/
theorem padded_groups (x : Queries) (y : Docs) (r : Fin 1024) (d : Fin 151552) :
    Read.val_main_v36 (F := Ideal) x y (ix2 r d) = BitVec.ofInt 32 (number x y r d.val) := by
  unfold Read.val_main_v36
  by_cases h : d.val < 150528
  · rw [← count_eq, ← padded_apply x y r ⟨d.val, h⟩]
    refine pad_apply_of_inside _ _ _ _ _ _ _ _ (ix2 r ⟨d.val, h⟩) fun a => ?_
    match a with
    | ⟨0, _⟩ => show r.val = 0 + r.val * (0 + 1); omega
    | ⟨1, _⟩ => show d.val = 0 + d.val * (0 + 1); omega
  · rw [number, dif_neg (by omega)]
    refine (pad_apply_of_not_inside _ _ _ _ _ _ _ _ (1 : Fin 2) ?_).trans rfl
    rintro ⟨-, -, h'⟩
    change (d.val - 0) / (0 + 1) < 150528 at h'
    omega

/-- The group minimum at an element: the code of the least of 32 counts. -/
theorem group_apply (x : Queries) (y : Docs) (i : S128x37x8x128.Idx) (r : Fin 1024) (z : ℤ) (hr : r.val = 8 * (i 0).val + (i 2).val)
    (hz : DistLeast.Least (fun k => number x y r (((i 1).val * 32 + k) * 128 + (i 3).val)) 32 z) :
    Read.val_main_v42 (F := Ideal) x y i = IntOp.addi 1258291200#32 (BitVec.ofInt 32 z) := by
  have h0 : (i 0).val < 128 := (i 0).isLt
  have h1 : (i 1).val < 37 := (i 1).isLt
  have h2 : (i 2).val < 8 := (i 2).isLt
  have h3 : (i 3).val < 128 := (i 3).isLt
  have hc : ∀ u v : BitVec 32, IntOp.addi u v = IntOp.addi v u := fun u v => BitVec.add_comm u v
  rw [Read.val_main_v42_apply, Read.val_main_v40_apply, Read.val_main_v39_apply, Read.val_main_c_8_apply, hc]
  refine congrArg (IntOp.addi 1258291200#32) ?_
  rw [← DistLeast.fold_minsi (n := 32) _ z (fun k => number_bound x y r _) hz]
  unfold Read.val_main_v38
  pointwise
  refine Finset.fold_congr fun k _ => ?_
  have hk : k.val < 32 := k.isLt
  rw [Read.val_main_v37_apply]
  have e : ((((i 0).val * 8 + (i 2).val) * 37 + (i 1).val) * 32 + k.val) * 128 + (i 3).val = 151552 * r.val + (((i 1).val * 32 + k.val) * 128 + (i 3).val) := by omega
  refine Eq.trans (congrArg _ ?_) (padded_groups x y r ⟨((i 1).val * 32 + k.val) * 128 + (i 3).val, by omega⟩)
  funext a
  match a with
  | ⟨0, _⟩ =>
    refine Fin.ext ?_
    show (((((i 0).val * 8 + (i 2).val) * 37 + (i 1).val) * 32 + k.val) * 128 + (i 3).val) / 151552 = r.val
    rw [e]
    omega
  | ⟨1, _⟩ =>
    refine Fin.ext ?_
    show (((((i 0).val * 8 + (i 2).val) * 37 + (i 1).val) * 32 + k.val) * 128 + (i 3).val) % 151552 = ((i 1).val * 32 + k.val) * 128 + (i 3).val
    rw [e]
    omega

end Cert.DistReference

end
-- ==== Proof.DistValue.lean ====
/-
  What the distance program leaves in its result array is the reference's, on every argument.

  At a query and a document the product is the sum of the words' scores, of absolute value at most 64 · 32; with the padding row added it is
  a small whole number over 2^23, which the encoding keeps exactly. Two such codes make a packed word.
-/
module

public import proofs.«01_k».proof.Proof.DistEntry
public import proofs.«01_k».proof.Proof.DistEncode
public import proofs.«01_k».proof.Proof.DistProduct
public import proofs.«01_k».proof.Proof.DistReference

@[expose] public section

set_option maxRecDepth 16384

noncomputable section

namespace Cert.DistValue

open Cert.DistIdeal Cert.DistIdeal.Gen
open Idealize.ShloMosaic Idealize.ShloMosaic.TcCoe Idealize.SL.Sem
open Cert.DistWords (val gain)
open Cert.DistPlanes (wordOf bitOf place)
open Cert.DistEntry (queries docs)

variable (m : (ℓ : Loc nD τ sig) → Buf (Elt Ideal) ℓ)

/-- The code at a query and a document. -/
theorem code (c : Dev nD) (t : Fin cfg1.N) (a l : Fin 1024) :
    k1_pay14 (F := Ideal) (DistIdealCallBody.prod (grid1.coords t) (DistIdealCallBody.iblk1 (DistIdealBody.entry m) c 0 t)
        (DistIdealCallBody.docsBlk (DistIdealBody.entry m) c t fun _ => 0#32))
      (DistIdealCallBody.padRow (DistIdealCallBody.iblk1 (DistIdealBody.entry m) c 2 t)) (ix2 a l)
    = IntOp.addi 1258291200#32 (DistReference.count (queries m c) (docs m c) a (t.val * 1024 + l.val)) := by
  have hp := DistProduct.prod_apply (grid1.coords t) (DistIdealCallBody.iblk1 (DistIdealBody.entry m) c 0 t)
    (DistIdealCallBody.docsBlk (DistIdealBody.entry m) c t fun _ => 0#32) a l (DistReference.qword (queries m c) a) fun k => DistEntry.query_blk m c t a k
  have hb := DistReference.sum_abs (DistReference.qword (queries m c) a) fun w => k1_pay2 (F := Ideal) (grid1.coords t)
    (DistIdealCallBody.docsBlk (DistIdealBody.entry m) c t fun _ => 0#32) (ix2 w l)
  refine (DistEncode.code_apply _ _ a l _ _ hp (DistEntry.pad_blk m c t l) ?_).trans (congrArg (IntOp.addi 1258291200#32) ?_)
  · rw [abs_le] at hb
    rw [abs_lt]
    split_ifs <;> constructor <;> linarith [hb.1, hb.2]
  · unfold DistReference.count DistReference.score
    by_cases h : t.val * 1024 + l.val < 150000
    · rw [dif_pos h, if_pos h]
      refine congrArg (fun n : ℤ => BitVec.ofInt 32 (n + 2048)) (Finset.sum_congr rfl fun w _ => ?_)
      rw [DistEntry.docs_blk, dif_pos h]
    · rw [dif_neg h, if_neg h, Finset.sum_eq_zero fun w _ => by rw [DistEntry.docs_blk, dif_neg h, DistWords.gain_zero]]
      rfl

/-- The packed words a point leaves, at an element. -/
theorem words_point (c : Dev nD) (t : Fin cfg1.N) (y : S128x4x8x128.Idx) (a l l' : Fin 1024) (ha : a.val = 8 * (y 0).val + (y 2).val)
    (hl : l.val = 256 * (y 1).val + (y 3).val) (hl' : l'.val = l.val + 128) :
    DistIdealCallBody.wordsAt (DistIdealBody.entry m) c t y
      = IntOp.addi (IntOp.addi (DistReference.count (queries m c) (docs m c) a (t.val * 1024 + l.val)) 1258291200#32)
          (IntOp.shli .host (DistReference.count (queries m c) (docs m c) a (t.val * 1024 + l'.val)) 16#32) := by
  rw [← DistWords.pack, ← code m c t a l, ← code m c t a l']
  exact DistEncode.words_apply _ _ _ _ y a l l' ha hl hl'

/-- The packed words a point leaves are the reference's. -/
theorem words_block (c : Dev nD) (t : Fin cfg1.N) (y : S128x4x8x128.Idx) (i : S128x588x8x128.Idx) (h0 : (i 0).val = (y 0).val)
    (h1 : (i 1).val = t.val * 4 + (y 1).val) (h2 : (i 2).val = (y 2).val) (h3 : (i 3).val = (y 3).val) :
    DistIdealCallBody.wordsAt (DistIdealBody.entry m) c t y = DistReferenceIdeal.Read.val_main_v41 (F := Ideal) (queries m c) (docs m c) i := by
  have y0 : (y 0).val < 128 := (y 0).isLt
  have y1 : (y 1).val < 4 := (y 1).isLt
  have y2 : (y 2).val < 8 := (y 2).isLt
  have y3 : (y 3).val < 128 := (y 3).isLt
  rw [words_point m c t y ⟨8 * (y 0).val + (y 2).val, by omega⟩ ⟨256 * (y 1).val + (y 3).val, by omega⟩
    ⟨256 * (y 1).val + (y 3).val + 128, by omega⟩ rfl rfl rfl]
  dsimp only
  rw [show t.val * 1024 + (256 * (y 1).val + (y 3).val + 128) = t.val * 1024 + (256 * (y 1).val + (y 3).val) + 128 by omega]
  exact (DistReference.result_apply (queries m c) (docs m c) i ⟨8 * (y 0).val + (y 2).val, by omega⟩ _
    (by dsimp only; omega) (by omega)).symm

/-- The packed words' array after the run. -/
theorem words (c : Dev nD) : (DistIdealCallBody.dat1 (DistIdealBody.entry m) c).arrAt 3 cfg1.N
    = DistReferenceIdeal.Read.val_main_v41 (F := Ideal) (queries m c) (docs m c) := by
  refine (DistIdealCallBody.dat1 (DistIdealBody.entry m) c).arrAt_eq_of_covers 3 _ (by decide +kernel) (fun t hf y => ?_)
  blk_simp
  rw [DistIdealCallBody.after_3]
  refine words_block m c t y _ ?_ ?_ ?_ ?_
  · blk_simp [DistEntry.idx1 t] <;> rfl
  · blk_simp [DistEntry.idx1 t] <;> rfl
  · blk_simp [DistEntry.idx1 t] <;> rfl
  · blk_simp [DistEntry.idx1 t] <;> rfl

end Cert.DistValue

end
-- ==== Proof.DistGroup.lean ====
/-
  The group minima the distance program leaves are the reference's, on every argument.

  A group is four blocks of 1024 documents, so in each of the 128 lanes it is 32 documents 128 apart. A block's eight are compared as floats
  and the blocks' encoded minima as words; both orders are that of the counts. The last group has three blocks, and the reference's
  documents past them are padding, whose count is the largest there is.
-/
module

public import proofs.«01_k».proof.Proof.DistValue
public import proofs.«01_k».proof.Proof.DistLeast

@[expose] public section

set_option maxRecDepth 16384

noncomputable section

namespace Cert.DistGroup

open Cert.DistIdeal Cert.DistIdeal.Gen
open Idealize.ShloMosaic Idealize.ShloMosaic.TcCoe Idealize.SL.Sem
open Cert.DistEntry (queries docs)
open Cert.DistReference (number number_bound)
open Cert.DistLeast (Least least8 least8_spec)

variable (m : (ℓ : Loc nD τ sig) → Buf (Elt Ideal) ℓ)

/-- The float sum at a query and a document is the count above 2^23. -/
theorem sums (c : Dev nD) (t : Fin cfg1.N) (a l : Fin 1024) :
    (k1_pay13 (F := Ideal) (DistIdealCallBody.prod (grid1.coords t) (DistIdealCallBody.iblk1 (DistIdealBody.entry m) c 0 t)
        (DistIdealCallBody.docsBlk (DistIdealBody.entry m) c t fun _ => 0#32))
      (DistIdealCallBody.padRow (DistIdealCallBody.iblk1 (DistIdealBody.entry m) c 2 t)) (ix2 a l) : EReal)
    = (((8388608 + number (queries m c) (docs m c) a (t.val * 1024 + l.val) : ℤ) : ℝ) : EReal) := by
  have hp := DistProduct.prod_apply (grid1.coords t) (DistIdealCallBody.iblk1 (DistIdealBody.entry m) c 0 t)
    (DistIdealCallBody.docsBlk (DistIdealBody.entry m) c t fun _ => 0#32) a l (DistReference.qword (queries m c) a) fun k => DistEntry.query_blk m c t a k
  refine (DistLeast.sum_apply _ _ a l _ _ hp (DistEntry.pad_blk m c t l)).trans (congrArg (fun n : ℤ => (((8388608 + n : ℤ) : ℝ) : EReal)) ?_)
  unfold number DistReference.score
  by_cases h : t.val * 1024 + l.val < 150000
  · rw [dif_pos h, if_pos h]
    refine congrArg (fun n : ℤ => n + 2048) (Finset.sum_congr rfl fun w _ => ?_)
    rw [DistEntry.docs_blk, dif_pos h]
  · rw [dif_neg h, if_neg h, Finset.sum_eq_zero fun w _ => by rw [DistEntry.docs_blk, dif_neg h, DistWords.gain_zero]]
    rfl

/-- The counts of a query in one lane of a group. -/
def lane (c : Dev nD) (a : Fin 1024) (j l k : ℕ) : ℤ := number (queries m c) (docs m c) a ((j * 32 + k) * 128 + l)

theorem lane_bound (c : Dev nD) (a : Fin 1024) (j l k : ℕ) : 0 ≤ lane m c a j l k ∧ lane m c a j l k ≤ 10240 := number_bound _ _ _ _

/-- The least of a run of counts is within their bounds. -/
theorem least_bound (g : ℕ → ℤ) (hg : ∀ k, 0 ≤ g k ∧ g k ≤ 10240) (n : ℕ) (z : ℤ) (h : Least g n z) : 0 ≤ z ∧ z ≤ 10240 := by
  obtain ⟨⟨k, -, rfl⟩, -⟩ := h
  exact hg k

/-- A block's float sums are eight of its group's counts. -/
theorem block_sums (c : Dev nD) (t : Fin cfg1.N) (a : Fin 1024) (l k : ℕ) (h : k * 128 + l < 1024) :
    (k1_pay13 (F := Ideal) (DistIdealCallBody.prod (grid1.coords t) (DistIdealCallBody.iblk1 (DistIdealBody.entry m) c 0 t)
        (DistIdealCallBody.docsBlk (DistIdealBody.entry m) c t fun _ => 0#32))
      (DistIdealCallBody.padRow (DistIdealCallBody.iblk1 (DistIdealBody.entry m) c 2 t)) (ix2 a ⟨k * 128 + l, h⟩) : EReal)
    = (((8388608 + lane m c a (t.val / 4) l (8 * (t.val % 4) + k) : ℤ) : ℝ) : EReal) := by
  refine (sums m c t a _).trans (congrArg (fun n : ℕ => (((8388608 + number (queries m c) (docs m c) a n : ℤ) : ℝ) : EReal)) ?_)
  show t.val * 1024 + (k * 128 + l) = (t.val / 4 * 32 + (8 * (t.val % 4) + k)) * 128 + l
  omega

/-- A group's first point leaves the code of the least of the group's first eight counts. -/
theorem first_point (c : Dev nD) (t : Fin cfg1.N) (h4 : t.val % 4 = 0) (y : S128x1x8x128.Idx) (a : Fin 1024) (ha : a.val = 8 * (y 0).val + (y 2).val) :
    DistIdealCallBody.gminAt (DistIdealBody.entry m) c t.val t.isLt y
      = IntOp.addi 1258291200#32 (BitVec.ofInt 32 (least8 (lane m c a (t.val / 4) (y 3).val))) := by
  rw [DistIdealCallBody.gmin_first (DistIdealBody.entry m) c t (fun _ => 0#32) h4]
  refine DistLeast.first_apply _ _ _ _ y a (lane m c a (t.val / 4) (y 3).val) ha (lane_bound m c a _ _) fun k h => ?_
  have e := block_sums m c t a (y 3).val k h
  rw [h4, Nat.mul_zero, Nat.zero_add] at e
  exact e

/-- A later point leaves the smaller of what the one before left and the code of the least of its own eight counts. -/
theorem next_point (c : Dev nD) (t : Fin cfg1.N) (h4 : ¬ t.val % 4 = 0) (y : S128x1x8x128.Idx) (a : Fin 1024) (ha : a.val = 8 * (y 0).val + (y 2).val) :
    DistIdealCallBody.gminAt (DistIdealBody.entry m) c t.val t.isLt y
      = IntOp.minsi (DistIdealCallBody.gminAt (DistIdealBody.entry m) c (t.val - 1) (Nat.lt_of_le_of_lt (Nat.sub_le _ _) t.isLt) y)
          (IntOp.addi 1258291200#32 (BitVec.ofInt 32 (least8 fun k => lane m c a (t.val / 4) (y 3).val (8 * (t.val % 4) + k)))) := by
  rw [DistIdealCallBody.gmin_next (DistIdealBody.entry m) c t (fun _ => 0#32) h4]
  exact DistLeast.next_apply _ _ _ _ _ y a (fun k => lane m c a (t.val / 4) (y 3).val (8 * (t.val % 4) + k)) ha (fun k => lane_bound m c a _ _ _)
    fun k h => block_sums m c t a (y 3).val k h

/-- What a point leaves: the code of the least of the group's counts so far. -/
theorem group_point (c : Dev nD) (y : S128x1x8x128.Idx) (a : Fin 1024) (ha : a.val = 8 * (y 0).val + (y 2).val) (n : ℕ) (hn : n < cfg1.N) :
    ∃ z : ℤ, Least (lane m c a (n / 4) (y 3).val) (8 * (n % 4) + 8) z
      ∧ DistIdealCallBody.gminAt (DistIdealBody.entry m) c n hn y = IntOp.addi 1258291200#32 (BitVec.ofInt 32 z) := by
  induction n with
  | zero => exact ⟨_, least8_spec _, first_point m c ⟨0, hn⟩ rfl y a ha⟩
  | succ n ih =>
    by_cases h4 : (n + 1) % 4 = 0
    · rw [h4]
      exact ⟨_, least8_spec _, first_point m c ⟨n + 1, hn⟩ h4 y a ha⟩
    · obtain ⟨z, hz, e⟩ := ih (Nat.lt_of_succ_lt hn)
      rw [show n / 4 = (n + 1) / 4 by omega, show 8 * (n % 4) + 8 = 8 * ((n + 1) % 4) by omega] at hz
      have hw := least8_spec fun k => lane m c a ((n + 1) / 4) (y 3).val (8 * ((n + 1) % 4) + k)
      refine ⟨_, hz.append hw, ?_⟩
      rw [← DistLeast.minsi_code _ _ (least_bound _ (lane_bound m c a _ _) _ _ hz) (least_bound _ (fun k => lane_bound m c a _ _ _) _ _ hw), ← e]
      exact next_point m c ⟨n + 1, hn⟩ h4 y a ha

/-- What a group's last point leaves is the reference's. -/
theorem group_block (c : Dev nD) (t : Fin cfg1.N) (ht : t.val % 4 = 3 ∨ t.val = 146) (y : S128x1x8x128.Idx) (i : S128x37x8x128.Idx) (h0 : (i 0).val = (y 0).val)
    (h1 : (i 1).val = t.val / 4) (h2 : (i 2).val = (y 2).val) (h3 : (i 3).val = (y 3).val) :
    DistIdealCallBody.gminAt (DistIdealBody.entry m) c t.val t.isLt y = DistReferenceIdeal.Read.val_main_v42 (F := Ideal) (queries m c) (docs m c) i := by
  have y0 : (y 0).val < 128 := (y 0).isLt
  have y2 : (y 2).val < 8 := (y 2).isLt
  obtain ⟨z, hz, e⟩ := group_point m c y ⟨8 * (y 0).val + (y 2).val, by omega⟩ rfl t.val t.isLt
  rw [e]
  refine (DistReference.group_apply (queries m c) (docs m c) i ⟨8 * (y 0).val + (y 2).val, by omega⟩ z (by dsimp only; omega) ?_).symm
  rw [h1, h3]
  refine hz.extend (by omega) (fun k => (lane_bound m c _ _ _ k).2) fun k hk hk' => ?_
  unfold lane number
  exact dif_neg (by omega)

/-- Every group's block index. -/
theorem idx : ∀ t : Fin cfg1.N, win1_4.index t = ![0, t.val / 4, 0, 0] :=
  (by decide +kernel : ∀ t : Fin grid1.N, _)

/-- The group minima's array after the run. -/
theorem groups (c : Dev nD) : (DistIdealCallBody.dat1 (DistIdealBody.entry m) c).arrAt 4 cfg1.N
    = DistReferenceIdeal.Read.val_main_v42 (F := Ideal) (queries m c) (docs m c) := by
  refine (DistIdealCallBody.dat1 (DistIdealBody.entry m) c).arrAt_eq_of_covers 4 _ (by decide +kernel) (fun t hf y => ?_)
  blk_simp
  rw [DistIdealCallBody.after_4]
  refine group_block m c t ((DistIdealCallBody.flush_4 t).mp hf) y _ ?_ ?_ ?_ ?_
  · blk_simp [idx t] <;> rfl
  · blk_simp [idx t] <;> try omega
  · blk_simp [idx t] <;> rfl
  · blk_simp [idx t] <;> rfl

end Cert.DistGroup

end
-- ==== Proof.DistClaim.lean ====
/-
  The distances' value claim: the packed words and the group minima are the reference's on every argument.
-/
module

public import proofs.«01_k».proof.Defs
public import proofs.«01_k».proof.Proof.DistGroup
public import Idealize.ShloMosaic.Lib.Claim

@[expose] public section

set_option maxRecDepth 16384

noncomputable section

namespace Cert.DistClaim

open Idealize.ShloMosaic Idealize.ShloMosaic.TcCoe Idealize.SL.Sem

theorem algebraic : Cert.algebraic_DistIdeal_DistReferenceIdeal
    (hDistIdeal := DistIdeal.Gen.facts) (hDistReferenceIdeal := DistReferenceIdeal.Gen.facts) := by
  intro m g m' g' _ hargs
  refine ⟨fun c => DistReferenceIdeal.Read.val_main_v41 (F := Ideal) (DistEntry.queries m c) (DistEntry.docs m c),
    fun c => DistReferenceIdeal.Read.val_main_v42 (F := Ideal) (DistEntry.queries m c) (DistEntry.docs m c), ?_, ?_⟩
  · refine (θ_run DistIdeal.defs _ _).mono (fun r h c => ?_) (DistIdealBody.run_main m g)
    obtain ⟨⟨h0, h1⟩, h2, h3⟩ := h.1 c
    exact ⟨h2.trans (DistValue.words m c), h3.trans (DistGroup.groups m c), h0, h1⟩
  · refine (θ_run DistReferenceIdeal.defs _ _).mono (fun r h c => ?_) (DistReferenceIdeal.Value.run m' g')
    obtain ⟨h0, h1, h2, h3⟩ := h c
    obtain ⟨e0, e1⟩ := hargs c
    refine ⟨h0.trans ((DistReferenceIdeal.Read.val_main_v41_eq m' c).trans ?_), h1.trans ((DistReferenceIdeal.Read.val_main_v42_eq _ _).trans ?_), h2, h3⟩
    · rw [e0, e1]
    · rw [e0, e1]

end Cert.DistClaim

end
-- ==== Proof.lean ====
/- The proof of the certificate's claim. -/
module

public import proofs.«01_k».proof.Defs
public import proofs.«01_k».proof.Proof.Gen.Score
public import proofs.«01_k».proof.Proof.Gen.Score.Skeleton
public import proofs.«01_k».proof.Proof.Gen.Score.Launch
public import proofs.«01_k».proof.Proof.Gen.Score.Points
public import proofs.«01_k».proof.Proof.Gen.Score.Frame
public import proofs.«01_k».proof.Proof.Gen.ScoreIdeal
public import proofs.«01_k».proof.Proof.Gen.ScoreIdeal.Skeleton
public import proofs.«01_k».proof.Proof.Gen.ScoreIdeal.Launch
public import proofs.«01_k».proof.Proof.Gen.ScoreIdeal.Points
public import proofs.«01_k».proof.Proof.Gen.ScoreIdeal.Frame
public import proofs.«01_k».proof.Proof.Gen.ScoreReferenceIdeal
public import proofs.«01_k».proof.Proof.Gen.ScoreReferenceIdeal.Skeleton
public import proofs.«01_k».proof.Proof.Gen.ScoreReferenceIdeal.Launch
public import proofs.«01_k».proof.Proof.Gen.ScoreReferenceIdeal.Points
public import proofs.«01_k».proof.Proof.Gen.ScoreReferenceIdeal.Frame
public import proofs.«01_k».proof.Proof.Gen.ScoreReferenceIdeal.Run
public import proofs.«01_k».proof.Proof.Gen.ScoreReferenceIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Skeleton
public import proofs.«01_k».proof.Proof.Gen.PrepReferenceIdeal.Launch
public import proofs.«01_k».proof.Proof.Gen.PrepReferenceIdeal.Points
public import proofs.«01_k».proof.Proof.Gen.PrepReferenceIdeal.Frame
public import proofs.«01_k».proof.Proof.Gen.PrepReferenceIdeal.Run
public import proofs.«01_k».proof.Proof.Gen.PrepReferenceIdeal.Read
public import proofs.«01_k».proof.Proof.Gen.Dist
public import proofs.«01_k».proof.Proof.Gen.Dist.Skeleton
public import proofs.«01_k».proof.Proof.Gen.Dist.Launch
public import proofs.«01_k».proof.Proof.Gen.Dist.Points
public import proofs.«01_k».proof.Proof.Gen.Dist.Regions
public import proofs.«01_k».proof.Proof.Gen.DistIdeal
public import proofs.«01_k».proof.Proof.Gen.DistIdeal.Skeleton
public import proofs.«01_k».proof.Proof.Gen.DistIdeal.Launch
public import proofs.«01_k».proof.Proof.Gen.DistIdeal.Points
public import proofs.«01_k».proof.Proof.Gen.DistIdeal.Regions
public import proofs.«01_k».proof.Proof.Gen.DistReferenceIdeal
public import proofs.«01_k».proof.Proof.Gen.DistReferenceIdeal.Run
public import proofs.«01_k».proof.Proof.Gen.DistReferenceIdeal.Read
public import proofs.«01_k».proof.Proof.Gen.On_real_docs
public import proofs.«01_k».proof.Proof.ScoreBody
public import proofs.«01_k».proof.Proof.ScoreIdealBody
public import proofs.«01_k».proof.Proof.ScoreClaim
public import proofs.«01_k».proof.Proof.PrepClaim
public import proofs.«01_k».proof.Proof.DistBody
public import proofs.«01_k».proof.Proof.DistIdealBody
public import proofs.«01_k».proof.Proof.DistClaim
public import Idealize.ShloMosaic.Adequacy
public import Idealize.ShloMosaic.Init

@[expose] public section

noncomputable section

namespace Cert.Proof

open Idealize.ShloMosaic Idealize.ShloMosaic.TcCoe Idealize.SL.Sem

theorem claim : Cert.Claim :=
  ⟨Score.Gen.facts, ScoreIdeal.Gen.facts, ScoreReferenceIdeal.Gen.facts, Prep.Gen.facts, PrepIdeal.Gen.facts, PrepReferenceIdeal.Gen.facts, Dist.Gen.facts, DistIdeal.Gen.facts, DistReferenceIdeal.Gen.facts, On_real_docs.Gen.facts,
    fun m ρ _ => ScoreBody.frame m ρ,
    fun m ρ _ => ScoreIdealBody.frame m ρ,
    fun m ρ _ => ScoreReferenceIdeal.Gen.frame m ρ,
    fun m ρ _ => Prep.Gen.frame m ρ,
    fun m ρ _ => PrepIdeal.Gen.frame m ρ,
    fun m ρ _ => PrepReferenceIdeal.Gen.frame m ρ,
    fun m ρ _ => DistBody.frame m ρ,
    fun m ρ _ => DistIdealBody.frame m ρ,
    fun m ρ _ => (θ_run DistReferenceIdeal.defs _ _).mono (fun r h => ⟨fun c => (h c).2.2, Idealize.ShloMosaic.sem_eq_zero_of_no_sems (by decide) r.2⟩) (DistReferenceIdeal.Value.run m ρ),
    trivial,
    ScoreClaim.algebraic,
    trivial,
    PrepClaim.algebraic,
    trivial,
    DistClaim.algebraic⟩

end Cert.Proof
